-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite21 [hPre_finite21 : Cert.Pre_finite21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite21 [hPre_finite21 : Cert.Pre_finite21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Kernel21Ideal_pre_finite21 [hKernel21Ideal : Cert.Kernel21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite21 m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Reference21Ideal_pre_finite21 [hReference21Ideal : Cert.Reference21Ideal.Facts] [hPre_finite21 : Cert.Pre_finite21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v17) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_v52) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_v11) = v1 c
          ∧ r.2.mem ((c.tc : Thread Cert.Reference13Ideal.nD Cert.Reference13Ideal.τ).loc Cert.Reference13Ideal.main_v12) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v5) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_3)) (v3 : (c : Dev Cert.Kernel20Ideal.nD) → Buf (Elt Ideal) ((c.tc : Thread Cert.Kernel20Ideal.nD Cert.Kernel20Ideal.τ).loc Cert.Kernel20Ideal.main_v0_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_3) = v2 c
          ∧ r.2.mem ((c.tc : Thread Cert.Kernel20Ideal.nD Cert.Kernel20Ideal.τ).loc Cert.Kernel20Ideal.main_v0_4) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v100) = v0 c
          ∧ r.2.mem ((c.tc : Thread Cert.Reference20Ideal.nD Cert.Reference20Ideal.τ).loc Cert.Reference20Ideal.main_v77) = v1 c
          ∧ r.2.mem ((c.tc : Thread Cert.Reference20Ideal.nD Cert.Reference20Ideal.τ).loc Cert.Reference20Ideal.main_v99) = v2 c
          ∧ r.2.mem ((c.tc : Thread Cert.Reference20Ideal.nD Cert.Reference20Ideal.τ).loc Cert.Reference20Ideal.main_v76) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal_pre_finite21 [hKernel21Ideal : Cert.Kernel21Ideal.Facts] [hReference21Ideal : Cert.Reference21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite21 m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v0_1)) (v1 : (c : Dev Cert.Kernel21Ideal.nD) → Buf (Elt Ideal) ((c.tc : Thread Cert.Kernel21Ideal.nD Cert.Kernel21Ideal.τ).loc Cert.Kernel21Ideal.main_v0_2)) (v2 : (c : Dev Cert.Kernel21Ideal.nD) → Buf (Elt Ideal) ((c.tc : Thread Cert.Kernel21Ideal.nD Cert.Kernel21Ideal.τ).loc Cert.Kernel21Ideal.main_v0_3)) (v3 : (c : Dev Cert.Kernel21Ideal.nD) → Buf (Elt Ideal) ((c.tc : Thread Cert.Kernel21Ideal.nD Cert.Kernel21Ideal.τ).loc Cert.Kernel21Ideal.main_v0_4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_1) = v0 c
          ∧ r.2.mem ((c.tc : Thread Cert.Kernel21Ideal.nD Cert.Kernel21Ideal.τ).loc Cert.Kernel21Ideal.main_v0_2) = v1 c
          ∧ r.2.mem ((c.tc : Thread Cert.Kernel21Ideal.nD Cert.Kernel21Ideal.τ).loc Cert.Kernel21Ideal.main_v0_3) = v2 c
          ∧ r.2.mem ((c.tc : Thread Cert.Kernel21Ideal.nD Cert.Kernel21Ideal.τ).loc Cert.Kernel21Ideal.main_v0_4) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v37) = v0 c
          ∧ r.2.mem ((c.tc : Thread Cert.Reference21Ideal.nD Cert.Reference21Ideal.τ).loc Cert.Reference21Ideal.main_v35) = v1 c
          ∧ r.2.mem ((c.tc : Thread Cert.Reference21Ideal.nD Cert.Reference21Ideal.τ).loc Cert.Reference21Ideal.main_v50) = v2 c
          ∧ r.2.mem ((c.tc : Thread Cert.Reference21Ideal.nD Cert.Reference21Ideal.τ).loc Cert.Reference21Ideal.main_v47) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel14 : Cert.Kernel14.Facts) (hKernel14Ideal : Cert.Kernel14Ideal.Facts) (hReference14Ideal : Cert.Reference14Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite5 : Cert.Pre_finite5.Facts) (hPre_finite6 : Cert.Pre_finite6.Facts) (hPre_finite20 : Cert.Pre_finite20.Facts) (hPre_finite21 : Cert.Pre_finite21.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Kernel21Ideal_pre_finite21 (hKernel21Ideal := hKernel21Ideal) (hPre_finite21 := hPre_finite21)
    ∧ quiescent_Reference21Ideal (hReference21Ideal := hReference21Ideal)
    ∧ quiescent_Reference21Ideal_pre_finite21 (hReference21Ideal := hReference21Ideal) (hPre_finite21 := hPre_finite21)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
    ∧ preserves_Kernel14_Kernel14Ideal
    ∧ algebraic_Kernel14Ideal_Reference14Ideal (hKernel14Ideal := hKernel14Ideal) (hReference14Ideal := hReference14Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal_pre_finite21 (hKernel21Ideal := hKernel21Ideal) (hReference21Ideal := hReference21Ideal) (hPre_finite21 := hPre_finite21)
-- ==== Pre_finite.lean ====
abbrev S8256x2048 : Shape := ⟨2, ![8256, 2048]⟩
abbrev S5632x2048 : Shape := ⟨2, ![5632, 2048]⟩
abbrev S8256x5632 : Shape := ⟨2, ![8256, 5632]⟩
abbrev S_ : Shape := ⟨0, ![]⟩

class Facts : Prop where
  bitsLt_bf16_f32 : FTy.bits .bf16 < FTy.bits .f32
  bcast_S_S8256x2048 : S_.BroadcastsInDim S8256x2048 (![] : Fin 0 → Fin S8256x2048.rank)
  reducesTo_S8256x2048_S_d0_1 : S8256x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8256x5632 : S_.BroadcastsInDim S8256x5632 (![] : Fin 0 → Fin S8256x5632.rank)
  reducesTo_S8256x5632_S_d0_1 : S8256x5632.ReducesTo [0, 1] S_

variable [Facts]

def fn {F : FTy → Type} [FloatOps F] (main_arg0 : FVec F S8256x2048 .bf16) (main_arg1 : FVec F S5632x2048 .bf16) (main_arg2 : FVec F S8256x5632 .bf16) (main_arg3 : FVec F S8256x5632 .bf16) : IVec S_ 1 :=
  let main_v0 : FVec F S8256x2048 .f32 := (extf .f32 · bitsLt_bf16_f32) main_arg0
  let main_v1 : FVec F S8256x2048 .f32 := Host.absf main_v0
  let main_cst : FVec F S_ .f32 := constant S_ .f32 0x7F800000#32
  let main_v2 : FVec F S8256x2048 .f32 := broadcastInDim S8256x2048 ![] bcast_S_S8256x2048 main_cst
  let main_v3 : IVec S8256x2048 1 := cmpf .olt main_v1 main_v2
  let main_c : IVec S_ 1 := constantI S_ 1 1#1
  let main_v4 : IVec S_ 1 := (fun x v => Host.reduce IntOp.andi x v reducesTo_S8256x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S8256x5632 .f32 := (extf .f32 · bitsLt_bf16_f32) main_arg3
  let main_v12 : FVec F S8256x5632 .f32 := Host.absf main_v11
  let main_cst_2 : FVec F S_ .f32 := constant S_ .f32 0x7F800000#32
  let main_v13 : FVec F S8256x5632 .f32 := broadcastInDim S8256x5632 ![] bcast_S_S8256x5632 main_cst_2
  let main_v14 : IVec S8256x5632 1 := cmpf .olt main_v12 main_v13
  let main_c_3 : IVec S_ 1 := constantI S_ 1 1#1
  let main_v15 : IVec S_ 1 := (fun x v => Host.reduce IntOp.andi x v reducesTo_S8256x5632_S_d0_1 h_S_) main_v14 main_c_3
  let main_v16 : IVec S_ 1 := andi main_v10 main_v15
  main_v16
-- ==== Pre_finite20.lean ====
abbrev S8256x1024 : Shape := ⟨2, ![8256, 1024]⟩
abbrev S8256x7680 : Shape := ⟨2, ![8256, 7680]⟩
abbrev S1x128 : Shape := ⟨2, ![1, 128]⟩
abbrev S1x256 : Shape := ⟨2, ![1, 256]⟩
abbrev S8256x2048 : Shape := ⟨2, ![8256, 2048]⟩
abbrev S_ : Shape := ⟨0, ![]⟩

class Facts : Prop where
  bitsLt_bf16_f32 : FTy.bits .bf16 < FTy.bits .f32
  bcast_S_S8256x1024 : S_.BroadcastsInDim S8256x1024 (![] : Fin 0 → Fin S8256x1024.rank)
  reducesTo_S8256x1024_S_d0_1 : S8256x1024.ReducesTo [0, 1] S_
  h_S_ : 0 < S_.numel
  slices_S8256x7680_S8256x2048_0_0 : S8256x7680.Slices ![0, 0] S8256x2048
  bcast_S_S8256x2048 : S_.BroadcastsInDim S8256x2048 (![] : Fin 0 → Fin S8256x2048.rank)
  reducesTo_S8256x2048_S_d0_1 : S8256x2048.ReducesTo [0, 1] S_
  bcast_S_S1x128 : S_.BroadcastsInDim S1x128 (![] : Fin 0 → Fin S1x128.rank)
  reducesTo_S1x128_S_d0_1 : S1x128.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg3 : FVec F S1x128 .f32) (main_arg4 : FVec F S1x256 .f32) (main_arg5 : FVec F S8256x2048 .f32) (main_v17 : IVec S_ 1) : IVec S_ 1 :=
  let main_v18 : FVec F S1x128 .f32 := Host.absf main_arg3
  let main_cst_4 : FVec F S_ .f32 := constant S_ .f32 0x7F800000#32
  let main_v19 : FVec F S1x128 .f32 := broadcastInDim S1x128 ![] bcast_S_S1x128 main_cst_4
  let main_v20 : IVec S1x128 1 := cmpf .olt main_v18 main_v19
  let main_c_5 : IVec S_ 1 := constantI S_ 1 1#1
  let main_v21 : IVec S_ 1 := (fun x v => Host.reduce IntOp.andi x v reducesTo_S1x128_S_d0_1 h_S_) main_v20 main_c_5
  let main_v22 : IVec S_ 1 := andi main_v17 main_v21
  let main_v23 : FVec F S1x256 .f32 := Host.absf main_arg4
  let main_cst_6 : FVec F S_ .f32 := constant S_ .f32 0x7F800000#32
  let main_v24 : FVec F S1x256 .f32 := broadcastInDim S1x256 ![] bcast_S_S1x256 main_cst_6
  let main_v25 : IVec S1x256 1 := cmpf .olt main_v23 main_v24
  let main_c_7 : IVec S_ 1 := constantI S_ 1 1#1
  let main_v26 : IVec S_ 1 := (fun x v => Host.reduce IntOp.andi x v reducesTo_S1x256_S_d0_1 h_S_) main_v25 main_c_7
  let main_v27 : IVec S_ 1 := andi main_v22 main_v26
  let main_v28 : FVec F S8256x2048 .f32 := Host.absf main_arg5
  let main_cst_8 : FVec F S_ .f32 := constant S_ .f32 0x7F800000#32
  let main_v29 : FVec F S8256x2048 .f32 := broadcastInDim S8256x2048 ![] bcast_S_S8256x2048 main_cst_8
  let main_v30 : IVec S8256x2048 1 := cmpf .olt main_v28 main_v29
  let main_c_9 : IVec S_ 1 := constantI S_ 1 1#1
  let main_v31 : IVec S_ 1 := (fun x v => Host.reduce IntOp.andi x v reducesTo_S8256x2048_S_d0_1 h_S_) main_v30 main_c_9
  let main_v32 : IVec S_ 1 := andi main_v27 main_v31
  main_v32

def fn {F : FTy → Type} [FloatOps F] (main_arg0 : FVec F S8256x1024 .bf16) (main_arg1 : FVec F S8256x1024 .bf16) (main_arg2 : FVec F S8256x7680 .bf16) (main_arg3 : FVec F S1x128 .f32) (main_arg4 : FVec F S1x256 .f32) (main_arg5 : FVec F S8256x2048 .f32) : IVec S_ 1 :=
  let main_v0 : FVec F S8256x1024 .f32 := (extf .f32 · bitsLt_bf16_f32) main_arg0
  let main_v1 : FVec F S8256x1024 .f32 := Host.absf main_v0
  let main_cst : FVec F S_ .f32 := constant S_ .f32 0x7F800000#32
  let main_v2 : FVec F S8256x1024 .f32 := broadcastInDim S8256x1024 ![] bcast_S_S8256x1024 main_cst
  let main_v3 : IVec S8256x1024 1 := cmpf .olt main_v1 main_v2
  let main_c : IVec S_ 1 := constantI S_ 1 1#1
  let main_v4 : IVec S_ 1 := (fun x v => Host.reduce IntOp.andi x v reducesTo_S8256x1024_S_d0_1 h_S_) main_v3 main_c
  let main_v5 : FVec F S8256x1024 .f32 := (extf .f32 · bitsLt_bf16_f32) main_arg1
  let main_v6 : FVec F S8256x1024 .f32 := Host.absf main_v5
  let main_cst_0 : FVec F S_ .f32 := constant S_ .f32 0x7F800000#32
  let main_v7 : FVec F S8256x1024 .f32 := broadcastInDim S8256x1024 ![] bcast_S_S8256x1024 main_cst_0
  let main_v8 : IVec S8256x1024 1 := cmpf .olt main_v6 main_v7
  let main_c_1 : IVec S_ 1 := constantI S_ 1 1#1
  let main_v9 : IVec S_ 1 := (fun x v => Host.reduce IntOp.andi x v reducesTo_S8256x1024_S_d0_1 h_S_) main_v8 main_c_1
  let main_v10 : IVec S_ 1 := andi main_v4 main_v9
  let main_v11 : FVec F S8256x2048 .bf16 := (extractStridedSlice S8256x2048 ![0, 0] · slices_S8256x7680_S8256x2048_0_0) main_arg2
  let main_v12 : FVec F S8256x2048 .f32 := (extf .f32 · bitsLt_bf16_f32) main_v11
  let main_v13 : FVec F S8256x2048 .f32 := Host.absf main_v12
  let main_cst_2 : FVec F S_ .f32 := constant S_ .f32 0x7F800000#32
  let main_v14 : FVec F S8256x2048 .f32 := broadcastInDim S8256x2048 ![] bcast_S_S8256x2048 main_cst_2
  let main_v15 : IVec S8256x2048 1 := cmpf .olt main_v13 main_v14
  let main_c_3 : IVec S_ 1 := constantI S_ 1 1#1
  let main_v16 : IVec S_ 1 := (fun x v => Host.reduce IntOp.andi x v reducesTo_S8256x2048_S_d0_1 h_S_) main_v15 main_c_3
  let main_v17 : IVec S_ 1 := andi main_v10 main_v16
  fn_part1 (F := F) main_arg3 main_arg4 main_arg5 main_v17
-- ==== Pre_finite21.lean ====
abbrev S8256x128 : Shape := ⟨2, ![8256, 128]⟩
abbrev S128x512 : Shape := ⟨2, ![128, 512]⟩
abbrev S1x512 : Shape := ⟨2, ![1, 512]⟩
abbrev S1x128 : Shape := ⟨2, ![1, 128]⟩
abbrev S8x8256x128 : Shape := ⟨3, ![8, 8256, 128]⟩
abbrev S8256x512 : Shape := ⟨2, ![8256, 512]⟩
abbrev S8256x7680 : Shape := ⟨2, ![8256, 7680]⟩
abbrev S8208x128 : Shape := ⟨2, ![8208, 128]⟩
abbrev S_ : Shape := ⟨0, ![]⟩
abbrev S1x8 : Shape := ⟨2, ![1, 8]⟩
abbrev S8x8208x8 : Shape := ⟨3, ![8, 8208, 8]⟩

class Facts : Prop where
  slices_S8256x128_S8208x128_48_0 : S8256x128.Slices ![48, 0] S8208x128
  bcast_S_S8208x128 : S_.BroadcastsInDim S8208x128 (![] : Fin 0 → Fin S8208x128.rank)
  reducesTo_S8208x128_S_d0_1 : S8208x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  slices_S1x128_S1x8_0_0 : S1x128.Slices ![0, 0] S1x8
  bcast_S_S1x8 : S_.BroadcastsInDim S1x8 (![] : Fin 0 → Fin S1x8.rank)
  reducesTo_S1x8_S_d0_1 : S1x8.ReducesTo [0, 1] S_
  slices_S8x8256x128_S8x8208x8_0_48_0 : S8x8256x128.Slices ![0, 48, 0] S8x8208x8
  bcast_S_S8x8208x8 : S_.BroadcastsInDim S8x8208x8 (![] : Fin 0 → Fin S8x8208x8.rank)
  reducesTo_S8x8208x8_S_d0_1_2 : S8x8208x8.ReducesTo [0, 1, 2] S_

variable [Facts]

def fn_part1 {F : FTy → Type} [FloatOps F] (main_arg4 : FVec F S1x128 .f32) (main_arg5 : FVec F S8x8256x128 .f32) (main_v14 : IVec S_ 1) (main_v16 : FVec F S1x8 .f32) (main_cst_4 : FVec F S_ .f32) : IVec S_ 1 :=
  let main_v17 : FVec F S1x8 .f32 := broadcastInDim S1x8 ![] bcast_S_S1x8 main_cst_4
  let main_v18 : IVec S1x8 1 := cmpf .olt main_v16 main_v17
  let main_c_5 : IVec S_ 1 := constantI S_ 1 1#1
  let main_v19 : IVec S_ 1 := (fun x v => Host.reduce IntOp.andi x v reducesTo_S1x8_S_d0_1 h_S_) main_v18 main_c_5
  let main_v20 : IVec S_ 1 := andi main_v14 main_v19
  let main_v21 : FVec F S1x8 .f32 := (extractStridedSlice S1x8 ![0, 0] · slices_S1x128_S1x8_0_0) main_arg4
  let main_v22 : FVec F S1x8 .f32 := Host.absf main_v21
  let main_cst_6 : FVec F S_ .f32 := constant S_ .f32 0x7F800000#32
  let main_v23 : FVec F S1x8 .f32 := broadcastInDim S1x8 ![] bcast_S_S1x8 main_cst_6
  let main_v24 : IVec S1x8 1 := cmpf .olt main_v22 main_v23
  let main_c_7 : IVec S_ 1 := constantI S_ 1 1#1
  let main_v25 : IVec S_ 1 := (fun x v => Host.reduce IntOp.andi x v reducesTo_S1x8_S_d0_1 h_S_) main_v24 main_c_7
  let main_v26 : IVec S_ 1 := andi main_v20 main_v25
  let main_v27 : FVec F S8x8208x8 .f32 := (extractStridedSlice S8x8208x8 ![0, 48, 0] · slices_S8x8256x128_S8x8208x8_0_48_0) main_arg5
  let main_v28 : FVec F S8x8208x8 .f32 := Host.absf main_v27
  let main_cst_8 : FVec F S_ .f32 := constant S_ .f32 0x7F800000#32
  let main_v29 : FVec F S8x8208x8 .f32 := broadcastInDim S8x8208x8 ![] bcast_S_S8x8208x8 main_cst_8
  let main_v30 : IVec S8x8208x8 1 := cmpf .olt main_v28 main_v29
  let main_c_9 : IVec S_ 1 := constantI S_ 1 1#1
  let main_v31 : IVec S_ 1 := (fun x v => Host.reduce IntOp.andi x v reducesTo_S8x8208x8_S_d0_1_2 h_S_) main_v30 main_c_9
  let main_v32 : IVec S_ 1 := andi main_v26 main_v31
  main_v32

def fn {F : FTy → Type} [FloatOps F] (main_arg0 : FVec F S8256x128 .f32) (main_arg1 : FVec F S128x512 .f32) (main_arg2 : FVec F S1x512 .f32) (main_arg3 : FVec F S1x128 .f32) (main_arg4 : FVec F S1x128 .f32) (main_arg5 : FVec F S8x8256x128 .f32) (main_arg6 : FVec F S8256x512 .f32) (main_arg7 : FVec F S8256x7680 .bf16) : IVec S_ 1 :=
  let main_v0 : FVec F S8208x128 .f32 := (extractStridedSlice S8208x128 ![48, 0] · slices_S8256x128_S8208x128_48_0) main_arg0
  let main_v1 : FVec F S8208x128 .f32 := Host.absf main_v0
  let main_cst : FVec F S_ .f32 := constant S_ .f32 0x7F800000#32
  let main_v2 : FVec F S8208x128 .f32 := broadcastInDim S8208x128 ![] bcast_S_S8208x128 main_cst
  let main_v3 : IVec S8208x128 1 := cmpf .olt main_v1 main_v2
  let main_c : IVec S_ 1 := constantI S_ 1 1#1
  let main_v4 : IVec S_ 1 := (fun x v => Host.reduce IntOp.andi x v reducesTo_S8208x128_S_d0_1 h_S_) main_v3 main_c
  let main_v5 : FVec F S128x512 .f32 := Host.absf main_arg1
  let main_cst_0 : FVec F S_ .f32 := constant S_ .f32 0x7F800000#32
  let main_v6 : FVec F S128x512 .f32 := broadcastInDim S128x512 ![] bcast_S_S128x512 main_cst_0
  let main_v7 : IVec S128x512 1 := cmpf .olt main_v5 main_v6
  let main_c_1 : IVec S_ 1 := constantI S_ 1 1#1
  let main_v8 : IVec S_ 1 := (fun x v => Host.reduce IntOp.andi x v reducesTo_S128x512_S_d0_1 h_S_) main_v7 main_c_1
  let main_v9 : IVec S_ 1 := andi main_v4 main_v8
  let main_v10 : FVec F S1x512 .f32 := Host.absf main_arg2
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_c_3 : IVec S_ 1 := constantI S_ 1 1#1
  let main_v13 : IVec S_ 1 := (fun x v => Host.reduce IntOp.andi x v reducesTo_S1x512_S_d0_1 h_S_) main_v12 main_c_3
  let main_v14 : IVec S_ 1 := andi main_v9 main_v13
  let main_v15 : FVec F S1x8 .f32 := (extractStridedSlice S1x8 ![0, 0] · slices_S1x128_S1x8_0_0) main_arg3
  let main_v16 : FVec F S1x8 .f32 := Host.absf main_v15
  let main_cst_4 : FVec F S_ .f32 := constant S_ .f32 0x7F800000#32
  fn_part1 (F := F) main_arg4 main_arg5 main_v14 main_v16 main_cst_4
-- ==== Pre_finite5.lean ====
abbrev S8256x2048 : Shape := ⟨2, ![8256, 2048]⟩
abbrev S1x2048 : Shape := ⟨2, ![1, 2048]⟩
abbrev S_ : Shape := ⟨0, ![]⟩

class Facts : Prop where
  bcast_S_S8256x2048 : S_.BroadcastsInDim S8256x2048 (![] : Fin 0 → Fin S8256x2048.rank)
  reducesTo_S8256x2048_S_d0_1 : S8256x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S8256x2048 .f32) (main_arg1 : FVec F S1x2048 .f32) (main_arg2 : FVec F S8256x2048 .f32) (main_arg3 : FVec F S8256x2048 .f32) : IVec S_ 1 :=
  let main_v0 : FVec F S8256x2048 .f32 := Host.absf main_arg0
  let main_cst : FVec F S_ .f32 := constant S_ .f32 0x7F800000#32
  let main_v1 : FVec F S8256x2048 .f32 := broadcastInDim S8256x2048 ![] bcast_S_S8256x2048 main_cst
  let main_v2 : IVec S8256x2048 1 := cmpf .olt main_v0 main_v1
  let main_c : IVec S_ 1 := constantI S_ 1 1#1
  let main_v3 : IVec S_ 1 := (fun x v => Host.reduce IntOp.andi x v reducesTo_S8256x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S8256x2048 .f32 := Host.absf main_arg2
  let main_cst_2 : FVec F S_ .f32 := constant S_ .f32 0x7F800000#32
  let main_v10 : FVec F S8256x2048 .f32 := broadcastInDim S8256x2048 ![] bcast_S_S8256x2048 main_cst_2
  let main_v11 : IVec S8256x2048 1 := cmpf .olt main_v9 main_v10
  let main_c_3 : IVec S_ 1 := constantI S_ 1 1#1
  let main_v12 : IVec S_ 1 := (fun x v => Host.reduce IntOp.andi x v reducesTo_S8256x2048_S_d0_1 h_S_) main_v11 main_c_3
  let main_v13 : IVec S_ 1 := andi main_v8 main_v12
  main_v13
-- ==== Pre_finite6.lean ====
abbrev S8256x2048 : Shape := ⟨2, ![8256, 2048]⟩
abbrev S1x2048 : Shape := ⟨2, ![1, 2048]⟩
abbrev S8192x2048 : Shape := ⟨2, ![8192, 2048]⟩
abbrev S_ : Shape := ⟨0, ![]⟩

class Facts : Prop where
  bcast_S_S8256x2048 : S_.BroadcastsInDim S8256x2048 (![] : Fin 0 → Fin S8256x2048.rank)
  reducesTo_S8256x2048_S_d0_1 : S8256x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8256x2048 .f32) (main_arg1 : FVec F S1x2048 .f32) (main_arg2 : FVec F S8192x2048 .f32) : IVec S_ 1 :=
  let main_v0 : FVec F S8256x2048 .f32 := Host.absf main_arg0
  let main_cst : FVec F S_ .f32 := constant S_ .f32 0x7F800000#32
  let main_v1 : FVec F S8256x2048 .f32 := broadcastInDim S8256x2048 ![] bcast_S_S8256x2048 main_cst
  let main_v2 : IVec S8256x2048 1 := cmpf .olt main_v0 main_v1
  let main_c : IVec S_ 1 := constantI S_ 1 1#1
  let main_v3 : IVec S_ 1 := (fun x v => Host.reduce IntOp.andi x v reducesTo_S8256x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Kernel.lean ====
abbrev S8256x2048 : Shape := ⟨2, ![8256, 2048]⟩
abbrev S5632x2048 : Shape := ⟨2, ![5632, 2048]⟩
abbrev S8256x5632 : Shape := ⟨2, ![8256, 5632]⟩
abbrev S1376x2048 : Shape := ⟨2, ![1376, 2048]⟩
abbrev S512x2048 : Shape := ⟨2, ![512, 2048]⟩
abbrev S1376x512 : Shape := ⟨2, ![1376, 512]⟩
abbrev S688x2048 : Shape := ⟨2, ![688, 2048]⟩
abbrev S688x512 : Shape := ⟨2, ![688, 512]⟩

abbrev nBuf : Space → Nat
  | .hbm => 6
  | .vmem => 12
  | .smem => 0
  | _ => 0

abbrev bufTy : (tb : Table) → Fin (tcTables nBuf tb) → BufTy
  | .hbm, ⟨0, _⟩ => ⟨S8256x2048, .bf16⟩
  | .hbm, ⟨1, _⟩ => ⟨S5632x2048, .bf16⟩
  | .hbm, ⟨2, _⟩ => ⟨S8256x5632, .bf16⟩
  | .hbm, ⟨3, _⟩ => ⟨S8256x5632, .bf16⟩
  | .hbm, ⟨4, _⟩ => ⟨S8256x5632, .bf16⟩
  | .hbm, ⟨5, _⟩ => ⟨S8256x5632, .bf16⟩
  | .local _ .vmem, ⟨0, _⟩ => ⟨S1376x2048, .bf16⟩
  | .local _ .vmem, ⟨1, _⟩ => ⟨S1376x2048, .bf16⟩
  | .local _ .vmem, ⟨2, _⟩ => ⟨S512x2048, .bf16⟩
  | .local _ .vmem, ⟨3, _⟩ => ⟨S512x2048, .bf16⟩
  | .local _ .vmem, ⟨4, _⟩ => ⟨S1376x512, .bf16⟩
  | .local _ .vmem, ⟨5, _⟩ => ⟨S1376x512, .bf16⟩
  | .local _ .vmem, ⟨6, _⟩ => ⟨S1376x512, .bf16⟩
  | .local _ .vmem, ⟨7, _⟩ => ⟨S1376x512, .bf16⟩
  | .local _ .vmem, ⟨8, _⟩ => ⟨S1376x512, .bf16⟩
  | .local _ .vmem, ⟨9, _⟩ => ⟨S1376x512, .bf16⟩
  | .local _ .vmem, ⟨10, _⟩ => ⟨S1376x512, .bf16⟩
  | .local _ .vmem, ⟨11, _⟩ => ⟨S1376x512, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1376x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1376x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1376x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8256x2048 : Shape := ⟨2, ![8256, 2048]⟩
abbrev S5632x2048 : Shape := ⟨2, ![5632, 2048]⟩
abbrev S8256x5632 : Shape := ⟨2, ![8256, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S5632x2048, .bf16⟩
  | .hbm, ⟨2, _⟩ => ⟨S8256x5632, .bf16⟩
  | .hbm, ⟨3, _⟩ => ⟨S8256x5632, .bf16⟩
  | .hbm, ⟨4, _⟩ => ⟨S5632x2048, .f32⟩
  | .hbm, ⟨5, _⟩ => ⟨S8256x5632, .f32⟩
  | .hbm, ⟨6, _⟩ => ⟨S8256x5632, .f32⟩
  | .hbm, ⟨7, _⟩ => ⟨S8256x5632, .f32⟩
  | .hbm, ⟨8, _⟩ => ⟨S8256x5632, .f32⟩
  | .hbm, ⟨9, _⟩ => ⟨S_, .f32⟩
  | .hbm, ⟨10, _⟩ => ⟨S8256x5632, .f32⟩
  | .hbm, ⟨11, _⟩ => ⟨S8256x5632, .f32⟩
  | .hbm, ⟨12, _⟩ => ⟨S_, .f32⟩
  | .hbm, ⟨13, _⟩ => ⟨S8256x5632, .f32⟩
  | .hbm, ⟨14, _⟩ => ⟨S8256x5632, .f32⟩
  | .hbm, ⟨15, _⟩ => ⟨S_, .f32⟩
  | .hbm, ⟨16, _⟩ => ⟨S8256x5632, .f32⟩
  | .hbm, ⟨17, _⟩ => ⟨S8256x5632, .f32⟩
  | .hbm, ⟨18, _⟩ => ⟨S8256x5632, .f32⟩
  | .hbm, ⟨19, _⟩ => ⟨S8256x5632, .f32⟩
  | .hbm, ⟨20, _⟩ => ⟨S8256x5632, .f32⟩
  | .hbm, ⟨21, _⟩ => ⟨S8256x2048, .f32⟩
  | .hbm, ⟨22, _⟩ => ⟨S8256x2048, .f32⟩
  | .hbm, ⟨23, _⟩ => ⟨S8256x5632, .f32⟩
  | .hbm, ⟨24, _⟩ => ⟨S8256x5632, .f32⟩
  | .hbm, ⟨25, _⟩ => ⟨S8256x5632, .f32⟩
  | .hbm, ⟨26, _⟩ => ⟨S8256x5632, .f32⟩
  | .hbm, ⟨27, _⟩ => ⟨S8256x5632, .f32⟩
  | .hbm, ⟨28, _⟩ => ⟨S8256x5632, .f32⟩
  | .hbm, ⟨29, _⟩ => ⟨S8256x5632, .f32⟩
  | .hbm, ⟨30, _⟩ => ⟨S8256x5632, .bf16⟩
  | .hbm, ⟨31, _⟩ => ⟨S8256x5632, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel2.lean ====
abbrev S8256x7680 : Shape := ⟨2, ![8256, 7680]⟩
abbrev S8256x512 : Shape := ⟨2, ![8256, 512]⟩
abbrev S8256x1024 : Shape := ⟨2, ![8256, 1024]⟩
abbrev S4x129x4x256x128 : Shape := ⟨5, ![4, 129, 4, 256, 128]⟩
abbrev S64x512 : Shape := ⟨2, ![64, 512]⟩
abbrev S64x1024 : Shape := ⟨2, ![64, 1024]⟩
abbrev S4x1x4x256x128 : Shape := ⟨5, ![4, 1, 4, 256, 128]⟩
abbrev S64x2048 : Shape := ⟨2, ![64, 2048]⟩
abbrev S4x256x128 : Shape := ⟨3, ![4, 256, 128]⟩
abbrev S16x16 : Shape := ⟨2, ![16, 16]⟩
abbrev S16x128 : Shape := ⟨2, ![16, 128]⟩
abbrev S8x16 : Shape := ⟨2, ![8, 16]⟩
abbrev S8x128 : Shape := ⟨2, ![8, 128]⟩
abbrev S1x256x128 : Shape := ⟨3, ![1, 256, 128]⟩
abbrev S256x128 : Shape := ⟨2, ![256, 128]⟩
abbrev S16x256 : Shape := ⟨2, ![16, 256]⟩
abbrev S1x1x1x256x128 : Shape := ⟨5, ![1, 1, 1, 256, 128]⟩
abbrev S1x128 : Shape := ⟨2, ![1, 128]⟩
abbrev S128 : Shape := ⟨1, ![128]⟩
abbrev S8 : Shape := ⟨1, ![8]⟩
abbrev S8x1 : Shape := ⟨2, ![8, 1]⟩

abbrev nBuf : Space → Nat
  | .hbm => 7
  | .vmem => 17
  | .smem => 0
  | _ => 0

abbrev bufTy : (tb : Table) → Fin (tcTables nBuf tb) → BufTy
  | .hbm, ⟨0, _⟩ => ⟨S8256x7680, .bf16⟩
  | .hbm, ⟨1, _⟩ => ⟨S8256x512, .f32⟩
  | .hbm, ⟨2, _⟩ => ⟨S8256x1024, .f32⟩
  | .hbm, ⟨3, _⟩ => ⟨S4x129x4x256x128, .f32⟩
  | .hbm, ⟨4, _⟩ => ⟨S8256x7680, .bf16⟩
  | .hbm, ⟨5, _⟩ => ⟨S8256x7680, .bf16⟩
  | .hbm, ⟨6, _⟩ => ⟨S8256x512, .f32⟩
  | .local _ .vmem, ⟨0, _⟩ => ⟨S64x512, .bf16⟩
  | .local _ .vmem, ⟨1, _⟩ => ⟨S64x512, .bf16⟩
  | .local _ .vmem, ⟨2, _⟩ => ⟨S64x512, .bf16⟩
  | .local _ .vmem, ⟨3, _⟩ => ⟨S64x512, .bf16⟩
  | .local _ .vmem, ⟨4, _⟩ => ⟨S64x1024, .bf16⟩
  | .local _ .vmem, ⟨5, _⟩ => ⟨S64x1024, .bf16⟩
  | .local _ .vmem, ⟨6, _⟩ => ⟨S64x512, .f32⟩
  | .local _ .vmem, ⟨7, _⟩ => ⟨S64x512, .f32⟩
  | .local _ .vmem, ⟨8, _⟩ => ⟨S64x1024, .f32⟩
  | .local _ .vmem, ⟨9, _⟩ => ⟨S64x1024, .f32⟩
  | .local _ .vmem, ⟨10, _⟩ => ⟨S4x1x4x256x128, .f32⟩
  | .local _ .vmem, ⟨11, _⟩ => ⟨S4x1x4x256x128, .f32⟩
  | .local _ .vmem, ⟨12, _⟩ => ⟨S64x2048, .bf16⟩
  | .local _ .vmem, ⟨13, _⟩ => ⟨S64x2048, .bf16⟩
  | .local _ .vmem, ⟨14, _⟩ => ⟨S64x512, .f32⟩
  | .local _ .vmem, ⟨15, _⟩ => ⟨S64x512, .f32⟩
  | .local _ .vmem, ⟨16, _⟩ => ⟨S4x256x128, .f32⟩
  | _, _ => ⟨S8256x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c128_i32 : BitVec 32 := 128#32
  let v0 : BitVec 32 := Scalar.subi c128_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c128_i32 : BitVec 32 := 128#32
  let v0 : BitVec 32 := Scalar.subi c128_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c128_i32 : BitVec 32 := 128#32
  let v0 : BitVec 32 := Scalar.subi c128_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

def cc0_transform_5 (i : grid0.Coords) : Fin 5 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_7 (i : grid0.Coords) : Fin 2 → Nat :=
  let arg0 : BitVec 32 := BitVec.ofNat 32 (i 0).val
  let c128_i32 : BitVec 32 := 128#32
  let v0 : BitVec 32 := Scalar.subi c128_i32 arg0
  let c1_i32 : BitVec 32 := 1#32
  let c0_i32 : BitVec 32 := 0#32
  ![v0.toNat, c1_i32.toNat]

def cc0_transform_8 (i : grid0.Coords) : Fin 2 → Nat :=
  let arg0 : BitVec 32 := BitVec.ofNat 32 (i 0).val
  let c128_i32 : BitVec 32 := 128#32
  let v0 : BitVec 32 := Scalar.subi c128_i32 arg0
  let c0_i32 : BitVec 32 := 0#32
  let c0_i32_0 : BitVec 32 := 0#32
  ![v0.toNat, c0_i32.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3.lean ====
abbrev S8256x5632 : Shape := ⟨2, ![8256, 5632]⟩
abbrev S8256x2048 : Shape := ⟨2, ![8256, 2048]⟩
abbrev S5632x2048 : Shape := ⟨2, ![5632, 2048]⟩
abbrev S8256x512 : Shape := ⟨2, ![8256, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x5632, .bf16⟩
  | .hbm, ⟨1, _⟩ => ⟨S8256x2048, .bf16⟩
  | .hbm, ⟨2, _⟩ => ⟨S5632x2048, .bf16⟩
  | .local _ .vmem, ⟨0, _⟩ => ⟨S8256x512, .bf16⟩
  | .local _ .vmem, ⟨1, _⟩ => ⟨S8256x512, .bf16⟩
  | .local _ .vmem, ⟨2, _⟩ => ⟨S8256x512, .bf16⟩
  | .local _ .vmem, ⟨3, _⟩ => ⟨S8256x512, .bf16⟩
  | .local _ .vmem, ⟨4, _⟩ => ⟨S512x512, .bf16⟩
  | .local _ .vmem, ⟨5, _⟩ => ⟨S512x512, .bf16⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8256x5632 : Shape := ⟨2, ![8256, 5632]⟩
abbrev S8256x2048 : Shape := ⟨2, ![8256, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8256x5632, .bf16⟩
  | .hbm, ⟨1, _⟩ => ⟨S8256x2048, .bf16⟩
  | .hbm, ⟨2, _⟩ => ⟨S_, .f32⟩
  | .hbm, ⟨3, _⟩ => ⟨S5632x2048, .f32⟩
  | .hbm, ⟨4, _⟩ => ⟨S8256x5632, .f32⟩
  | .hbm, ⟨5, _⟩ => ⟨S8256x2048, .f32⟩
  | .hbm, ⟨6, _⟩ => ⟨S8256x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8256x5632 : Shape := ⟨2, ![8256, 5632]⟩
abbrev S5632x2048 : Shape := ⟨2, ![5632, 2048]⟩
abbrev S8256x2048 : Shape := ⟨2, ![8256, 2048]⟩
abbrev S688x5632 : Shape := ⟨2, ![688, 5632]⟩
abbrev S5632x256 : Shape := ⟨2, ![5632, 256]⟩
abbrev S688x256 : Shape := ⟨2, ![688, 256]⟩

abbrev nBuf : Space → Nat
  | .hbm => 5
  | .vmem => 10
  | .smem => 0
  | _ => 0

abbrev bufTy : (tb : Table) → Fin (tcTables nBuf tb) → BufTy
  | .hbm, ⟨0, _⟩ => ⟨S8256x5632, .bf16⟩
  | .hbm, ⟨1, _⟩ => ⟨S5632x2048, .bf16⟩
  | .hbm, ⟨2, _⟩ => ⟨S8256x5632, .bf16⟩
  | .hbm, ⟨3, _⟩ => ⟨S5632x2048, .bf16⟩
  | .hbm, ⟨4, _⟩ => ⟨S8256x2048, .f32⟩
  | .local _ .vmem, ⟨0, _⟩ => ⟨S688x5632, .bf16⟩
  | .local _ .vmem, ⟨1, _⟩ => ⟨S688x5632, .bf16⟩
  | .local _ .vmem, ⟨2, _⟩ => ⟨S5632x256, .bf16⟩
  | .local _ .vmem, ⟨3, _⟩ => ⟨S5632x256, .bf16⟩
  | .local _ .vmem, ⟨4, _⟩ => ⟨S688x5632, .bf16⟩
  | .local _ .vmem, ⟨5, _⟩ => ⟨S688x5632, .bf16⟩
  | .local _ .vmem, ⟨6, _⟩ => ⟨S5632x256, .bf16⟩
  | .local _ .vmem, ⟨7, _⟩ => ⟨S5632x256, .bf16⟩
  | .local _ .vmem, ⟨8, _⟩ => ⟨S688x256, .f32⟩
  | .local _ .vmem, ⟨9, _⟩ => ⟨S688x256, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S5632x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S688x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8256x5632 : Shape := ⟨2, ![8256, 5632]⟩
abbrev S5632x2048 : Shape := ⟨2, ![5632, 2048]⟩
abbrev S_ : Shape := ⟨0, ![]⟩
abbrev S8256x2048 : Shape := ⟨2, ![8256, 2048]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S8256x5632, .bf16⟩
  | .hbm, ⟨1, _⟩ => ⟨S5632x2048, .bf16⟩
  | .hbm, ⟨2, _⟩ => ⟨S8256x5632, .bf16⟩
  | .hbm, ⟨3, _⟩ => ⟨S5632x2048, .bf16⟩
  | .hbm, ⟨4, _⟩ => ⟨S5632x2048, .f32⟩
  | .hbm, ⟨5, _⟩ => ⟨S5632x2048, .f32⟩
  | .hbm, ⟨6, _⟩ => ⟨S_, .f32⟩
  | .hbm, ⟨7, _⟩ => ⟨S8256x2048, .f32⟩
  | .hbm, ⟨8, _⟩ => ⟨S2048x5632, .f32⟩
  | .hbm, ⟨9, _⟩ => ⟨S8256x5632, .f32⟩
  | .hbm, ⟨10, _⟩ => ⟨S2048x5632, .f32⟩
  | .hbm, ⟨11, _⟩ => ⟨S8256x5632, .f32⟩
  | .hbm, ⟨12, _⟩ => ⟨S8256x5632, .f32⟩
  | .hbm, ⟨13, _⟩ => ⟨S8256x5632, .f32⟩
  | .hbm, ⟨14, _⟩ => ⟨S8256x2048, .f32⟩
  | .hbm, ⟨15, _⟩ => ⟨S8256x2048, .f32⟩
  | .hbm, ⟨16, _⟩ => ⟨S8256x2048, .f32⟩
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel7.lean ====
abbrev S8256x2048 : Shape := ⟨2, ![8256, 2048]⟩
abbrev S2048x2048 : Shape := ⟨2, ![2048, 2048]⟩
abbrev S8256x512 : Shape := ⟨2, ![8256, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x2048, .bf16⟩
  | .hbm, ⟨1, _⟩ => ⟨S8256x2048, .bf16⟩
  | .hbm, ⟨2, _⟩ => ⟨S2048x2048, .bf16⟩
  | .local _ .vmem, ⟨0, _⟩ => ⟨S8256x512, .bf16⟩
  | .local _ .vmem, ⟨1, _⟩ => ⟨S8256x512, .bf16⟩
  | .local _ .vmem, ⟨2, _⟩ => ⟨S8256x512, .bf16⟩
  | .local _ .vmem, ⟨3, _⟩ => ⟨S8256x512, .bf16⟩
  | .local _ .vmem, ⟨4, _⟩ => ⟨S512x512, .bf16⟩
  | .local _ .vmem, ⟨5, _⟩ => ⟨S512x512, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8256x2048 : Shape := ⟨2, ![8256, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S8256x2048, .bf16⟩
  | .hbm, ⟨2, _⟩ => ⟨S_, .f32⟩
  | .hbm, ⟨3, _⟩ => ⟨S2048x2048, .f32⟩
  | .hbm, ⟨4, _⟩ => ⟨S8256x2048, .f32⟩
  | .hbm, ⟨5, _⟩ => ⟨S8256x2048, .f32⟩
  | .hbm, ⟨6, _⟩ => ⟨S8256x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8256x2048 : Shape := ⟨2, ![8256, 2048]⟩
abbrev S2048x2048 : Shape := ⟨2, ![2048, 2048]⟩
abbrev S1376x2048 : Shape := ⟨2, ![1376, 2048]⟩
abbrev S512x2048 : Shape := ⟨2, ![512, 2048]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x2048, .bf16⟩
  | .hbm, ⟨1, _⟩ => ⟨S2048x2048, .bf16⟩
  | .hbm, ⟨2, _⟩ => ⟨S8256x2048, .f32⟩
  | .local _ .vmem, ⟨0, _⟩ => ⟨S1376x2048, .bf16⟩
  | .local _ .vmem, ⟨1, _⟩ => ⟨S1376x2048, .bf16⟩
  | .local _ .vmem, ⟨2, _⟩ => ⟨S512x2048, .bf16⟩
  | .local _ .vmem, ⟨3, _⟩ => ⟨S512x2048, .bf16⟩
  | .local _ .vmem, ⟨4, _⟩ => ⟨S1376x512, .f32⟩
  | .local _ .vmem, ⟨5, _⟩ => ⟨S1376x512, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8256x2048 : Shape := ⟨2, ![8256, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S2048x2048, .bf16⟩
  | .hbm, ⟨2, _⟩ => ⟨S_, .f32⟩
  | .hbm, ⟨3, _⟩ => ⟨S8256x2048, .f32⟩
  | .hbm, ⟨4, _⟩ => ⟨S2048x2048, .f32⟩
  | .hbm, ⟨5, _⟩ => ⟨S8256x2048, .f32⟩
  | .hbm, ⟨6, _⟩ => ⟨S8256x2048, .f32⟩
  | .hbm, ⟨7, _⟩ => ⟨S8256x2048, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8256x7680 : Shape := ⟨2, ![8256, 7680]⟩
abbrev S8256x2048 : Shape := ⟨2, ![8256, 2048]⟩
abbrev S7680x2048 : Shape := ⟨2, ![7680, 2048]⟩
abbrev S8256x768 : Shape := ⟨2, ![8256, 768]⟩
abbrev S8256x512 : Shape := ⟨2, ![8256, 512]⟩
abbrev S768x512 : Shape := ⟨2, ![768, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x7680, .bf16⟩
  | .hbm, ⟨1, _⟩ => ⟨S8256x2048, .bf16⟩
  | .hbm, ⟨2, _⟩ => ⟨S7680x2048, .bf16⟩
  | .local _ .vmem, ⟨0, _⟩ => ⟨S8256x768, .bf16⟩
  | .local _ .vmem, ⟨1, _⟩ => ⟨S8256x768, .bf16⟩
  | .local _ .vmem, ⟨2, _⟩ => ⟨S8256x512, .bf16⟩
  | .local _ .vmem, ⟨3, _⟩ => ⟨S8256x512, .bf16⟩
  | .local _ .vmem, ⟨4, _⟩ => ⟨S768x512, .bf16⟩
  | .local _ .vmem, ⟨5, _⟩ => ⟨S768x512, .bf16⟩
  | _, _ => ⟨S8256x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8256x7680 : Shape := ⟨2, ![8256, 7680]⟩
abbrev S8256x2048 : Shape := ⟨2, ![8256, 2048]⟩
abbrev S_ : Shape := ⟨0, ![]⟩
abbrev S7680x2048 : Shape := ⟨2, ![7680, 2048]⟩
abbrev S2048x7680 : Shape := ⟨2, ![2048, 7680]⟩

abbrev nBuf : Space → Nat
  | .hbm => 12
  | .vmem => 0
  | .smem => 0
  | _ => 0

abbrev bufTy : (tb : Table) → Fin (tcTables nBuf tb) → BufTy
  | .hbm, ⟨0, _⟩ => ⟨S8256x7680, .bf16⟩
  | .hbm, ⟨1, _⟩ => ⟨S8256x2048, .bf16⟩
  | .hbm, ⟨2, _⟩ => ⟨S_, .f32⟩
  | .hbm, ⟨3, _⟩ => ⟨S7680x2048, .f32⟩
  | .hbm, ⟨4, _⟩ => ⟨S8256x2048, .f32⟩
  | .hbm, ⟨5, _⟩ => ⟨S2048x7680, .f32⟩
  | .hbm, ⟨6, _⟩ => ⟨S8256x7680, .f32⟩
  | .hbm, ⟨7, _⟩ => ⟨S8256x7680, .f32⟩
  | .hbm, ⟨8, _⟩ => ⟨S7680x2048, .f32⟩
  | .hbm, ⟨9, _⟩ => ⟨S2048x7680, .f32⟩
  | .hbm, ⟨10, _⟩ => ⟨S7680x2048, .f32⟩
  | .hbm, ⟨11, _⟩ => ⟨S7680x2048, .bf16⟩
  | _, _ => ⟨S8256x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8256x7680 : Shape := ⟨2, ![8256, 7680]⟩
abbrev S7680x2048 : Shape := ⟨2, ![7680, 2048]⟩
abbrev S8256x2048 : Shape := ⟨2, ![8256, 2048]⟩
abbrev S688x7680 : Shape := ⟨2, ![688, 7680]⟩
abbrev S7680x512 : Shape := ⟨2, ![7680, 512]⟩
abbrev S688x512 : Shape := ⟨2, ![688, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x7680, .bf16⟩
  | .hbm, ⟨1, _⟩ => ⟨S7680x2048, .bf16⟩
  | .hbm, ⟨2, _⟩ => ⟨S8256x2048, .f32⟩
  | .local _ .vmem, ⟨0, _⟩ => ⟨S688x7680, .bf16⟩
  | .local _ .vmem, ⟨1, _⟩ => ⟨S688x7680, .bf16⟩
  | .local _ .vmem, ⟨2, _⟩ => ⟨S7680x512, .bf16⟩
  | .local _ .vmem, ⟨3, _⟩ => ⟨S7680x512, .bf16⟩
  | .local _ .vmem, ⟨4, _⟩ => ⟨S688x512, .f32⟩
  | .local _ .vmem, ⟨5, _⟩ => ⟨S688x512, .f32⟩
  | _, _ => ⟨S8256x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S7680x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8256x7680 : Shape := ⟨2, ![8256, 7680]⟩
abbrev S7680x2048 : Shape := ⟨2, ![7680, 2048]⟩
abbrev S_ : Shape := ⟨0, ![]⟩
abbrev S8256x2048 : Shape := ⟨2, ![8256, 2048]⟩
abbrev S2048x7680 : Shape := ⟨2, ![2048, 7680]⟩

abbrev nBuf : Space → Nat
  | .hbm => 9
  | .vmem => 0
  | .smem => 0
  | _ => 0

abbrev bufTy : (tb : Table) → Fin (tcTables nBuf tb) → BufTy
  | .hbm, ⟨0, _⟩ => ⟨S8256x7680, .bf16⟩
  | .hbm, ⟨1, _⟩ => ⟨S7680x2048, .bf16⟩
  | .hbm, ⟨2, _⟩ => ⟨S_, .f32⟩
  | .hbm, ⟨3, _⟩ => ⟨S8256x2048, .f32⟩
  | .hbm, ⟨4, _⟩ => ⟨S7680x2048, .f32⟩
  | .hbm, ⟨5, _⟩ => ⟨S2048x7680, .f32⟩
  | .hbm, ⟨6, _⟩ => ⟨S8256x7680, .f32⟩
  | .hbm, ⟨7, _⟩ => ⟨S8256x7680, .f32⟩
  | .hbm, ⟨8, _⟩ => ⟨S8256x2048, .f32⟩
  | _, _ => ⟨S8256x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8256x2048 : Shape := ⟨2, ![8256, 2048]⟩
abbrev S1x2048 : Shape := ⟨2, ![1, 2048]⟩
abbrev S192x2048 : Shape := ⟨2, ![192, 2048]⟩
abbrev S8x2048 : Shape := ⟨2, ![8, 2048]⟩
abbrev S192 : Shape := ⟨1, ![192]⟩
abbrev S192x1 : Shape := ⟨2, ![192, 1]⟩
abbrev S24x8x2048 : Shape := ⟨3, ![24, 8, 2048]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S8256x2048, .f32⟩
  | .hbm, ⟨1, _⟩ => ⟨S1x2048, .f32⟩
  | .hbm, ⟨2, _⟩ => ⟨S8256x2048, .f32⟩
  | .hbm, ⟨3, _⟩ => ⟨S8256x2048, .f32⟩
  | .hbm, ⟨4, _⟩ => ⟨S8256x2048, .f32⟩
  | .hbm, ⟨5, _⟩ => ⟨S8256x2048, .bf16⟩
  | .hbm, ⟨6, _⟩ => ⟨S1x2048, .f32⟩
  | .local _ .vmem, ⟨0, _⟩ => ⟨S192x2048, .f32⟩
  | .local _ .vmem, ⟨1, _⟩ => ⟨S192x2048, .f32⟩
  | .local _ .vmem, ⟨2, _⟩ => ⟨S1x2048, .f32⟩
  | .local _ .vmem, ⟨3, _⟩ => ⟨S192x2048, .f32⟩
  | .local _ .vmem, ⟨4, _⟩ => ⟨S192x2048, .f32⟩
  | .local _ .vmem, ⟨5, _⟩ => ⟨S192x2048, .f32⟩
  | .local _ .vmem, ⟨6, _⟩ => ⟨S192x2048, .f32⟩
  | .local _ .vmem, ⟨7, _⟩ => ⟨S192x2048, .f32⟩
  | .local _ .vmem, ⟨8, _⟩ => ⟨S192x2048, .f32⟩
  | .local _ .vmem, ⟨9, _⟩ => ⟨S192x2048, .bf16⟩
  | .local _ .vmem, ⟨10, _⟩ => ⟨S192x2048, .bf16⟩
  | .local _ .vmem, ⟨11, _⟩ => ⟨S1x2048, .f32⟩
  | .local _ .vmem, ⟨12, _⟩ => ⟨S8x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![43], ![false]⟩

def k0_cond3 (i : grid0.Coords) : BitVec 1 :=
  let arg0 : BitVec 32 := BitVec.ofNat 32 (i 0).val
  let c42_i32 : BitVec 32 := 42#32
  let v39 : BitVec 1 := Scalar.cmpi .eq arg0 c42_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8256x2048 : Shape := ⟨2, ![8256, 2048]⟩
abbrev S1x2048 : Shape := ⟨2, ![1, 2048]⟩
abbrev S_ : Shape := ⟨0, ![]⟩
abbrev S8256 : Shape := ⟨1, ![8256]⟩
abbrev S8256x1 : Shape := ⟨2, ![8256, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S1x2048, .f32⟩
  | .hbm, ⟨2, _⟩ => ⟨S8256x2048, .f32⟩
  | .hbm, ⟨3, _⟩ => ⟨S8256x2048, .f32⟩
  | .hbm, ⟨4, _⟩ => ⟨S8256x2048, .f32⟩
  | .hbm, ⟨5, _⟩ => ⟨S_, .f32⟩
  | .hbm, ⟨6, _⟩ => ⟨S8256, .f32⟩
  | .hbm, ⟨7, _⟩ => ⟨S8256x1, .f32⟩
  | .hbm, ⟨8, _⟩ => ⟨S_, .f32⟩
  | .hbm, ⟨9, _⟩ => ⟨S8256x1, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S_, .f32⟩
  | .hbm, ⟨17, _⟩ => ⟨S8256x1, .f32⟩
  | .hbm, ⟨18, _⟩ => ⟨S8256x1, .f32⟩
  | .hbm, ⟨19, _⟩ => ⟨S8256x2048, .f32⟩
  | .hbm, ⟨20, _⟩ => ⟨S8256x2048, .f32⟩
  | .hbm, ⟨21, _⟩ => ⟨S8256x2048, .f32⟩
  | .hbm, ⟨22, _⟩ => ⟨S8256x2048, .f32⟩
  | .hbm, ⟨23, _⟩ => ⟨S8256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8256x2048, .f32⟩
  | .hbm, ⟨28, _⟩ => ⟨S8256x2048, .f32⟩
  | .hbm, ⟨29, _⟩ => ⟨S8256x2048, .f32⟩
  | .hbm, ⟨30, _⟩ => ⟨S_, .f32⟩
  | .hbm, ⟨31, _⟩ => ⟨S8256, .f32⟩
  | .hbm, ⟨32, _⟩ => ⟨S8256x1, .f32⟩
  | .hbm, ⟨33, _⟩ => ⟨S8256x2048, .f32⟩
  | .hbm, ⟨34, _⟩ => ⟨S8256x2048, .f32⟩
  | .hbm, ⟨35, _⟩ => ⟨S8256x2048, .f32⟩
  | .hbm, ⟨36, _⟩ => ⟨S8256x1, .f32⟩
  | .hbm, ⟨37, _⟩ => ⟨S_, .f32⟩
  | .hbm, ⟨38, _⟩ => ⟨S8256x1, .f32⟩
  | .hbm, ⟨39, _⟩ => ⟨S8256x1, .f32⟩
  | .hbm, ⟨40, _⟩ => ⟨S_, .f32⟩
  | .hbm, ⟨41, _⟩ => ⟨S8256, .f32⟩
  | .hbm, ⟨42, _⟩ => ⟨S8256x2048, .f32⟩
  | .hbm, ⟨43, _⟩ => ⟨S8256x2048, .f32⟩
  | .hbm, ⟨44, _⟩ => ⟨S8256x2048, .f32⟩
  | .hbm, ⟨45, _⟩ => ⟨S8256x2048, .f32⟩
  | .hbm, ⟨46, _⟩ => ⟨S8256x2048, .f32⟩
  | .hbm, ⟨47, _⟩ => ⟨S8256x2048, .bf16⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel6.lean ====
abbrev S8256x2048 : Shape := ⟨2, ![8256, 2048]⟩
abbrev S1x2048 : Shape := ⟨2, ![1, 2048]⟩
abbrev S8192x2048 : Shape := ⟨2, ![8192, 2048]⟩
abbrev S1x128 : Shape := ⟨2, ![1, 128]⟩
abbrev S192x2048 : Shape := ⟨2, ![192, 2048]⟩
abbrev S64x2048 : Shape := ⟨2, ![64, 2048]⟩
abbrev S8x2048 : Shape := ⟨2, ![8, 2048]⟩
abbrev S192x1 : Shape := ⟨2, ![192, 1]⟩
abbrev S192 : Shape := ⟨1, ![192]⟩
abbrev S24x8x2048 : Shape := ⟨3, ![24, 8, 2048]⟩
abbrev S2048 : Shape := ⟨1, ![2048]⟩
abbrev S1 : Shape := ⟨1, ![1]⟩
abbrev S1x1 : Shape := ⟨2, ![1, 1]⟩

abbrev nBuf : Space → Nat
  | .hbm => 7
  | .vmem => 17
  | .smem => 0
  | _ => 0

abbrev bufTy : (tb : Table) → Fin (tcTables nBuf tb) → BufTy
  | .hbm, ⟨0, _⟩ => ⟨S8256x2048, .f32⟩
  | .hbm, ⟨1, _⟩ => ⟨S1x2048, .f32⟩
  | .hbm, ⟨2, _⟩ => ⟨S8192x2048, .f32⟩
  | .hbm, ⟨3, _⟩ => ⟨S8256x2048, .f32⟩
  | .hbm, ⟨4, _⟩ => ⟨S8256x2048, .bf16⟩
  | .hbm, ⟨5, _⟩ => ⟨S1x2048, .f32⟩
  | .hbm, ⟨6, _⟩ => ⟨S1x128, .f32⟩
  | .local _ .vmem, ⟨0, _⟩ => ⟨S192x2048, .f32⟩
  | .local _ .vmem, ⟨1, _⟩ => ⟨S192x2048, .f32⟩
  | .local _ .vmem, ⟨2, _⟩ => ⟨S1x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S192x2048, .f32⟩
  | .local _ .vmem, ⟨10, _⟩ => ⟨S192x2048, .f32⟩
  | .local _ .vmem, ⟨11, _⟩ => ⟨S192x2048, .bf16⟩
  | .local _ .vmem, ⟨12, _⟩ => ⟨S192x2048, .bf16⟩
  | .local _ .vmem, ⟨13, _⟩ => ⟨S1x2048, .f32⟩
  | .local _ .vmem, ⟨14, _⟩ => ⟨S1x128, .f32⟩
  | .local _ .vmem, ⟨15, _⟩ => ⟨S8x2048, .f32⟩
  | .local _ .vmem, ⟨16, _⟩ => ⟨S8x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![43], ![false]⟩

def k0_cond3 (i : grid0.Coords) : BitVec 1 :=
  let arg0 : BitVec 32 := BitVec.ofNat 32 (i 0).val
  let c42_i32 : BitVec 32 := 42#32
  let v59 : BitVec 1 := Scalar.cmpi .eq arg0 c42_i32
  let v60 : BitVec 32 := Scalar.extui v59
  let c0_i32_26 : BitVec 32 := 0#32
  let v61 : BitVec 1 := Scalar.cmpi .ne v60 c0_i32_26
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8256x2048 : Shape := ⟨2, ![8256, 2048]⟩
abbrev S1x2048 : Shape := ⟨2, ![1, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S8256x2048, .f32⟩
  | .hbm, ⟨71, _⟩ => ⟨S8256x2048, .bf16⟩
  | .hbm, ⟨72, _⟩ => ⟨S1x128, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel11.lean ====
abbrev S8256x5632 : Shape := ⟨2, ![8256, 5632]⟩
abbrev S5632x2048 : Shape := ⟨2, ![5632, 2048]⟩
abbrev S8256x2048 : Shape := ⟨2, ![8256, 2048]⟩
abbrev S1376x5632 : Shape := ⟨2, ![1376, 5632]⟩
abbrev S5632x256 : Shape := ⟨2, ![5632, 256]⟩
abbrev S1376x256 : Shape := ⟨2, ![1376, 256]⟩

abbrev nBuf : Space → Nat
  | .hbm => 4
  | .vmem => 8
  | .smem => 0
  | _ => 0

abbrev bufTy : (tb : Table) → Fin (tcTables nBuf tb) → BufTy
  | .hbm, ⟨0, _⟩ => ⟨S8256x5632, .bf16⟩
  | .hbm, ⟨1, _⟩ => ⟨S5632x2048, .bf16⟩
  | .hbm, ⟨2, _⟩ => ⟨S8256x2048, .f32⟩
  | .hbm, ⟨3, _⟩ => ⟨S8256x2048, .f32⟩
  | .local _ .vmem, ⟨0, _⟩ => ⟨S1376x5632, .bf16⟩
  | .local _ .vmem, ⟨1, _⟩ => ⟨S1376x5632, .bf16⟩
  | .local _ .vmem, ⟨2, _⟩ => ⟨S5632x256, .bf16⟩
  | .local _ .vmem, ⟨3, _⟩ => ⟨S5632x256, .bf16⟩
  | .local _ .vmem, ⟨4, _⟩ => ⟨S1376x256, .f32⟩
  | .local _ .vmem, ⟨5, _⟩ => ⟨S1376x256, .f32⟩
  | .local _ .vmem, ⟨6, _⟩ => ⟨S1376x256, .f32⟩
  | .local _ .vmem, ⟨7, _⟩ => ⟨S1376x256, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1376x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8256x5632 : Shape := ⟨2, ![8256, 5632]⟩
abbrev S5632x2048 : Shape := ⟨2, ![5632, 2048]⟩
abbrev S8256x2048 : Shape := ⟨2, ![8256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8256x5632, .bf16⟩
  | .hbm, ⟨1, _⟩ => ⟨S5632x2048, .bf16⟩
  | .hbm, ⟨2, _⟩ => ⟨S8256x2048, .f32⟩
  | .hbm, ⟨3, _⟩ => ⟨S8256x5632, .f32⟩
  | .hbm, ⟨4, _⟩ => ⟨S5632x2048, .f32⟩
  | .hbm, ⟨5, _⟩ => ⟨S8256x2048, .f32⟩
  | .hbm, ⟨6, _⟩ => ⟨S8256x2048, .f32⟩
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8256x2048 : Shape := ⟨2, ![8256, 2048]⟩
abbrev S2048x2048 : Shape := ⟨2, ![2048, 2048]⟩
abbrev S1376x2048 : Shape := ⟨2, ![1376, 2048]⟩
abbrev S2048x512 : Shape := ⟨2, ![2048, 512]⟩
abbrev S1376x512 : Shape := ⟨2, ![1376, 512]⟩

abbrev nBuf : Space → Nat
  | .hbm => 4
  | .vmem => 8
  | .smem => 0
  | _ => 0

abbrev bufTy : (tb : Table) → Fin (tcTables nBuf tb) → BufTy
  | .hbm, ⟨0, _⟩ => ⟨S8256x2048, .bf16⟩
  | .hbm, ⟨1, _⟩ => ⟨S2048x2048, .bf16⟩
  | .hbm, ⟨2, _⟩ => ⟨S8256x2048, .f32⟩
  | .hbm, ⟨3, _⟩ => ⟨S8256x2048, .f32⟩
  | .local _ .vmem, ⟨0, _⟩ => ⟨S1376x2048, .bf16⟩
  | .local _ .vmem, ⟨1, _⟩ => ⟨S1376x2048, .bf16⟩
  | .local _ .vmem, ⟨2, _⟩ => ⟨S2048x512, .bf16⟩
  | .local _ .vmem, ⟨3, _⟩ => ⟨S2048x512, .bf16⟩
  | .local _ .vmem, ⟨4, _⟩ => ⟨S1376x512, .f32⟩
  | .local _ .vmem, ⟨5, _⟩ => ⟨S1376x512, .f32⟩
  | .local _ .vmem, ⟨6, _⟩ => ⟨S1376x512, .f32⟩
  | .local _ .vmem, ⟨7, _⟩ => ⟨S1376x512, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1376x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8256x2048 : Shape := ⟨2, ![8256, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S2048x2048, .bf16⟩
  | .hbm, ⟨2, _⟩ => ⟨S8256x2048, .f32⟩
  | .hbm, ⟨3, _⟩ => ⟨S8256x2048, .f32⟩
  | .hbm, ⟨4, _⟩ => ⟨S2048x2048, .f32⟩
  | .hbm, ⟨5, _⟩ => ⟨S8256x2048, .f32⟩
  | .hbm, ⟨6, _⟩ => ⟨S8256x2048, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8256x2048 : Shape := ⟨2, ![8256, 2048]⟩
abbrev S5632x2048 : Shape := ⟨2, ![5632, 2048]⟩
abbrev S8256x5632 : Shape := ⟨2, ![8256, 5632]⟩
abbrev S1376x2048 : Shape := ⟨2, ![1376, 2048]⟩
abbrev S512x2048 : Shape := ⟨2, ![512, 2048]⟩
abbrev S1376x512 : Shape := ⟨2, ![1376, 512]⟩
abbrev S688x2048 : Shape := ⟨2, ![688, 2048]⟩
abbrev S688x512 : Shape := ⟨2, ![688, 512]⟩

abbrev nBuf : Space → Nat
  | .hbm => 6
  | .vmem => 12
  | .smem => 0
  | _ => 0

abbrev bufTy : (tb : Table) → Fin (tcTables nBuf tb) → BufTy
  | .hbm, ⟨0, _⟩ => ⟨S8256x2048, .bf16⟩
  | .hbm, ⟨1, _⟩ => ⟨S5632x2048, .bf16⟩
  | .hbm, ⟨2, _⟩ => ⟨S5632x2048, .bf16⟩
  | .hbm, ⟨3, _⟩ => ⟨S8256x5632, .bf16⟩
  | .hbm, ⟨4, _⟩ => ⟨S8256x5632, .bf16⟩
  | .hbm, ⟨5, _⟩ => ⟨S8256x5632, .bf16⟩
  | .local _ .vmem, ⟨0, _⟩ => ⟨S1376x2048, .bf16⟩
  | .local _ .vmem, ⟨1, _⟩ => ⟨S1376x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1376x512, .bf16⟩
  | .local _ .vmem, ⟨7, _⟩ => ⟨S1376x512, .bf16⟩
  | .local _ .vmem, ⟨8, _⟩ => ⟨S1376x512, .bf16⟩
  | .local _ .vmem, ⟨9, _⟩ => ⟨S1376x512, .bf16⟩
  | .local _ .vmem, ⟨10, _⟩ => ⟨S1376x512, .bf16⟩
  | .local _ .vmem, ⟨11, _⟩ => ⟨S1376x512, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1376x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1376x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1376x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S8256x2048 : Shape := ⟨2, ![8256, 2048]⟩
abbrev S5632x2048 : Shape := ⟨2, ![5632, 2048]⟩
abbrev S2048x5632 : Shape := ⟨2, ![2048, 5632]⟩
abbrev S8256x5632 : Shape := ⟨2, ![8256, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S5632x2048, .bf16⟩
  | .hbm, ⟨2, _⟩ => ⟨S5632x2048, .bf16⟩
  | .hbm, ⟨3, _⟩ => ⟨S8256x2048, .f32⟩
  | .hbm, ⟨4, _⟩ => ⟨S5632x2048, .f32⟩
  | .hbm, ⟨5, _⟩ => ⟨S2048x5632, .f32⟩
  | .hbm, ⟨6, _⟩ => ⟨S8256x5632, .f32⟩
  | .hbm, ⟨7, _⟩ => ⟨S8256x2048, .f32⟩
  | .hbm, ⟨8, _⟩ => ⟨S5632x2048, .f32⟩
  | .hbm, ⟨9, _⟩ => ⟨S2048x5632, .f32⟩
  | .hbm, ⟨10, _⟩ => ⟨S8256x5632, .f32⟩
  | .hbm, ⟨11, _⟩ => ⟨S8256x5632, .f32⟩
  | .hbm, ⟨12, _⟩ => ⟨S8256x5632, .f32⟩
  | .hbm, ⟨13, _⟩ => ⟨S_, .f32⟩
  | .hbm, ⟨14, _⟩ => ⟨S8256x5632, .f32⟩
  | .hbm, ⟨15, _⟩ => ⟨S8256x5632, .f32⟩
  | .hbm, ⟨16, _⟩ => ⟨S_, .f32⟩
  | .hbm, ⟨17, _⟩ => ⟨S8256x5632, .f32⟩
  | .hbm, ⟨18, _⟩ => ⟨S8256x5632, .f32⟩
  | .hbm, ⟨19, _⟩ => ⟨S8256x5632, .f32⟩
  | .hbm, ⟨20, _⟩ => ⟨S8256x5632, .f32⟩
  | .hbm, ⟨21, _⟩ => ⟨S8256x5632, .bf16⟩
  | .hbm, ⟨22, _⟩ => ⟨S8256x5632, .bf16⟩
  | .hbm, ⟨23, _⟩ => ⟨S8256x5632, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel15.lean ====
abbrev S8256x2048 : Shape := ⟨2, ![8256, 2048]⟩
abbrev S7680x2048 : Shape := ⟨2, ![7680, 2048]⟩
abbrev S8256x7680 : Shape := ⟨2, ![8256, 7680]⟩
abbrev S8256x128 : Shape := ⟨2, ![8256, 128]⟩
abbrev S1376x2048 : Shape := ⟨2, ![1376, 2048]⟩
abbrev S512x2048 : Shape := ⟨2, ![512, 2048]⟩
abbrev S1376x512 : Shape := ⟨2, ![1376, 512]⟩
abbrev S1376x128 : Shape := ⟨2, ![1376, 128]⟩

abbrev nBuf : Space → Nat
  | .hbm => 4
  | .vmem => 8
  | .smem => 0
  | _ => 0

abbrev bufTy : (tb : Table) → Fin (tcTables nBuf tb) → BufTy
  | .hbm, ⟨0, _⟩ => ⟨S8256x2048, .bf16⟩
  | .hbm, ⟨1, _⟩ => ⟨S7680x2048, .bf16⟩
  | .hbm, ⟨2, _⟩ => ⟨S8256x7680, .bf16⟩
  | .hbm, ⟨3, _⟩ => ⟨S8256x128, .f32⟩
  | .local _ .vmem, ⟨0, _⟩ => ⟨S1376x2048, .bf16⟩
  | .local _ .vmem, ⟨1, _⟩ => ⟨S1376x2048, .bf16⟩
  | .local _ .vmem, ⟨2, _⟩ => ⟨S512x2048, .bf16⟩
  | .local _ .vmem, ⟨3, _⟩ => ⟨S512x2048, .bf16⟩
  | .local _ .vmem, ⟨4, _⟩ => ⟨S1376x512, .bf16⟩
  | .local _ .vmem, ⟨5, _⟩ => ⟨S1376x512, .bf16⟩
  | .local _ .vmem, ⟨6, _⟩ => ⟨S1376x128, .f32⟩
  | .local _ .vmem, ⟨7, _⟩ => ⟨S1376x128, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 15], ![false, false]⟩

def k0_cond1 (i : grid0.Coords) : BitVec 1 :=
  let arg1 : BitVec 32 := BitVec.ofNat 32 (i 1).val
  let c14_i32 : BitVec 32 := 14#32
  let v5 : BitVec 1 := Scalar.cmpi .eq arg1 c14_i32
  let v6 : BitVec 32 := Scalar.extui v5
  let c0_i32 : BitVec 32 := 0#32
  let v7 : BitVec 1 := Scalar.cmpi .ne v6 c0_i32
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1376x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference15Ideal.lean ====
abbrev S8256x2048 : Shape := ⟨2, ![8256, 2048]⟩
abbrev S7680x2048 : Shape := ⟨2, ![7680, 2048]⟩
abbrev S2048x7680 : Shape := ⟨2, ![2048, 7680]⟩
abbrev S8256x7680 : Shape := ⟨2, ![8256, 7680]⟩
abbrev S8256x128 : Shape := ⟨2, ![8256, 128]⟩

abbrev nBuf : Space → Nat
  | .hbm => 8
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S7680x2048, .bf16⟩
  | .hbm, ⟨2, _⟩ => ⟨S8256x2048, .f32⟩
  | .hbm, ⟨3, _⟩ => ⟨S7680x2048, .f32⟩
  | .hbm, ⟨4, _⟩ => ⟨S2048x7680, .f32⟩
  | .hbm, ⟨5, _⟩ => ⟨S8256x7680, .f32⟩
  | .hbm, ⟨6, _⟩ => ⟨S8256x7680, .bf16⟩
  | .hbm, ⟨7, _⟩ => ⟨S8256x128, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S8256x2048 : Shape := ⟨2, ![8256, 2048]⟩
abbrev S1x2048 : Shape := ⟨2, ![1, 2048]⟩
abbrev S688x2048 : Shape := ⟨2, ![688, 2048]⟩
abbrev S688 : Shape := ⟨1, ![688]⟩
abbrev S688x1 : Shape := ⟨2, ![688, 1]⟩

abbrev nBuf : Space → Nat
  | .hbm => 3
  | .vmem => 5
  | .smem => 0
  | _ => 0

abbrev bufTy : (tb : Table) → Fin (tcTables nBuf tb) → BufTy
  | .hbm, ⟨0, _⟩ => ⟨S8256x2048, .f32⟩
  | .hbm, ⟨1, _⟩ => ⟨S1x2048, .f32⟩
  | .hbm, ⟨2, _⟩ => ⟨S8256x2048, .bf16⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S688x2048, .bf16⟩
  | .local _ .vmem, ⟨4, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S8256x2048 : Shape := ⟨2, ![8256, 2048]⟩
abbrev S1x2048 : Shape := ⟨2, ![1, 2048]⟩
abbrev S_ : Shape := ⟨0, ![]⟩
abbrev S8256 : Shape := ⟨1, ![8256]⟩
abbrev S8256x1 : Shape := ⟨2, ![8256, 1]⟩

abbrev nBuf : Space → Nat
  | .hbm => 18
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S1x2048, .f32⟩
  | .hbm, ⟨2, _⟩ => ⟨S8256x2048, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1, .f32⟩
  | .hbm, ⟨13, _⟩ => ⟨S8256x2048, .f32⟩
  | .hbm, ⟨14, _⟩ => ⟨S8256x2048, .f32⟩
  | .hbm, ⟨15, _⟩ => ⟨S8256x2048, .f32⟩
  | .hbm, ⟨16, _⟩ => ⟨S8256x2048, .f32⟩
  | .hbm, ⟨17, _⟩ => ⟨S8256x2048, .bf16⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x900x2048 : Shape := ⟨3, ![8, 900, 2048]⟩
abbrev S900x2048 : Shape := ⟨2, ![900, 2048]⟩
abbrev S8x900x256 : Shape := ⟨3, ![8, 900, 256]⟩
abbrev S900x256 : Shape := ⟨2, ![900, 256]⟩
abbrev S1x900x256 : Shape := ⟨3, ![1, 900, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x900x2048, .bf16⟩
  | .hbm, ⟨1, _⟩ => ⟨S900x2048, .f32⟩
  | .hbm, ⟨2, _⟩ => ⟨S900x2048, .f32⟩
  | .hbm, ⟨3, _⟩ => ⟨S900x2048, .f32⟩
  | .hbm, ⟨4, _⟩ => ⟨S900x2048, .f32⟩
  | .hbm, ⟨5, _⟩ => ⟨S900x2048, .f32⟩
  | .hbm, ⟨6, _⟩ => ⟨S900x2048, .f32⟩
  | .hbm, ⟨7, _⟩ => ⟨S900x2048, .f32⟩
  | .local _ .vmem, ⟨0, _⟩ => ⟨S8x900x256, .bf16⟩
  | .local _ .vmem, ⟨1, _⟩ => ⟨S8x900x256, .bf16⟩
  | .local _ .vmem, ⟨2, _⟩ => ⟨S900x256, .f32⟩
  | .local _ .vmem, ⟨3, _⟩ => ⟨S900x256, .f32⟩
  | .local _ .vmem, ⟨4, _⟩ => ⟨S900x256, .f32⟩
  | .local _ .vmem, ⟨5, _⟩ => ⟨S900x256, .f32⟩
  | .local _ .vmem, ⟨6, _⟩ => ⟨S900x256, .f32⟩
  | .local _ .vmem, ⟨7, _⟩ => ⟨S900x256, .f32⟩
  | .local _ .vmem, ⟨8, _⟩ => ⟨S900x256, .f32⟩
  | .local _ .vmem, ⟨9, _⟩ => ⟨S900x256, .f32⟩
  | .local _ .vmem, ⟨10, _⟩ => ⟨S900x256, .f32⟩
  | .local _ .vmem, ⟨11, _⟩ => ⟨S900x256, .f32⟩
  | .local _ .vmem, ⟨12, _⟩ => ⟨S900x256, .f32⟩
  | .local _ .vmem, ⟨13, _⟩ => ⟨S900x256, .f32⟩
  | .local _ .vmem, ⟨14, _⟩ => ⟨S900x256, .f32⟩
  | .local _ .vmem, ⟨15, _⟩ => ⟨S900x256, .f32⟩
  | _, _ => ⟨S8x900x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x900x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S900x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S900x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S900x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S900x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S900x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S900x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S900x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S8x900x2048 : Shape := ⟨3, ![8, 900, 2048]⟩
abbrev S900x2048 : Shape := ⟨2, ![900, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x900x2048, .bf16⟩
  | .hbm, ⟨1, _⟩ => ⟨S900x2048, .f32⟩
  | .hbm, ⟨2, _⟩ => ⟨S900x2048, .f32⟩
  | .hbm, ⟨3, _⟩ => ⟨S900x2048, .f32⟩
  | .hbm, ⟨4, _⟩ => ⟨S8x900x2048, .f32⟩
  | .hbm, ⟨5, _⟩ => ⟨S_, .f32⟩
  | .hbm, ⟨6, _⟩ => ⟨S900x2048, .f32⟩
  | .hbm, ⟨7, _⟩ => ⟨S_, .f32⟩
  | .hbm, ⟨8, _⟩ => ⟨S900x2048, .f32⟩
  | .hbm, ⟨9, _⟩ => ⟨S900x2048, .f32⟩
  | .hbm, ⟨10, _⟩ => ⟨S_, .f32⟩
  | .hbm, ⟨11, _⟩ => ⟨S900x2048, .f32⟩
  | .hbm, ⟨12, _⟩ => ⟨S900x2048, .f32⟩
  | .hbm, ⟨13, _⟩ => ⟨S900x2048, .f32⟩
  | .hbm, ⟨14, _⟩ => ⟨S_, .f32⟩
  | .hbm, ⟨15, _⟩ => ⟨S900x2048, .f32⟩
  | .hbm, ⟨16, _⟩ => ⟨S900x2048, .f32⟩
  | .hbm, ⟨17, _⟩ => ⟨S900x2048, .f32⟩
  | .hbm, ⟨18, _⟩ => ⟨S_, .f32⟩
  | .hbm, ⟨19, _⟩ => ⟨S900x2048, .f32⟩
  | .hbm, ⟨20, _⟩ => ⟨S900x2048, .f32⟩
  | .hbm, ⟨21, _⟩ => ⟨S900x2048, .f32⟩
  | .hbm, ⟨22, _⟩ => ⟨S_, .f32⟩
  | .hbm, ⟨23, _⟩ => ⟨S900x2048, .f32⟩
  | .hbm, ⟨24, _⟩ => ⟨S900x2048, .f32⟩
  | .hbm, ⟨25, _⟩ => ⟨S_, .f32⟩
  | .hbm, ⟨26, _⟩ => ⟨S900x2048, .f32⟩
  | .hbm, ⟨27, _⟩ => ⟨S900x2048, .f32⟩
  | .hbm, ⟨28, _⟩ => ⟨S900x2048, .f32⟩
  | .hbm, ⟨29, _⟩ => ⟨S_, .f32⟩
  | .hbm, ⟨30, _⟩ => ⟨S900x2048, .f32⟩
  | .hbm, ⟨31, _⟩ => ⟨S900x2048, .f32⟩
  | .hbm, ⟨32, _⟩ => ⟨S900x2048, .f32⟩
  | .hbm, ⟨33, _⟩ => ⟨S_, .f32⟩
  | .hbm, ⟨34, _⟩ => ⟨S900x2048, .f32⟩
  | .hbm, ⟨35, _⟩ => ⟨S900x2048, .f32⟩
  | .hbm, ⟨36, _⟩ => ⟨S900x2048, .f32⟩
  | .hbm, ⟨37, _⟩ => ⟨S_, .f32⟩
  | .hbm, ⟨38, _⟩ => ⟨S900x2048, .f32⟩
  | .hbm, ⟨39, _⟩ => ⟨S900x2048, .f32⟩
  | _, _ => ⟨S8x900x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8256x1024 : Shape := ⟨2, ![8256, 1024]⟩
abbrev S8256x7680 : Shape := ⟨2, ![8256, 7680]⟩
abbrev S1x128 : Shape := ⟨2, ![1, 128]⟩
abbrev S1x256 : Shape := ⟨2, ![1, 256]⟩
abbrev S8256x2048 : Shape := ⟨2, ![8256, 2048]⟩
abbrev S192x1024 : Shape := ⟨2, ![192, 1024]⟩
abbrev S192x2048 : Shape := ⟨2, ![192, 2048]⟩
abbrev S192x128 : Shape := ⟨2, ![192, 128]⟩
abbrev S192 : Shape := ⟨1, ![192]⟩
abbrev S192x1 : Shape := ⟨2, ![192, 1]⟩
abbrev S128 : Shape := ⟨1, ![128]⟩
abbrev S192x256 : Shape := ⟨2, ![192, 256]⟩
abbrev S256 : Shape := ⟨1, ![256]⟩

abbrev nBuf : Space → Nat
  | .hbm => 11
  | .vmem => 20
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x7680, .bf16⟩
  | .hbm, ⟨3, _⟩ => ⟨S1x128, .f32⟩
  | .hbm, ⟨4, _⟩ => ⟨S1x256, .f32⟩
  | .hbm, ⟨5, _⟩ => ⟨S8256x2048, .f32⟩
  | .hbm, ⟨6, _⟩ => ⟨S8256x1024, .f32⟩
  | .hbm, ⟨7, _⟩ => ⟨S8256x1024, .f32⟩
  | .hbm, ⟨8, _⟩ => ⟨S8256x7680, .bf16⟩
  | .hbm, ⟨9, _⟩ => ⟨S1x128, .f32⟩
  | .hbm, ⟨10, _⟩ => ⟨S1x256, .f32⟩
  | .local _ .vmem, ⟨0, _⟩ => ⟨S192x1024, .bf16⟩
  | .local _ .vmem, ⟨1, _⟩ => ⟨S192x1024, .bf16⟩
  | .local _ .vmem, ⟨2, _⟩ => ⟨S192x1024, .bf16⟩
  | .local _ .vmem, ⟨3, _⟩ => ⟨S192x1024, .bf16⟩
  | .local _ .vmem, ⟨4, _⟩ => ⟨S192x1024, .bf16⟩
  | .local _ .vmem, ⟨5, _⟩ => ⟨S192x1024, .bf16⟩
  | .local _ .vmem, ⟨6, _⟩ => ⟨S192x1024, .bf16⟩
  | .local _ .vmem, ⟨7, _⟩ => ⟨S192x1024, .bf16⟩
  | .local _ .vmem, ⟨8, _⟩ => ⟨S1x128, .f32⟩
  | .local _ .vmem, ⟨9, _⟩ => ⟨S1x256, .f32⟩
  | .local _ .vmem, ⟨10, _⟩ => ⟨S192x2048, .f32⟩
  | .local _ .vmem, ⟨11, _⟩ => ⟨S192x2048, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | .local _ .vmem, ⟨16, _⟩ => ⟨S192x2048, .bf16⟩
  | .local _ .vmem, ⟨17, _⟩ => ⟨S192x2048, .bf16⟩
  | .local _ .vmem, ⟨18, _⟩ => ⟨S1x128, .f32⟩
  | .local _ .vmem, ⟨19, _⟩ => ⟨S1x256, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![43], ![false]⟩

def k0_cond1 (i : grid0.Coords) : BitVec 1 :=
  let arg0 : BitVec 32 := BitVec.ofNat 32 (i 0).val
  let c0_i32 : BitVec 32 := 0#32
  let v662 : BitVec 1 := Scalar.cmpi .eq arg0 c0_i32
  let v663 : BitVec 32 := Scalar.extui v662
  let c0_i32_289 : BitVec 32 := 0#32
  let v664 : BitVec 1 := Scalar.cmpi .ne v663 c0_i32_289
  v664

def k0_cond2 (i : grid0.Coords) : BitVec 1 :=
  let arg0 : BitVec 32 := BitVec.ofNat 32 (i 0).val
  let c0_i32_290 : BitVec 32 := 0#32
  let v665 : BitVec 1 := Scalar.cmpi .sgt arg0 c0_i32_290
  let v666 : BitVec 32 := Scalar.extui v665
  let c0_i32_291 : BitVec 32 := 0#32
  let v667 : BitVec 1 := Scalar.cmpi .ne v666 c0_i32_291
  v667

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S192x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference20Ideal.lean ====
abbrev S8256x1024 : Shape := ⟨2, ![8256, 1024]⟩
abbrev S8256x7680 : Shape := ⟨2, ![8256, 7680]⟩
abbrev S1x128 : Shape := ⟨2, ![1, 128]⟩
abbrev S1x256 : Shape := ⟨2, ![1, 256]⟩
abbrev S8256x2048 : Shape := ⟨2, ![8256, 2048]⟩
abbrev S8256x8x128 : Shape := ⟨3, ![8256, 8, 128]⟩
abbrev S8256x4x256 : Shape := ⟨3, ![8256, 4, 256]⟩
abbrev S128 : Shape := ⟨1, ![128]⟩
abbrev S_ : Shape := ⟨0, ![]⟩
abbrev S8256x8 : Shape := ⟨2, ![8256, 8]⟩
abbrev S8256x8x1 : Shape := ⟨3, ![8256, 8, 1]⟩
abbrev S1x1x128 : Shape := ⟨3, ![1, 1, 128]⟩
abbrev S256 : Shape := ⟨1, ![256]⟩
abbrev S8256x4 : Shape := ⟨2, ![8256, 4]⟩
abbrev S8256x4x1 : Shape := ⟨3, ![8256, 4, 1]⟩
abbrev S1x1x256 : Shape := ⟨3, ![1, 1, 256]⟩

abbrev nBuf : Space → Nat
  | .hbm => 141
  | .vmem => 0
  | .smem => 0
  | _ => 0

abbrev hbmTy0_0 (i : Nat) : BufTy := match i % 128 with
  | 0 => ⟨S8256x1024, .bf16⟩
  | 1 => ⟨S8256x1024, .bf16⟩
  | 2 => ⟨S8256x7680, .bf16⟩
  | 3 => ⟨S1x128, .f32⟩
  | 4 => ⟨S1x256, .f32⟩
  | 5 => ⟨S8256x2048, .f32⟩
  | 6 => ⟨S8256x1024, .f32⟩
  | 7 => ⟨S8256x1024, .f32⟩
  | 8 => ⟨S8256x1024, .bf16⟩
  | 9 => ⟨S8256x1024, .f32⟩
  | 10 => ⟨S8256x8x128, .f32⟩
  | 11 => ⟨S8256x1024, .bf16⟩
  | 12 => ⟨S8256x1024, .f32⟩
  | 13 => ⟨S8256x4x256, .f32⟩
  | 14 => ⟨S8256x8x128, .f32⟩
  | 15 => ⟨S128, .f32⟩
  | 16 => ⟨S8256x8x128, .f32⟩
  | 17 => ⟨S_, .f32⟩
  | 18 => ⟨S8256x8, .f32⟩
  | 19 => ⟨S8256x8x1, .f32⟩
  | 20 => ⟨S_, .f32⟩
  | 21 => ⟨S8256x8x1, .f32⟩
  | 22 => ⟨S8256x8x1, .f32⟩
  | 23 => ⟨S_, .f32⟩
  | 24 => ⟨S8256x8x1, .f32⟩
  | 25 => ⟨S8256x8x1, .f32⟩
  | 26 => ⟨S8256x8x1, .f32⟩
  | 27 => ⟨S8256x8x1, .f32⟩
  | 28 => ⟨S_, .f32⟩
  | 29 => ⟨S8256x8x1, .f32⟩
  | 30 => ⟨S8256x8x1, .f32⟩
  | 31 => ⟨S8256x8x128, .f32⟩
  | 32 => ⟨S8256x8x128, .f32⟩
  | 33 => ⟨S1x1x128, .f32⟩
  | 34 => ⟨S8256x8x128, .f32⟩
  | 35 => ⟨S8256x8x128, .f32⟩
  | 36 => ⟨S8256x8x128, .f32⟩
  | 37 => ⟨S8256x8x128, .f32⟩
  | 38 => ⟨S_, .f32⟩
  | 39 => ⟨S8256x8x128, .f32⟩
  | 40 => ⟨S8256x8x128, .f32⟩
  | 41 => ⟨S_, .f32⟩
  | 42 => ⟨S8256x8x128, .f32⟩
  | 43 => ⟨S8256x8x128, .f32⟩
  | 44 => ⟨S8256x8x128, .f32⟩
  | 45 => ⟨S8256x8x128, .f32⟩
  | 46 => ⟨S8256x4x256, .f32⟩
  | 47 => ⟨S256, .f32⟩
  | 48 => ⟨S8256x4x256, .f32⟩
  | 49 => ⟨S_, .f32⟩
  | 50 => ⟨S8256x4, .f32⟩
  | 51 => ⟨S8256x4x1, .f32⟩
  | 52 => ⟨S_, .f32⟩
  | 53 => ⟨S8256x4x1, .f32⟩
  | 54 => ⟨S8256x4x1, .f32⟩
  | 55 => ⟨S_, .f32⟩
  | 56 => ⟨S8256x4x1, .f32⟩
  | 57 => ⟨S8256x4x1, .f32⟩
  | 58 => ⟨S8256x4x1, .f32⟩
  | 59 => ⟨S8256x4x1, .f32⟩
  | 60 => ⟨S_, .f32⟩
  | 61 => ⟨S8256x4x1, .f32⟩
  | 62 => ⟨S8256x4x1, .f32⟩
  | 63 => ⟨S8256x4x256, .f32⟩
  | 64 => ⟨S8256x4x256, .f32⟩
  | 65 => ⟨S1x1x256, .f32⟩
  | 66 => ⟨S8256x4x256, .f32⟩
  | 67 => ⟨S8256x4x256, .f32⟩
  | 68 => ⟨S8256x4x256, .f32⟩
  | 69 => ⟨S8256x4x256, .f32⟩
  | 70 => ⟨S_, .f32⟩
  | 71 => ⟨S8256x4x256, .f32⟩
  | 72 => ⟨S8256x4x256, .f32⟩
  | 73 => ⟨S_, .f32⟩
  | 74 => ⟨S8256x4x256, .f32⟩
  | 75 => ⟨S8256x4x256, .f32⟩
  | 76 => ⟨S8256x4x256, .f32⟩
  | 77 => ⟨S8256x4x256, .f32⟩
  | 78 => ⟨S8256x1024, .f32⟩
  | 79 => ⟨S8256x1024, .f32⟩
  | 80 => ⟨S8256x2048, .f32⟩
  | 81 => ⟨S8256x1024, .f32⟩
  | 82 => ⟨S8256x1024, .f32⟩
  | 83 => ⟨S8256x4x256, .f32⟩
  | 84 => ⟨S8256x8x128, .f32⟩
  | 85 => ⟨S8256x4x256, .f32⟩
  | 86 => ⟨S8256x4x256, .f32⟩
  | 87 => ⟨S_, .f32⟩
  | 88 => ⟨S256, .f32⟩
  | 89 => ⟨S1x1x256, .f32⟩
  | 90 => ⟨S8256x4x256, .f32⟩
  | 91 => ⟨S8256x4x256, .f32⟩
  | 92 => ⟨S_, .f32⟩
  | 93 => ⟨S256, .f32⟩
  | 94 => ⟨S8256x4x256, .f32⟩
  | 95 => ⟨S_, .f32⟩
  | 96 => ⟨S8256x4, .f32⟩
  | 97 => ⟨S8256x4x1, .f32⟩
  | 98 => ⟨S8256x4x256, .f32⟩
  | 99 => ⟨S8256x4x256, .f32⟩
  | 100 => ⟨S8256x4x1, .f32⟩
  | 101 => ⟨S_, .f32⟩
  | 102 => ⟨S8256x4x1, .f32⟩
  | 103 => ⟨S8256x4x1, .f32⟩
  | 104 => ⟨S_, .f32⟩
  | 105 => ⟨S8256x4, .f32⟩
  | 106 => ⟨S8256x4x256, .f32⟩
  | 107 => ⟨S8256x4x256, .f32⟩
  | 108 => ⟨S8256x4x256, .f32⟩
  | 109 => ⟨S8256x4x256, .f32⟩
  | 110 => ⟨S8256x4x256, .f32⟩
  | 111 => ⟨S1x256, .f32⟩
  | 112 => ⟨S8256x1024, .f32⟩
  | 113 => ⟨S8256x8x128, .f32⟩
  | 114 => ⟨S8256x8x128, .f32⟩
  | 115 => ⟨S_, .f32⟩
  | 116 => ⟨S128, .f32⟩
  | 117 => ⟨S1x1x128, .f32⟩
  | 118 => ⟨S8256x8x128, .f32⟩
  | 119 => ⟨S8256x8x128, .f32⟩
  | 120 => ⟨S_, .f32⟩
  | 121 => ⟨S128, .f32⟩
  | 122 => ⟨S8256x8x128, .f32⟩
  | 123 => ⟨S_, .f32⟩
  | 124 => ⟨S8256x8, .f32⟩
  | 125 => ⟨S8256x8x1, .f32⟩
  | 126 => ⟨S8256x8x128, .f32⟩
  | 127 => ⟨S8256x8x128, .f32⟩
  | _ => ⟨S8256x1024, .bf16⟩

abbrev hbmTy0_1 (i : Nat) : BufTy := match i % 128 with
  | 0 => ⟨S8256x8x1, .f32⟩
  | 1 => ⟨S_, .f32⟩
  | 2 => ⟨S8256x8x1, .f32⟩
  | 3 => ⟨S8256x8x1, .f32⟩
  | 4 => ⟨S_, .f32⟩
  | 5 => ⟨S8256x8, .f32⟩
  | 6 => ⟨S8256x8x128, .f32⟩
  | 7 => ⟨S8256x8x128, .f32⟩
  | 8 => ⟨S8256x8x128, .f32⟩
  | 9 => ⟨S8256x8x128, .f32⟩
  | 10 => ⟨S8256x8x128, .f32⟩
  | 11 => ⟨S1x128, .f32⟩
  | 12 => ⟨S8256x1024, .f32⟩
  | _ => ⟨S8256x1024, .bf16⟩

abbrev hbmTy (i : Nat) : BufTy := match i / 128 with
  | 0 => hbmTy0_0 i
  | 1 => hbmTy0_1 i
  | _ => ⟨S8256x1024, .bf16⟩

abbrev bufTy : (tb : Table) → Fin (tcTables nBuf tb) → BufTy
  | .hbm, ⟨i, _⟩ => hbmTy i
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_10 : Ref sig .tc := ⟨.hbm, 101, rfl⟩
abbrev main_v68 : Ref sig .tc := ⟨.hbm, 102, rfl⟩
abbrev main_v69 : Ref sig .tc := ⟨.hbm, 103, rfl⟩
abbrev main_cst_11 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_12 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_13 : Ref sig .tc := ⟨.hbm, 120, rfl⟩
abbrev main_v84 : Ref sig .tc := ⟨.hbm, 121, rfl⟩
abbrev main_v85 : Ref sig .tc := ⟨.hbm, 122, rfl⟩
abbrev main_cst_14 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_15 : Ref sig .tc := ⟨.hbm, 129, rfl⟩
abbrev main_v91 : Ref sig .tc := ⟨.hbm, 130, rfl⟩
abbrev main_v92 : Ref sig .tc := ⟨.hbm, 131, rfl⟩
abbrev main_cst_16 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]
-- ==== Kernel21.lean ====
abbrev S8256x128 : Shape := ⟨2, ![8256, 128]⟩
abbrev S128x512 : Shape := ⟨2, ![128, 512]⟩
abbrev S1x512 : Shape := ⟨2, ![1, 512]⟩
abbrev S1x128 : Shape := ⟨2, ![1, 128]⟩
abbrev S8x8256x128 : Shape := ⟨3, ![8, 8256, 128]⟩
abbrev S8256x512 : Shape := ⟨2, ![8256, 512]⟩
abbrev S8256x7680 : Shape := ⟨2, ![8256, 7680]⟩
abbrev S688x128 : Shape := ⟨2, ![688, 128]⟩
abbrev S8x688x128 : Shape := ⟨3, ![8, 688, 128]⟩
abbrev S688x512 : Shape := ⟨2, ![688, 512]⟩
abbrev S688x1 : Shape := ⟨2, ![688, 1]⟩
abbrev S1x688x128 : Shape := ⟨3, ![1, 688, 128]⟩
abbrev S688x384 : Shape := ⟨2, ![688, 384]⟩
abbrev S128 : Shape := ⟨1, ![128]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S8256x128, .f32⟩
  | .hbm, ⟨1, _⟩ => ⟨S128x512, .f32⟩
  | .hbm, ⟨2, _⟩ => ⟨S1x512, .f32⟩
  | .hbm, ⟨3, _⟩ => ⟨S1x128, .f32⟩
  | .hbm, ⟨4, _⟩ => ⟨S1x128, .f32⟩
  | .hbm, ⟨5, _⟩ => ⟨S8x8256x128, .f32⟩
  | .hbm, ⟨6, _⟩ => ⟨S8256x512, .f32⟩
  | .hbm, ⟨7, _⟩ => ⟨S8256x7680, .bf16⟩
  | .hbm, ⟨8, _⟩ => ⟨S8256x7680, .bf16⟩
  | .hbm, ⟨9, _⟩ => ⟨S128x512, .f32⟩
  | .hbm, ⟨10, _⟩ => ⟨S1x512, .f32⟩
  | .hbm, ⟨11, _⟩ => ⟨S1x128, .f32⟩
  | .hbm, ⟨12, _⟩ => ⟨S1x128, .f32⟩
  | .local _ .vmem, ⟨0, _⟩ => ⟨S688x128, .f32⟩
  | .local _ .vmem, ⟨1, _⟩ => ⟨S688x128, .f32⟩
  | .local _ .vmem, ⟨2, _⟩ => ⟨S128x512, .f32⟩
  | .local _ .vmem, ⟨3, _⟩ => ⟨S1x512, .f32⟩
  | .local _ .vmem, ⟨4, _⟩ => ⟨S1x128, .f32⟩
  | .local _ .vmem, ⟨5, _⟩ => ⟨S1x128, .f32⟩
  | .local _ .vmem, ⟨6, _⟩ => ⟨S8x688x128, .f32⟩
  | .local _ .vmem, ⟨7, _⟩ => ⟨S8x688x128, .f32⟩
  | .local _ .vmem, ⟨8, _⟩ => ⟨S688x512, .f32⟩
  | .local _ .vmem, ⟨9, _⟩ => ⟨S688x512, .f32⟩
  | .local _ .vmem, ⟨10, _⟩ => ⟨S688x512, .bf16⟩
  | .local _ .vmem, ⟨11, _⟩ => ⟨S688x512, .bf16⟩
  | .local _ .vmem, ⟨12, _⟩ => ⟨S128x512, .f32⟩
  | .local _ .vmem, ⟨13, _⟩ => ⟨S1x512, .f32⟩
  | .local _ .vmem, ⟨14, _⟩ => ⟨S1x128, .f32⟩
  | .local _ .vmem, ⟨15, _⟩ => ⟨S1x128, .f32⟩
  | _, _ => ⟨S8256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v127 : BitVec 1 := Scalar.cmpi .eq arg0 c0_i32
  let v128 : BitVec 32 := Scalar.extui v127
  let c0_i32_59 : BitVec 32 := 0#32
  let v129 : BitVec 1 := Scalar.cmpi .ne v128 c0_i32_59
  v129

def k0_cond2 (i : grid0.Coords) : BitVec 1 :=
  let arg0 : BitVec 32 := BitVec.ofNat 32 (i 0).val
  let c0_i32_60 : BitVec 32 := 0#32
  let v130 : BitVec 1 := Scalar.cmpi .sgt arg0 c0_i32_60
  let v131 : BitVec 32 := Scalar.extui v130
  let c0_i32_61 : BitVec 32 := 0#32
  let v132 : BitVec 1 := Scalar.cmpi .ne v131 c0_i32_61
  v132

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x688x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference21Ideal.lean ====
abbrev S8256x128 : Shape := ⟨2, ![8256, 128]⟩
abbrev S128x512 : Shape := ⟨2, ![128, 512]⟩
abbrev S1x512 : Shape := ⟨2, ![1, 512]⟩
abbrev S1x128 : Shape := ⟨2, ![1, 128]⟩
abbrev S8x8256x128 : Shape := ⟨3, ![8, 8256, 128]⟩
abbrev S8256x512 : Shape := ⟨2, ![8256, 512]⟩
abbrev S8256x7680 : Shape := ⟨2, ![8256, 7680]⟩
abbrev S_ : Shape := ⟨0, ![]⟩
abbrev S8208x8 : Shape := ⟨2, ![8208, 8]⟩
abbrev S8208x128 : Shape := ⟨2, ![8208, 128]⟩
abbrev S1x8 : Shape := ⟨2, ![1, 8]⟩
abbrev S8208x512 : Shape := ⟨2, ![8208, 512]⟩
abbrev S512 : Shape := ⟨1, ![512]⟩
abbrev S512x128 : Shape := ⟨2, ![512, 128]⟩
abbrev S8 : Shape := ⟨1, ![8]⟩

abbrev nBuf : Space → Nat
  | .hbm => 69
  | .vmem => 0
  | .smem => 0
  | _ => 0

abbrev bufTy : (tb : Table) → Fin (tcTables nBuf tb) → BufTy
  | .hbm, ⟨0, _⟩ => ⟨S8256x128, .f32⟩
  | .hbm, ⟨1, _⟩ => ⟨S128x512, .f32⟩
  | .hbm, ⟨2, _⟩ => ⟨S1x512, .f32⟩
  | .hbm, ⟨3, _⟩ => ⟨S1x128, .f32⟩
  | .hbm, ⟨4, _⟩ => ⟨S1x128, .f32⟩
  | .hbm, ⟨5, _⟩ => ⟨S8x8256x128, .f32⟩
  | .hbm, ⟨6, _⟩ => ⟨S8256x512, .f32⟩
  | .hbm, ⟨7, _⟩ => ⟨S8256x7680, .bf16⟩
  | .hbm, ⟨8, _⟩ => ⟨S_, .f32⟩
  | .hbm, ⟨9, _⟩ => ⟨S8256x128, .f32⟩
  | .hbm, ⟨10, _⟩ => ⟨S8208x8, .f32⟩
  | .hbm, ⟨11, _⟩ => ⟨S8208x128, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S8208x8, .f32⟩
  | .hbm, ⟨16, _⟩ => ⟨S1x8, .f32⟩
  | .hbm, ⟨17, _⟩ => ⟨S8208x8, .f32⟩
  | .hbm, ⟨18, _⟩ => ⟨S8208x8, .f32⟩
  | .hbm, ⟨19, _⟩ => ⟨S8208x8, .f32⟩
  | .hbm, ⟨20, _⟩ => ⟨S8208x8, .f32⟩
  | .hbm, ⟨21, _⟩ => ⟨S_, .f32⟩
  | .hbm, ⟨22, _⟩ => ⟨S8208x8, .f32⟩
  | .hbm, ⟨23, _⟩ => ⟨S8208x8, .f32⟩
  | .hbm, ⟨24, _⟩ => ⟨S8208x8, .f32⟩
  | .hbm, ⟨25, _⟩ => ⟨S8208x8, .f32⟩
  | .hbm, ⟨26, _⟩ => ⟨S8208x512, .f32⟩
  | .hbm, ⟨27, _⟩ => ⟨S8208x512, .f32⟩
  | .hbm, ⟨28, _⟩ => ⟨S8208x512, .f32⟩
  | .hbm, ⟨29, _⟩ => ⟨S8208x512, .f32⟩
  | .hbm, ⟨30, _⟩ => ⟨S8208x512, .f32⟩
  | .hbm, ⟨31, _⟩ => ⟨S8208x512, .f32⟩
  | .hbm, ⟨32, _⟩ => ⟨S_, .f32⟩
  | .hbm, ⟨33, _⟩ => ⟨S8208x512, .f32⟩
  | .hbm, ⟨34, _⟩ => ⟨S8208x512, .f32⟩
  | .hbm, ⟨35, _⟩ => ⟨S8208x512, .f32⟩
  | .hbm, ⟨36, _⟩ => ⟨S_, .f32⟩
  | .hbm, ⟨37, _⟩ => ⟨S8208x512, .f32⟩
  | .hbm, ⟨38, _⟩ => ⟨S8208x512, .f32⟩
  | .hbm, ⟨39, _⟩ => ⟨S8208x512, .f32⟩
  | .hbm, ⟨40, _⟩ => ⟨S_, .f32⟩
  | .hbm, ⟨41, _⟩ => ⟨S8208x512, .f32⟩
  | .hbm, ⟨42, _⟩ => ⟨S8208x512, .f32⟩
  | .hbm, ⟨43, _⟩ => ⟨S8208x512, .f32⟩
  | .hbm, ⟨44, _⟩ => ⟨S8208x512, .f32⟩
  | .hbm, ⟨45, _⟩ => ⟨S8208x512, .f32⟩
  | .hbm, ⟨46, _⟩ => ⟨S8208x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S512x128, .f32⟩
  | .hbm, ⟨51, _⟩ => ⟨S128x512, .f32⟩
  | .hbm, ⟨52, _⟩ => ⟨S8208x8, .f32⟩
  | .hbm, ⟨53, _⟩ => ⟨S8208x8, .f32⟩
  | .hbm, ⟨54, _⟩ => ⟨S8208x8, .f32⟩
  | .hbm, ⟨55, _⟩ => ⟨S_, .f32⟩
  | .hbm, ⟨56, _⟩ => ⟨S8, .f32⟩
  | .hbm, ⟨57, _⟩ => ⟨S1x8, .f32⟩
  | .hbm, ⟨58, _⟩ => ⟨S8208x8, .f32⟩
  | .hbm, ⟨59, _⟩ => ⟨S8208x8, .f32⟩
  | .hbm, ⟨60, _⟩ => ⟨S_, .f32⟩
  | .hbm, ⟨61, _⟩ => ⟨S8, .f32⟩
  | .hbm, ⟨62, _⟩ => ⟨S1x8, .f32⟩
  | .hbm, ⟨63, _⟩ => ⟨S_, .f32⟩
  | .hbm, ⟨64, _⟩ => ⟨S1x128, .f32⟩
  | .hbm, ⟨65, _⟩ => ⟨S1x8, .f32⟩
  | .hbm, ⟨66, _⟩ => ⟨S1x8, .f32⟩
  | .hbm, ⟨67, _⟩ => ⟨S_, .f32⟩
  | .hbm, ⟨68, _⟩ => ⟨S1x128, .f32⟩
  | _, _ => ⟨S8256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.Swiglu.Scalar.lean ====
/-
  The scalar mathematics of the gated-unit gradient, over the extended reals.

  The kernel computes the logistic function as `1/2 * tanh (1/2 * x) + 1/2` and writes the derivative of
  `x * sigmoid x` as `s * (1 + x * (1 - s))`; the derivative of the plain forward line has
  `s = 1 / (1 + exp (- x))` and the sum `a * s + (x * a) * (s * (1 - s))`.  Both spellings agree at every gate,
  the two infinities included, as long as the cotangent `a` that enters is a real number.
-/
module

public import Idealize.ShloMosaic.PureOps.Ideal
public import Idealize.ShloMosaic.Lib.IdealHost
public import Mathlib.Analysis.SpecialFunctions.Trigonometric.DerivHyp
public import Mathlib.Data.EReal.Operations

@[expose] public section

namespace Cert.Swiglu

open Idealize.ShloMosaic

/-- The word of one half at f32. -/
theorem ofBits_half : Ideal.ofBits .f32 0x3F000000#32 = (((1 / 2 : ℝ)) : EReal) := by
  simp [Ideal.ofBits, Ideal.ieee, -EReal.coe_mul]
  norm_num

/-- The word of plus infinity at f32. -/
theorem ofBits_inf : Ideal.ofBits .f32 0x7F800000#32 = (⊤ : EReal) := by
  simp [Ideal.ofBits, Ideal.ieee]

/-- The logistic function as the kernel computes it. -/
noncomputable def sigTanh (x : EReal) : EReal :=
  Ideal.ofBits .f32 0x3F000000#32 * Ideal.tanh (Ideal.ofBits .f32 0x3F000000#32 * x) + Ideal.ofBits .f32 0x3F000000#32

/-- The logistic function as the forward line computes it. -/
noncomputable def sigExp (x : EReal) : EReal := Ideal.div 1 (1 + Ideal.exp (-x))

/-- Over the reals, half of `tanh` of the half, plus a half, is the logistic function. -/
theorem real_sig (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have h1 : Real.exp (1 / 2 * r) * Real.exp (-(1 / 2 * r)) = 1 := by rw [← Real.exp_add]; simp
  rw [Real.tanh_eq_sinh_div_cosh, Real.sinh_eq, Real.cosh_eq, e]
  have p := Real.exp_pos (1 / 2 * r)
  have q := Real.exp_pos (-(1 / 2 * r))
  generalize Real.exp (1 / 2 * r) = a at *
  generalize Real.exp (-(1 / 2 * r)) = b at *
  have ha : a = 1 / b := by field_simp; linarith
  subst ha
  field_simp
  ring

/-- Both spellings of the logistic function at a real number. -/
theorem sigExp_coe (r : ℝ) : sigExp r = (((1 + Real.exp (-r))⁻¹ : ℝ) : EReal) := by
  exact Ideal.logistic_coe r

theorem sigTanh_eq (x : EReal) : sigTanh x = sigExp x := by
  unfold sigTanh
  rw [ofBits_half]
  induction x using EReal.rec with
  | bot =>
    rw [show sigExp ⊥ = 0 from Ideal.logistic_bot, EReal.coe_mul_bot_of_pos (by norm_num)]
    show _ * ((-1 : ℝ) : EReal) + _ = _
    rw [← EReal.coe_mul, ← EReal.coe_add]; norm_num
  | top =>
    rw [show sigExp ⊤ = 1 from Ideal.logistic_top, EReal.coe_mul_top_of_pos (by norm_num)]
    show _ * ((1 : ℝ) : EReal) + _ = _
    rw [← EReal.coe_mul, ← EReal.coe_add]; norm_num
  | coe r =>
    rw [sigExp_coe, ← EReal.coe_mul]
    show _ * ((Real.tanh _ : ℝ) : EReal) + _ = _
    rw [← EReal.coe_mul, ← EReal.coe_add, real_sig]

/-- The derivative of `x * sigmoid x`, multiplied by a real cotangent: the kernel's product and the sum the plain
    derivative has are the same number at every gate. -/
theorem silu_grad (a : ℝ) (x : EReal) :
    (a : EReal) * (sigExp x * (1 + x * (1 - sigExp x))) = a * sigExp x + x * a * (sigExp x * (1 - sigExp x)) := by
  induction x using EReal.rec with
  | bot =>
    rw [show sigExp ⊥ = 0 from Ideal.logistic_bot]; simp
  | top =>
    rw [show sigExp ⊤ = 1 from Ideal.logistic_top, show (1 : EReal) - 1 = 0 from by
      rw [show (1 : EReal) = ((1 : ℝ) : EReal) from rfl, ← EReal.coe_sub]; norm_num]
    simp
  | coe r =>
    rw [sigExp_coe, show (1 : EReal) = ((1 : ℝ) : EReal) from rfl]
    norm_cast
    ring

/-- A number whose absolute value lies below infinity is real. -/
theorem real_of_abs_lt {x : EReal} (h : max x (-x) < ⊤) : ∃ r : ℝ, x = r := by
  induction x using EReal.rec with
  | bot => simp at h
  | top => simp at h
  | coe r => exact ⟨r, rfl⟩

/-- A sum of products of reals is real. -/
theorem real_sum {ι : Type*} [Fintype ι] (f g : ι → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  have : ∀ s : Finset ι, ∑ i ∈ s, f i * g i = ((∑ i ∈ s, a i * b i : ℝ) : EReal) := by
    classical
    intro s
    induction s using Finset.induction_on with
    | empty => simp
    | insert i s hi ih => rw [Finset.sum_insert hi, Finset.sum_insert hi, ih, ha, hb]; push_cast; rfl
  exact this _

end Cert.Swiglu

end
-- ==== Proof.Swiglu.Kernel.lean ====
/-
  What the gated-unit gradient kernel leaves in its two result arrays, at every index, over the extended reals.

  Each grid point works on one block of 1376 rows and 512 columns, in two halves of 688 rows.  The cotangent of the
  gated unit is the product of a row of `dh` with a row of `w_down` (`DA`); the two results are that number times
  the derivative of the gate and times the gated value.
-/
module

public import proofs.«01_k».proof.Proof.Swiglu.Scalar
public import proofs.«01_k».proof.Proof.Gen.KernelIdeal.Frame
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.Swiglu

open Cert.KernelIdeal Cert.KernelIdeal.Gen

variable (m : (ℓ : Loc nD τ sig) → Buf (Elt Ideal) ℓ)

/-- The cotangent of the gated unit: row `r` of `dh` times row `j` of `w_down`. -/
def DA (X : FVec Ideal S8256x2048 .bf16) (W : FVec Ideal S5632x2048 .bf16) (i : S8256x5632.Idx) : EReal :=
  ∑ k : Fin 2048, X (ix2 (i 0) k) * W (ix2 (i 1) k)

/-- The gradient of the gate's input, as the kernel computes it. -/
def dGate (X : FVec Ideal S8256x2048 .bf16) (W : FVec Ideal S5632x2048 .bf16) (G U : FVec Ideal S8256x5632 .bf16) :
    FVec Ideal S8256x5632 .bf16 := fun i =>
  (DA X W i * (U i : EReal)) * (sigTanh (G i) * (1 + (G i : EReal) * (1 - sigTanh (G i))))

/-- The gradient of the other factor. -/
def dUp (X : FVec Ideal S8256x2048 .bf16) (W : FVec Ideal S5632x2048 .bf16) (G : FVec Ideal S8256x5632 .bf16) :
    FVec Ideal S8256x5632 .bf16 := fun i =>
  DA X W i * ((G i : EReal) * sigTanh (G i))

/-- The blocks' places: the point's row of blocks and its column of blocks. -/
theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11])

theorem point4 (c : Dev nD) (t : Fin cfg0.N) (y : S1376x512.Idx) :
    out0_4 (iblk m c 0 t) (iblk m c 1 t) (iblk m c 2 t) (iblk m c 3 t) y
      = dGate (m ((c : Thread nD τ).loc main_arg0)) (m ((c : Thread nD τ).loc main_arg1)) (m ((c : Thread nD τ).loc main_arg2))
          (m ((c : Thread nD τ).loc main_arg3)) (((cfg0.win 4).blk t).view.emb y) := by
  canon_tiles x h
  · open_payloads
    pointwise [dGate, DA, sigTanh]
    blk_point [iblk, V, idx t]
  · open_payloads
    pointwise [dGate, DA, sigTanh]
    blk_point [iblk, V, idx t]

theorem point5 (c : Dev nD) (t : Fin cfg0.N) (y : S1376x512.Idx) :
    out0_5 (iblk m c 0 t) (iblk m c 1 t) (iblk m c 2 t) (iblk m c 3 t) y
      = dUp (m ((c : Thread nD τ).loc main_arg0)) (m ((c : Thread nD τ).loc main_arg1)) (m ((c : Thread nD τ).loc main_arg2))
          (((cfg0.win 5).blk t).view.emb y) := by
  canon_tiles x h
  · open_payloads
    pointwise [dUp, DA, sigTanh]
    blk_point [iblk, V, idx t]
  · open_payloads
    pointwise [dUp, DA, sigTanh]
    blk_point [iblk, V, idx t]

/-- The first result array after the run. -/
theorem final4 (c : Dev nD) : (dats m 0 c).arrAt 4 (cfgs 0).N
    = dGate (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  exact point4 m c t y

/-- The second result array after the run. -/
theorem final5 (c : Dev nD) : (dats m 0 c).arrAt 5 (cfgs 0).N
    = dUp (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y

end Cert.Swiglu

end
-- ==== Proof.Swiglu.Ref.lean ====
/-
  The plain derivative of `(silu gate * up) @ w_down`, read at an index and compared with what the kernel leaves;
  and the precondition read at an index.
-/
module

public import proofs.«01_k».proof.Proof.Swiglu.Kernel
public import proofs.«01_k».proof.Proof.Gen.Pre_finite
public import proofs.«01_k».proof.Proof.Gen.ReferenceIdeal
public import Idealize.ShloMosaic.Lib.ReduceAll

@[expose] public section

set_option maxRecDepth 16384

noncomputable section

open Idealize.ShloMosaic

namespace Cert.Swiglu

open Cert.ReferenceIdeal Cert.ReferenceIdeal.Gen

variable (X : FVec Ideal S8256x2048 .bf16) (W : FVec Ideal S5632x2048 .bf16) (G U : FVec Ideal S8256x5632 .bf16)

/-- The product of the cotangent with the weights, at an index. -/
theorem da_at (i : S8256x5632.Idx) :
    Host.dotGeneral dot_S8256x2048_S5632x2048_S8256x5632_1_1_0_0_n_n none (extf .f32 X bitsLt_bf16_f32) (extf .f32 W bitsLt_bf16_f32) i
      = DA X W i := by
  pointwise [DA]

/-- The logistic function the reference computes, at an index. -/
theorem sig_at (i : S8256x5632.Idx) :
    Host.divf (F := Ideal) (broadcastInDim S8256x5632 ![] bcast_S_S8256x5632 (constant S_ .f32 0x3F800000#32))
      (addf (broadcastInDim S8256x5632 ![] bcast_S_S8256x5632 (constant S_ .f32 0x3F800000#32)) (Host.exp (Host.negf (extf .f32 G bitsLt_bf16_f32)))) i
      = sigExp (G i) := by
  pointwise [sigExp]

theorem one_at (i : S8256x5632.Idx) :
    (broadcastInDim S8256x5632 ![] bcast_S_S8256x5632 (constant (F := Ideal) S_ .f32 0x3F800000#32)) i = (1 : EReal) := by
  pointwise

/-- The word of the comparison `|x| < inf` is one only at a real number. -/
theorem real_of_word (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  refine real_of_abs_lt ?_
  have e : FloatOps.ofBits (F := Ideal) .f32 0x7F800000#32 = (⊤ : EReal) := ofBits_inf
  rw [e] at h
  have h' : BitVec.ofBool (decide (max x (-x) < ⊤)) = 1#1 := h
  by_contra hn
  rw [decide_eq_false hn] at h'
  exact absurd h' (by decide)

/-- The precondition, at an index: the cotangent, the weights and the second factor hold real numbers. -/
theorem real_of_pre [Cert.Pre_finite.Facts] (h : Cert.Pre_finite.fn (F := Ideal) X W G U = fun _ => 1#1) :
    (∀ i, ∃ r : ℝ, X i = (r : EReal)) ∧ (∀ i, ∃ r : ℝ, W i = (r : EReal)) ∧ (∀ i, ∃ r : ℝ, U i = (r : EReal)) := by
  have h0 := congrFun h (fun a => a.elim0)
  simp only [Cert.Pre_finite.fn] at h0
  rw [andi_apply, IntOp.andi_eq_one, andi_apply, IntOp.andi_eq_one] at h0
  obtain ⟨⟨hX, hW⟩, hU⟩ := h0
  exact ⟨fun i => real_of_word (X i) (Host.reduce_andi_all _ _ _ _ _ hX i),
    fun i => real_of_word (W i) (Host.reduce_andi_all _ _ _ _ _ hW i),
    fun i => real_of_word (U i) (Host.reduce_andi_all _ _ _ _ _ hU i)⟩

/-- The first result: the reference's sum is the kernel's product. -/
theorem gate_at (hX : ∀ i, ∃ r : ℝ, X i = (r : EReal)) (hW : ∀ i, ∃ r : ℝ, W i = (r : EReal))
    (hU : ∀ i, ∃ r : ℝ, U i = (r : EReal)) (i : S8256x5632.Idx) :
    (DA X W i * (U i : EReal)) * sigExp (G i) + ((G i : EReal) * (DA X W i * (U i : EReal))) * (sigExp (G i) * (1 - sigExp (G i)))
      = dGate X W G U i := by
  obtain ⟨a, ha⟩ := real_sum (fun k : Fin 2048 => X (ix2 (i 0) k)) (fun k => W (ix2 (i 1) k)) (fun k => hX _) (fun k => hW _)
  obtain ⟨b, hb⟩ := hU i
  show _ = (DA X W i * (U i : EReal)) * (sigTanh (G i) * (1 + (G i : EReal) * (1 - sigTanh (G i))))
  rw [sigTanh_eq, show DA X W i = (a : EReal) from ha, hb, ← EReal.coe_mul, silu_grad]

/-- The second result. -/
theorem up_at (i : S8256x5632.Idx) : ((G i : EReal) * sigExp (G i)) * DA X W i = dUp X W G i := by
  show _ = DA X W i * ((G i : EReal) * sigTanh (G i))
  rw [sigTanh_eq, mul_comm]

end Cert.Swiglu

end
-- ==== Proof.Swiglu.Claim.lean ====
/-
  The claims about the gated unit's gradient: the reference's frame, and that kernel and reference end with the same
  two arrays.
-/
module

public import proofs.«01_k».proof.Defs
public import proofs.«01_k».proof.Proof.Swiglu.Ref
public import proofs.«01_k».proof.Proof.Gen.ReferenceIdeal.Run
public import Idealize.ShloMosaic.Lib.Quiescent
public import Idealize.ShloMosaic.Lib.Claim

@[expose] public section

set_option maxRecDepth 16384

noncomputable section

open Idealize.ShloMosaic Idealize.SL.Sem

namespace Cert.Swiglu

/-- The reference runs, keeps its arguments, and has no semaphore that could be left raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => ⟨(h c).2.2.1, (h c).2.2.2.1, (h c).2.2.2.2.1, (h c).2.2.2.2.2⟩, sem_eq_zero_of_no_sems rfl r.2⟩)
    (Cert.ReferenceIdeal.Value.run m g)

/-- The gated unit's gradient: kernel and plain derivative end with the same two arrays. -/
theorem algebraic [Cert.Pre_finite.Facts] : Cert.algebraic_KernelIdeal_ReferenceIdeal_pre_finite := by
  pair_intro
  · run_from Cert.KernelIdeal.Gen.run_main m g
  · run_from Cert.ReferenceIdeal.Value.run m' g'
    · obtain ⟨hX, hW, hU⟩ := real_of_pre _ _ _ _ (hpre c)
      rw [final4 m c]
      funext i
      refine Eq.trans ?_ (gate_at _ _ _ _ hX hW hU i)
      rw [← da_at, ← sig_at, ← one_at i]
      rfl
    · obtain ⟨hX, hW, hU⟩ := real_of_pre _ _ _ _ (hpre c)
      rw [final5 m c]
      funext i
      refine Eq.trans ?_ (up_at _ _ _ i)
      rw [← da_at, ← sig_at]
      rfl

end Cert.Swiglu

end
-- ==== Proof.Products.WeightGrad.lean ====
/-
  The gradient of a weight from the activations and the cotangent: kernel and plain derivative end with the same array.

  Each grid point multiplies 512 columns of the activations with 512 columns of the cotangent, over all rows.
-/
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WeightGrad

open Cert.Kernel3Ideal Cert.Kernel3Ideal.Gen

variable (m : (ℓ : Loc nD τ sig) → Buf (Elt Ideal) ℓ)

/-- Column `i 0` of the activations times column `i 1` of the cotangent. -/
def grad (A : FVec Ideal S8256x5632 .bf16) (D : FVec Ideal S8256x2048 .bf16) : FVec Ideal S5632x2048 .bf16 := fun i =>
  (∑ k : Fin 8256, A (ix2 k (i 0)) * D (ix2 k (i 1)) : EReal)

/-- The blocks' places. -/
theorem idx : ∀ t : Fin cfg0.N, win0_0.index t = ![0, t.val / 4] ∧ win0_1.index t = ![0, t.val % 4] ∧ win0_2.index t = ![t.val / 4, t.val % 4] :=
  (by decide +kernel : ∀ t : Fin grid0.N, win0_0.index t = ![0, t.val / 4] ∧ win0_1.index t = ![0, t.val % 4]
    ∧ win0_2.index t = ![t.val / 4, t.val % 4])

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, grad]
  blk_point [iblk, V, idx t]

theorem reference_frame : Cert.quiescent_Reference3Ideal := fun m g _ =>
  (θ_run Cert.Reference3Ideal.defs _ _).mono
    (fun r h => ⟨fun c => ⟨(h c).2.1, (h c).2.2⟩, sem_eq_zero_of_no_sems rfl r.2⟩)
    (Cert.Reference3Ideal.Value.run m g)

theorem algebraic : Cert.algebraic_Kernel3Ideal_Reference3Ideal := by
  pair_intro
  · run_from Cert.Kernel3Ideal.Gen.run_main m g
  · run_from Cert.Reference3Ideal.Value.run m' g'
    rw [final m c]
    funext i
    pointwise [grad]
    exact Finset.sum_congr rfl fun k _ => mul_comm _ _

end Cert.WeightGrad

end
-- ==== Proof.Products.PairGrad.lean ====
/-
  The gradient of the gated unit's common input: the sum of two products with the two weights' rows.
-/
module

public import proofs.«01_k».proof.Defs
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PairGrad

open Cert.Kernel4Ideal Cert.Kernel4Ideal.Gen

variable (m : (ℓ : Loc nD τ sig) → Buf (Elt Ideal) ℓ)

/-- A row of a cotangent times a column of a weight. -/
def rowCol (A : FVec Ideal S8256x5632 .bf16) (B : FVec Ideal S5632x2048 .bf16) (i : S8256x2048.Idx) : EReal :=
  ∑ k : Fin 5632, A (ix2 (i 0) k) * B (ix2 k (i 1))

def grad (A₁ : FVec Ideal S8256x5632 .bf16) (B₁ : FVec Ideal S5632x2048 .bf16) (A₂ : FVec Ideal S8256x5632 .bf16)
    (B₂ : FVec Ideal S5632x2048 .bf16) : FVec Ideal S8256x2048 .f32 := fun i => rowCol A₁ B₁ i + rowCol A₂ B₂ i

/-- The blocks' places. -/
theorem idx : ∀ t : Fin cfg0.N, win0_0.index t = ![t.val / 8, 0] ∧ win0_1.index t = ![0, t.val % 8]
    ∧ win0_2.index t = ![t.val / 8, 0] ∧ win0_3.index t = ![0, t.val % 8] ∧ win0_4.index t = ![t.val / 8, t.val % 8] :=
  (by decide +kernel : ∀ t : Fin grid0.N, win0_0.index t = ![t.val / 8, 0] ∧ win0_1.index t = ![0, t.val % 8]
    ∧ win0_2.index t = ![t.val / 8, 0] ∧ win0_3.index t = ![0, t.val % 8] ∧ win0_4.index t = ![t.val / 8, t.val % 8])

/-- The result array after the run. -/
theorem final (c : Dev nD) : (dats m 0 c).arrAt 4 (cfgs 0).N
    = grad (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  frame_out
  pointwise [k0_pay1, grad, rowCol]
  blk_point [iblk, V, idx t]

theorem reference_frame : Cert.quiescent_Reference4Ideal := fun m g _ =>
  (θ_run Cert.Reference4Ideal.defs _ _).mono
    (fun r h => ⟨fun c => ⟨(h c).2.1, (h c).2.2.1, (h c).2.2.2.1, (h c).2.2.2.2⟩, sem_eq_zero_of_no_sems rfl r.2⟩)
    (Cert.Reference4Ideal.Value.run m g)

theorem algebraic : Cert.algebraic_Kernel4Ideal_Reference4Ideal := by
  pair_intro
  · run_from Cert.Kernel4Ideal.Gen.run_main m g
  · run_from Cert.Reference4Ideal.Value.run m' g'
    rw [final m c]
    funext i
    pointwise [grad, rowCol]
    rw [add_comm]

end Cert.PairGrad

end
-- ==== Proof.Products.OutGrad.lean ====
/-
  The gradient of the output projection's weight: kernel and plain derivative end with the same array.

  Each grid point multiplies 512 columns of the activations with 512 columns of the cotangent, over all rows.
-/
module

public import proofs.«01_k».proof.Defs
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutGrad

open Cert.Kernel7Ideal Cert.Kernel7Ideal.Gen

variable (m : (ℓ : Loc nD τ sig) → Buf (Elt Ideal) ℓ)

/-- Column `i 0` of the activations times column `i 1` of the cotangent. -/
def grad (A : FVec Ideal S8256x2048 .bf16) (D : FVec Ideal S8256x2048 .bf16) : FVec Ideal S2048x2048 .bf16 := fun i =>
  (∑ k : Fin 8256, A (ix2 k (i 0)) * D (ix2 k (i 1)) : EReal)

/-- The blocks' places. -/
theorem idx : ∀ t : Fin cfg0.N, win0_0.index t = ![0, t.val / 4] ∧ win0_1.index t = ![0, t.val % 4] ∧ win0_2.index t = ![t.val / 4, t.val % 4] :=
  (by decide +kernel : ∀ t : Fin grid0.N, win0_0.index t = ![0, t.val / 4] ∧ win0_1.index t = ![0, t.val % 4]
    ∧ win0_2.index t = ![t.val / 4, t.val % 4])

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, grad]
  blk_point [iblk, V, idx t]

theorem reference_frame : Cert.quiescent_Reference7Ideal := fun m g _ =>
  (θ_run Cert.Reference7Ideal.defs _ _).mono
    (fun r h => ⟨fun c => ⟨(h c).2.1, (h c).2.2⟩, sem_eq_zero_of_no_sems rfl r.2⟩)
    (Cert.Reference7Ideal.Value.run m g)

theorem algebraic : Cert.algebraic_Kernel7Ideal_Reference7Ideal := by
  pair_intro
  · run_from Cert.Kernel7Ideal.Gen.run_main m g
  · run_from Cert.Reference7Ideal.Value.run m' g'
    rw [final m c]
    funext i
    pointwise [grad]
    exact Finset.sum_congr rfl fun k _ => mul_comm _ _

end Cert.OutGrad

end
-- ==== Proof.Products.MixedGrad.lean ====
/-
  The gradient of the mixed heads: the cotangent times the output projection's weight, row against row.

  Each grid point multiplies 1376 rows of the cotangent with 512 rows of the weight, over the whole row.
-/
module

public import proofs.«01_k».proof.Defs
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixedGrad

open Cert.Kernel8Ideal Cert.Kernel8Ideal.Gen

variable (m : (ℓ : Loc nD τ sig) → Buf (Elt Ideal) ℓ)

/-- Row `i 0` of the cotangent times row `i 1` of the weight. -/
def grad (A : FVec Ideal S8256x2048 .bf16) (D : FVec Ideal S2048x2048 .bf16) : FVec Ideal S8256x2048 .f32 := fun i =>
  (∑ k : Fin 2048, A (ix2 (i 0) k) * D (ix2 (i 1) k) : EReal)

/-- The blocks' places. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0]
    ∧ win0_2.index t = ![t.val / 4, t.val % 4])

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, grad]
  blk_point [iblk, V, idx t]

theorem reference_frame : Cert.quiescent_Reference8Ideal := fun m g _ =>
  (θ_run Cert.Reference8Ideal.defs _ _).mono
    (fun r h => ⟨fun c => ⟨(h c).2.1, (h c).2.2⟩, sem_eq_zero_of_no_sems rfl r.2⟩)
    (Cert.Reference8Ideal.Value.run m g)

theorem algebraic : Cert.algebraic_Kernel8Ideal_Reference8Ideal := by
  pair_intro
  · run_from Cert.Kernel8Ideal.Gen.run_main m g
  · run_from Cert.Reference8Ideal.Value.run m' g'
    rw [final m c]
    funext i
    pointwise [grad]

end Cert.MixedGrad

end
-- ==== Proof.Products.InGrad.lean ====
/-
  The gradient of the input projection's weight, kept transposed: kernel and plain derivative end with the same array.

  Each grid point multiplies 768 columns of the cotangent with 512 columns of the activations, over all rows.
-/
module

public import proofs.«01_k».proof.Defs
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InGrad

open Cert.Kernel9Ideal Cert.Kernel9Ideal.Gen

variable (m : (ℓ : Loc nD τ sig) → Buf (Elt Ideal) ℓ)

/-- Column `i 0` of the cotangent times column `i 1` of the activations. -/
def grad (A : FVec Ideal S8256x7680 .bf16) (D : FVec Ideal S8256x2048 .bf16) : FVec Ideal S7680x2048 .bf16 := fun i =>
  (∑ k : Fin 8256, A (ix2 k (i 0)) * D (ix2 k (i 1)) : EReal)

/-- The blocks' places. -/
theorem idx : ∀ t : Fin cfg0.N, win0_0.index t = ![0, t.val / 4] ∧ win0_1.index t = ![0, t.val % 4] ∧ win0_2.index t = ![t.val / 4, t.val % 4] :=
  (by decide +kernel : ∀ t : Fin grid0.N, win0_0.index t = ![0, t.val / 4] ∧ win0_1.index t = ![0, t.val % 4]
    ∧ win0_2.index t = ![t.val / 4, t.val % 4])

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, grad]
  blk_point [iblk, V, idx t]

theorem reference_frame : Cert.quiescent_Reference9Ideal := fun m g _ =>
  (θ_run Cert.Reference9Ideal.defs _ _).mono
    (fun r h => ⟨fun c => ⟨(h c).2.1, (h c).2.2⟩, sem_eq_zero_of_no_sems rfl r.2⟩)
    (Cert.Reference9Ideal.Value.run m g)

theorem algebraic : Cert.algebraic_Kernel9Ideal_Reference9Ideal := by
  pair_intro
  · run_from Cert.Kernel9Ideal.Gen.run_main m g
  · run_from Cert.Reference9Ideal.Value.run m' g'
    rw [final m c]
    funext i
    pointwise [grad]

end Cert.InGrad

end
-- ==== Proof.Products.InputGrad.lean ====
/-
  The gradient of the input projection's input: the cotangent times the projection's transposed weight.

  Each grid point multiplies 688 rows of the cotangent with 512 columns of the weight, over the whole row.
-/
module

public import proofs.«01_k».proof.Defs
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InputGrad

open Cert.Kernel10Ideal Cert.Kernel10Ideal.Gen

variable (m : (ℓ : Loc nD τ sig) → Buf (Elt Ideal) ℓ)

/-- Row `i 0` of the cotangent times column `i 1` of the weight. -/
def grad (A : FVec Ideal S8256x7680 .bf16) (D : FVec Ideal S7680x2048 .bf16) : FVec Ideal S8256x2048 .f32 := fun i =>
  (∑ k : Fin 7680, A (ix2 (i 0) k) * D (ix2 k (i 1)) : EReal)

/-- The blocks' places. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4]
    ∧ win0_2.index t = ![t.val / 4, t.val % 4])

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, grad]
  blk_point [iblk, V, idx t]

theorem reference_frame : Cert.quiescent_Reference10Ideal := fun m g _ =>
  (θ_run Cert.Reference10Ideal.defs _ _).mono
    (fun r h => ⟨fun c => ⟨(h c).2.1, (h c).2.2⟩, sem_eq_zero_of_no_sems rfl r.2⟩)
    (Cert.Reference10Ideal.Value.run m g)

theorem algebraic : Cert.algebraic_Kernel10Ideal_Reference10Ideal := by
  pair_intro
  · run_from Cert.Kernel10Ideal.Gen.run_main m g
  · run_from Cert.Reference10Ideal.Value.run m' g'
    rw [final m c]
    funext i
    pointwise [grad]

end Cert.InputGrad

end
-- ==== Proof.Norm.Scalar.lean ====
/-
  The derivative of the root-mean-square norm over the reals: what a norm's backward call multiplies out, and what the
  chain rule through `rsqrt` gives, are the same number.
-/
module

public import Idealize.ShloMosaic.PureOps.Ideal
public import Idealize.ShloMosaic.Lib.IdealHost
public import Idealize.ShloMosaic.Lib.Pipeline.ValueKit
public import Mathlib.Data.EReal.Operations

@[expose] public section

namespace Cert.Norm

open Idealize.ShloMosaic

/-- The reciprocal root of a positive real. -/
theorem rsqrt_pos {v : ℝ} (h : 0 < v) : Ideal.rsqrt (v : EReal) = (((Real.sqrt v)⁻¹ : ℝ) : EReal) := by
  rw [Ideal.rsqrt_coe, if_neg (not_lt.2 h.le), if_neg h.ne']

/-- A quotient of reals. -/
theorem div_real (x : ℝ) {y : ℝ} (h : y ≠ 0) : Ideal.div (x : EReal) (y : EReal) = ((x / y : ℝ) : EReal) := by
  rw [Ideal.div_coe h, ← EReal.coe_mul, mul_one_div]

/-- A finite sum of reals. -/
theorem sum_real {ι : Type*} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- The chain rule through the reciprocal root: `x` the entry, `d` its cotangent times the weight, `s` the sum of `x * d`
    along the row, `r` the reciprocal root of `v`, `n` the length of the row. -/
theorem grad_real (x d s v n : ℝ) (hv : 0 < v) :
    (Real.sqrt v)⁻¹ * (d - x * (Real.sqrt v)⁻¹ * (s * (Real.sqrt v)⁻¹ / n))
      = d * (Real.sqrt v)⁻¹ + x * (s * (-(1 / 2) * ((Real.sqrt v)⁻¹ / v)) / n) + s * (-(1 / 2) * ((Real.sqrt v)⁻¹ / v)) / n * x := by
  have e : (Real.sqrt v)⁻¹ / v = (Real.sqrt v)⁻¹ * (Real.sqrt v)⁻¹ * (Real.sqrt v)⁻¹ := by
    have h2 : Real.sqrt v * Real.sqrt v = v := Real.mul_self_sqrt hv.le
    have h3 : v⁻¹ = (Real.sqrt v)⁻¹ * (Real.sqrt v)⁻¹ := by rw [← mul_inv, h2]
    rw [div_eq_mul_inv, h3, mul_assoc]
  rw [e]
  ring

/-- A mean of squares plus a positive number is positive. -/
theorem mean_pos {n : ℕ} (x : Fin n → ℝ) (N e : ℝ) (hN : 0 < N) (he : 0 < e) : 0 < (∑ k, x k * x k) / N + e :=
  add_pos_of_nonneg_of_pos (div_nonneg (Finset.sum_nonneg fun k _ => mul_self_nonneg _) hN.le) he

/-- The word of `2048` at f32. -/
theorem ofBits_2048 : Ideal.ofBits .f32 0x45000000#32 = ((2048 : ℝ) : EReal) := by
  simp [Ideal.ofBits, Ideal.ieee, -EReal.coe_mul]
  norm_num

/-- The word of minus one half at f32. -/
theorem ofBits_neg_half : Ideal.ofBits .f32 0xBF000000#32 = ((-(1 / 2) : ℝ) : EReal) := by
  simp [Ideal.ofBits, Ideal.ieee, -EReal.coe_mul]
  norm_num

/-- The word the small number under the root has: a positive real. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The rows of an array of 8256 in the order a call adds them up: 43 points of 24 groups of eight rows, the eight kept
    apart until the end. -/
theorem sum_rows {M : Type*} {_ : AddCommMonoid M} {F : Fin 8 → Fin 43 → Fin 24 → M} {f : Fin 8256 → M}
    (h : ∀ (s : Fin 8) (p : Fin 43) (q : Fin 24) (hl : p.val * 192 + (q.val * 8 + s.val) < 8256),
      F s p q = f ⟨p.val * 192 + (q.val * 8 + s.val), hl⟩) :
    ∑ s, ∑ p, ∑ q, F s p q = ∑ l, f l := by
  rw [← Fin.sum_mul_add_fin 43 192 f, Finset.sum_comm]
  refine Finset.sum_congr rfl fun p _ => ?_
  rw [Finset.sum_comm, ← Fin.sum_mul_add_fin 24 8 (fun k : Fin 192 => f ⟨p.val * 192 + k.val, by omega⟩)]
  exact Finset.sum_congr rfl fun q _ => Finset.sum_congr rfl fun s _ => h s p q (by omega)

/-- The gradient of a row's norm at an entry, as the chain rule writes it and as the call computes it: `a`, `b` and `u` are
    the entry, its cotangent and its weight, `R` what is added. -/
theorem grad_at (x d w : Fin 2048 → EReal) (hx : ∀ k, ∃ r : ℝ, x k = (r : EReal)) (hd : ∀ k, ∃ r : ℝ, d k = (r : EReal))
    (hw : ∀ k, ∃ r : ℝ, w k = (r : EReal)) (R a b u : EReal) (ha : ∃ r : ℝ, a = (r : EReal)) (hb : ∃ r : ℝ, b = (r : EReal))
    (hu : ∃ r : ℝ, u = (r : EReal)) (v N q : EReal)
    (hN : N = Ideal.ofBits .f32 0x45000000#32) (hv : v = Ideal.div (∑ k, x k * x k) N + Ideal.ofBits .f32 0x358637BD#32)
    (hq : q = Ideal.ofBits .f32 0xBF000000#32) :
    R + b * u * Ideal.rsqrt v + a * (∑ _l : Fin 1, Ideal.div ((∑ k, x k * (d k * w k)) * (q * Ideal.div (Ideal.rsqrt v) v)) N)
        + (∑ _l : Fin 1, Ideal.div ((∑ k, x k * (d k * w k)) * (q * Ideal.div (Ideal.rsqrt v) v)) N) * a
      = R + Ideal.rsqrt v * (b * u - a * Ideal.rsqrt v * Ideal.div (∑ k, d k * w k * (x k * Ideal.rsqrt v)) N) := by
  choose X hX using hx
  choose D hD using hd
  choose W hW using hw
  obtain ⟨a, rfl⟩ := ha
  obtain ⟨b, rfl⟩ := hb
  obtain ⟨u, rfl⟩ := hu
  obtain ⟨e, he, hE⟩ := ofBits_eps
  have hpos : 0 < (∑ k, X k * X k) / 2048 + e := mean_pos X 2048 e (by norm_num) he
  have hv' : v = (((∑ k, X k * X k) / 2048 + e : ℝ) : EReal) := by
    rw [hv, hN, ofBits_2048, hE]
    simp only [hX, ← EReal.coe_mul, sum_real]
    rw [div_real _ (by norm_num), ← EReal.coe_add]
  generalize (∑ k, X k * X k) / 2048 + e = V at hv' hpos
  subst hv'
  simp only [Fin.sum_univ_one, hN, hq, ofBits_2048, ofBits_neg_half, rsqrt_pos hpos, hX, hD, hW, ← EReal.coe_mul, sum_real,
    div_real _ hpos.ne', div_real _ (show (2048 : ℝ) ≠ 0 by norm_num), ← EReal.coe_sub, add_assoc, ← EReal.coe_add]
  have hs : ∑ k, D k * W k * (X k * (Real.sqrt V)⁻¹) = (∑ k, X k * (D k * W k)) * (Real.sqrt V)⁻¹ := by
    rw [Finset.sum_mul]
    exact Finset.sum_congr rfl fun k _ => by ring
  rw [hs, grad_real a (b * u) (∑ k, X k * (D k * W k)) V 2048 hpos, add_assoc]

end Cert.Norm

end
-- ==== Proof.Norm.BackwardKernel.lean ====
/-
  The backward call of the norm before the gated unit: the gradient of its input, with the residual's cotangent added,
  and the gradient of its weight.

  The weight's gradient is summed over 43 points; each adds its 192 rows into eight partial sums, which the last point
  adds up.
-/
module

public import proofs.«01_k».proof.Defs
public import proofs.«01_k».proof.Proof.Gen.Kernel5Ideal.Frame
public import proofs.«01_k».proof.Proof.Norm.Scalar
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.NormGrad

open Cert.Kernel5Ideal Cert.Kernel5Ideal.Gen

variable (m : (ℓ : Loc nD τ sig) → Buf (Elt Ideal) ℓ)

/-- The reciprocal root of a row's mean square. -/
def ratio (H : FVec Ideal S8256x2048 .f32) (a : Fin 8256) : EReal :=
  Ideal.rsqrt (Ideal.div (∑ k : Fin 2048, H (ix2 a k) * H (ix2 a k) : EReal) (Ideal.ofBits .f32 0x45000000#32)
    + Ideal.ofBits .f32 0x358637BD#32)

/-- The gradient of the input. -/
def dIn (H : FVec Ideal S8256x2048 .f32) (W : FVec Ideal S1x2048 .f32) (D R : FVec Ideal S8256x2048 .f32) : FVec Ideal S8256x2048 .f32 := fun i =>
  (R i + ratio H (i 0) * (D i * W (ix2 0 (i 1)) - H i * ratio H (i 0)
    * Ideal.div (∑ k : Fin 2048, D (ix2 (i 0) k) * W (ix2 0 k) * (H (ix2 (i 0) k) * ratio H (i 0)) : EReal)
        (Ideal.ofBits .f32 0x45000000#32)) : EReal)

/-- The gradient of the weight. -/
def dWeight (H D : FVec Ideal S8256x2048 .f32) : FVec Ideal S1x2048 .f32 := fun i =>
  (∑ l : Fin 8256, D (ix2 l (i 1)) * (H (ix2 l (i 1)) * ratio H l) : EReal)

/-- The blocks' places. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0])

/-- What a point leaves for the gradient of the input, whatever the point. -/
theorem outs4 (c : Dev nD) (t : Fin cfg0.N) (y : S192x2048.Idx) : (outsAt0 m c t.val t.isLt).1 y
    = k0_pay5 (F := Ideal) (iblk m c 0 t) (iblk m c 2 t) (iblk m c 1 t) (iblk m c 3 t) y := by
  have hN := lt_of_lt_of_eq t.isLt N_0
  by_cases h0 : t.val % 43 = 0
  · rw [outsAt0_A m c t h0 (by omega) (by omega)]
    frame_out
  · by_cases h2 : t.val % 43 = 42
    · rw [outsAt0_C m c t h0 (by omega) h2]
      frame_out
    · rw [outsAt0_B m c t h0 (by omega) h2]
      frame_out

theorem outs5 (c : Dev nD) (t : Fin cfg0.N) (y : S192x2048.Idx) : (outsAt0 m c t.val t.isLt).2.1 y
    = k0_pay6 (F := Ideal) (iblk m c 0 t) (iblk m c 2 t) (iblk m c 1 t) (iblk m c 3 t) y := by
  have hN := lt_of_lt_of_eq t.isLt N_0
  by_cases h0 : t.val % 43 = 0
  · rw [outsAt0_A m c t h0 (by omega) (by omega)]
    frame_out
  · by_cases h2 : t.val % 43 = 42
    · rw [outsAt0_C m c t h0 (by omega) h2]
      frame_out
    · rw [outsAt0_B m c t h0 (by omega) h2]
      frame_out

theorem final4 (c : Dev nD) : (dats m 0 c).arrAt 4 (cfgs 0).N = dIn (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, outs4]
  pointwise [k0_pay5, k0_pay4, k0_pay3, dIn, ratio]
  blk_point [iblk, V, idx t]

theorem final5 (c : Dev nD) : (dats m 0 c).arrAt 5 (cfgs 0).N = dIn (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, outs5]
  pointwise [k0_pay6, k0_pay5, k0_pay4, k0_pay3, dIn, ratio]
  blk_point [iblk, V, idx t]

/-- A point's own part of the eight partial sums is added to what the point before left. -/
theorem step_at (v acc : FVec Ideal S8x2048 .f32) (j : S8x2048.Idx) : (k0_pay1 v acc j : EReal) = acc j + v j := by
  pointwise [k0_pay1]

theorem first_at (x d : FVec Ideal S192x2048 .f32) (j : S8x2048.Idx) : k0_pay8 (F := Ideal) x d j = k0_pay7 (F := Ideal) x d j := by
  pointwise [k0_pay8]

/-- The partial sums at the last point. -/
theorem acc_at (c : Dev nD) (t : Fin cfg0.N) (h : t.val % 43 = 43 - 1) (j : S8x2048.Idx) : (outsAt0 m c t.val t.isLt).2.2.2 j
    = (∑ s : Fin 43, k0_pay7 (F := Ideal) (iblk m c 0 ⟨43 * (t.val / 43) + s.val, Pipeline.run_point_lt_of_flush t h s⟩)
        (iblk m c 2 ⟨43 * (t.val / 43) + s.val, Pipeline.run_point_lt_of_flush t h s⟩) j : EReal) := by
  refine (Pipeline.eq_sum_fin_of_reset_step_apply_of_flush (M := EReal) (fun n h => (outsAt0 m c n h).2.2.2) 43 (fun _ => 0)
    (fun t j => k0_pay7 (F := Ideal) (iblk m c 0 t) (iblk m c 2 t) j) (fun t h0 j => ?_) (fun t h0 j => ?_) t h j).trans (zero_add _)
  · have hN := lt_of_lt_of_eq t.isLt N_0
    rw [outsAt0_A m c t h0 (by omega) (by omega)]
    frame_out
    rw [zero_add]
    exact first_at _ _ j
  · have hN := lt_of_lt_of_eq t.isLt N_0
    by_cases h2 : t.val % 43 = 42
    · rw [outsAt0_C m c t h0 (by omega) h2]
      frame_out
      simp only [read_unread_whole]
      exact step_at _ _ j
    · rw [outsAt0_B m c t h0 (by omega) h2]
      frame_out
      simp only [read_unread_whole]
      exact step_at _ _ j

/-- The last point writes the sum of the eight. -/
theorem outs6 (c : Dev nD) (t : Fin cfg0.N) (h : t.val % 43 = 42) (y : S1x2048.Idx) : (outsAt0 m c t.val t.isLt).2.2.1 y
    = k0_pay2 (F := Ideal) (outsAt0 m c t.val t.isLt).2.2.2 y := by
  rw [outsAt0_C m c t (by omega) (by omega) h]
  frame_out

theorem weight_at (c : Dev nD) (t : Fin cfg0.N) (h : t.val % 43 = 42) (y : S1x2048.Idx) :
    k0_pay2 (F := Ideal) (outsAt0 m c t.val t.isLt).2.2.2 y = (∑ s : Fin 8, (outsAt0 m c t.val t.isLt).2.2.2 (ix2 s (y 1)) : EReal) := by
  pointwise [k0_pay2]

/-- A point's own part: the rows of a block that leave the same remainder by eight. -/
theorem part_at (x d : FVec Ideal S192x2048 .f32) (s : Fin 8) (j : Fin 2048) : k0_pay7 (F := Ideal) x d (ix2 s j)
    = (∑ q : Fin 24, d (ix2 ⟨q.val * 8 + s.val, by omega⟩ j) * (x (ix2 ⟨q.val * 8 + s.val, by omega⟩ j)
        * Ideal.rsqrt (Ideal.div (∑ k : Fin 2048, x (ix2 ⟨q.val * 8 + s.val, by omega⟩ k) * x (ix2 ⟨q.val * 8 + s.val, by omega⟩ k) : EReal)
          (Ideal.ofBits .f32 0x45000000#32) + Ideal.ofBits .f32 0x358637BD#32)) : EReal) := by
  pointwise [k0_pay7, k0_pay4, k0_pay3]

/-- A row's term of the weight's gradient. -/
def term (H D : FVec Ideal S8256x2048 .f32) (j : Fin 2048) (l : Fin 8256) : EReal := D (ix2 l j) * (H (ix2 l j) * ratio H l)

/-- The point `p`'s part, in terms of the whole arrays. -/
theorem part_of (c : Dev nD) (p : Fin cfg0.N) (s : Fin 8) (j : Fin 2048) : k0_pay7 (F := Ideal) (iblk m c 0 p) (iblk m c 2 p) (ix2 s j)
    = (∑ q : Fin 24, term (m ((c : Thread nD τ).loc main_arg0)) (m ((c : Thread nD τ).loc main_arg2)) j ⟨p.val * 192 + (q.val * 8 + s.val), by have h := lt_of_lt_of_eq p.isLt N_0; omega⟩ : EReal) := by
  rw [part_at]
  unfold term ratio
  refine Fin.sum_fin_congr fun q => ?_
  blk_point [iblk, V, idx p]

/-- The one run's points, by their numbers. -/
theorem acc_of (c : Dev nD) (t : Fin cfg0.N) (h : t.val % 43 = 42) (j : S8x2048.Idx) : (outsAt0 m c t.val t.isLt).2.2.2 j
    = (∑ s : Fin 43, k0_pay7 (F := Ideal) (iblk m c 0 ⟨s.val, lt_of_lt_of_eq s.isLt N_0.symm⟩)
        (iblk m c 2 ⟨s.val, lt_of_lt_of_eq s.isLt N_0.symm⟩) j : EReal) := by
  have hN := lt_of_lt_of_eq t.isLt N_0
  rw [acc_at m c t h]
  refine Finset.sum_congr rfl fun s _ => ?_
  rw [show (⟨43 * (t.val / 43) + s.val, Pipeline.run_point_lt_of_flush t h s⟩ : Fin cfg0.N)
    = ⟨s.val, lt_of_lt_of_eq s.isLt N_0.symm⟩ from Fin.ext (by show 43 * (t.val / 43) + s.val = s.val; omega)]

/-- The rows in the order they are added up. -/
theorem rows_at (H D : FVec Ideal S8256x2048 .f32) (j : Fin 2048) : (∑ s : Fin 8, ∑ p : Fin 43, ∑ q : Fin 24, term H D j ⟨p.val * 192 + (q.val * 8 + s.val), by omega⟩ : EReal)
    = ∑ l : Fin 8256, term H D j l := Cert.Norm.sum_rows (f := fun l => term H D j l) fun s p q hl => rfl

theorem eight_at (c : Dev nD) (t : Fin cfg0.N) (h : t.val % 43 = 42) (y : S1x2048.Idx) : (outsAt0 m c t.val t.isLt).2.2.1 y
    = (∑ s : Fin 8, (outsAt0 m c t.val t.isLt).2.2.2 (ix2 s (y 1)) : EReal) := by
  rw [outs6 m c t h, weight_at m c t h]

theorem sum_at (c : Dev nD) (t : Fin cfg0.N) (h : t.val % 43 = 42) (s : Fin 8) (j : Fin 2048) : (outsAt0 m c t.val t.isLt).2.2.2 (ix2 s j)
    = (∑ p : Fin 43, ∑ q : Fin 24, term (m ((c : Thread nD τ).loc main_arg0)) (m ((c : Thread nD τ).loc main_arg2)) j ⟨p.val * 192 + (q.val * 8 + s.val), by omega⟩ : EReal) := by
  rw [acc_of m c t h]
  exact Finset.sum_congr rfl fun p _ => part_of m c ⟨p.val, lt_of_lt_of_eq p.isLt N_0.symm⟩ s j

/-- What the last point writes, in terms of the whole arrays. -/
theorem last_at (c : Dev nD) (t : Fin cfg0.N) (h : t.val % 43 = 42) (y : S1x2048.Idx) : (outsAt0 m c t.val t.isLt).2.2.1 y
    = (∑ l : Fin 8256, term (m ((c : Thread nD τ).loc main_arg0)) (m ((c : Thread nD τ).loc main_arg2)) (y 1) l : EReal) := by
  rw [eight_at m c t h]
  exact (Finset.sum_congr rfl fun s _ => sum_at m c t h s (y 1)).trans (rows_at _ _ _)

theorem final6 (c : Dev nD) : (dats m 0 c).arrAt 6 (cfgs 0).N = dWeight (m ((c : Thread nD τ).loc main_arg0)) (m ((c : Thread nD τ).loc main_arg2)) := by
  refine (dats m 0 c).arrAt_eq_of_covers 6 _ (by decide +kernel) fun t hf y => ?_
  blk_simp
  rw [after0_6, last_at m c t ((flush0_6 t).mp hf)]
  pointwise [dWeight, term]
  blk_point [idx t]

end Cert.NormGrad

end
-- ==== Proof.Norm.Backward.lean ====
/-
  The backward call of the norm before the gated unit: the gradient of its input, with the residual's cotangent added,
  and the gradient of its weight.

  The weight's gradient is summed over 43 points; each adds its 192 rows into eight partial sums, which the last point
  adds up.
-/
module

public import proofs.«01_k».proof.Defs
public import proofs.«01_k».proof.Proof.Norm.BackwardKernel
public import proofs.«01_k».proof.Proof.Swiglu.Ref
public import proofs.«01_k».proof.Proof.Gen.Reference5Ideal.Run
public import proofs.«01_k».proof.Proof.Norm.Scalar
public import proofs.«01_k».proof.Proof.Gen.Pre_finite5
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormGrad

open Cert.Kernel5Ideal Cert.Kernel5Ideal.Gen

variable (m : (ℓ : Loc nD τ sig) → Buf (Elt Ideal) ℓ)

theorem reference_frame : Cert.quiescent_Reference5Ideal := fun m g _ =>
  (θ_run Cert.Reference5Ideal.defs _ _).mono
    (fun r h => ⟨fun c => ⟨(h c).2.2.2.1, (h c).2.2.2.2.1, (h c).2.2.2.2.2.1, (h c).2.2.2.2.2.2⟩, sem_eq_zero_of_no_sems rfl r.2⟩)
    (Cert.Reference5Ideal.Value.run m g)

/-- The precondition, at an index: what is normed, the weight and the cotangent hold real numbers. -/
theorem real_of_pre [Cert.Pre_finite5.Facts] {H : FVec Ideal S8256x2048 .f32} {W : FVec Ideal S1x2048 .f32} {D R : FVec Ideal S8256x2048 .f32}
    (h : Cert.Pre_finite5.fn (F := Ideal) H W D R = fun _ => 1#1) :
    (∀ i, ∃ r : ℝ, H i = (r : EReal)) ∧ (∀ i, ∃ r : ℝ, W i = (r : EReal)) ∧ (∀ i, ∃ r : ℝ, D i = (r : EReal)) := by
  have h0 := congrFun h (fun a => a.elim0)
  simp only [Cert.Pre_finite5.fn] at h0
  rw [andi_apply, IntOp.andi_eq_one, andi_apply, IntOp.andi_eq_one] at h0
  obtain ⟨⟨hH, hW⟩, hD⟩ := h0
  exact ⟨fun i => Cert.Swiglu.real_of_word (H i) (Host.reduce_andi_all _ _ _ _ _ hH i),
    fun i => Cert.Swiglu.real_of_word (W i) (Host.reduce_andi_all _ _ _ _ _ hW i),
    fun i => Cert.Swiglu.real_of_word (D i) (Host.reduce_andi_all _ _ _ _ _ hD i)⟩

theorem algebraic [Cert.Pre_finite5.Facts] : Cert.algebraic_Kernel5Ideal_Reference5Ideal_pre_finite5 := by
  pair_intro
  · run_from Cert.Kernel5Ideal.Gen.run_main m g
  · refine θ_run_mono (Cert.Reference5Ideal.Value.run m' g') fun r hr c => ?_
    obtain ⟨h1, h2, h3, ha⟩ := hr c
    obtain ⟨hH, hW, hD⟩ := real_of_pre (hpre c)
    obtain ⟨e0, e1, e2, e3⟩ := hagree c
    refine ⟨h1.trans ?_, h2.trans ?_, h3.trans ?_, ha⟩
    · rw [e0, e1, e2, e3, final4 m c]
      funext i
      pointwise [dIn, ratio]
      exact Cert.Norm.grad_at _ _ _ (fun k => hH _) (fun k => hD _) (fun k => hW _) _ _ _ _ (hH _) (hD _) (hW _) _ _ _ rfl rfl rfl
    · rw [e0, e1, e2, e3, final5 m c]
      funext i
      pointwise [dIn, ratio]
      exact Cert.Norm.grad_at _ _ _ (fun k => hH _) (fun k => hD _) (fun k => hW _) _ _ _ _ (hH _) (hD _) (hW _) _ _ _ rfl rfl rfl
    · rw [e0, e2, final6 m c]
      funext i
      pointwise [dWeight, term, ratio]
      exact Fin.sum_fin_congr fun l => mul_comm _ _

end Cert.NormGrad

end
-- ==== Proof.Norm.LossKernel.lean ====
/-
  The loss head: the last norm, the error against the target on the rows that have one, the loss, and the gradients of the
  norm's input and of its weight, in one call.

  The rows before row 64 have no target; their error counts as zero. The weight's gradient and the loss are summed over 43
  points; each adds its 192 rows into eight partial sums, which the last point adds up.
-/
module

public import proofs.«01_k».proof.Defs
public import proofs.«01_k».proof.Proof.Gen.Kernel6Ideal.Frame
public import proofs.«01_k».proof.Proof.Norm.Scalar
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.LossHead

open Cert.Kernel6Ideal Cert.Kernel6Ideal.Gen

variable (m : (ℓ : Loc nD τ sig) → Buf (Elt Ideal) ℓ)

section Defs

variable (H : FVec Ideal S8256x2048 .f32) (W : FVec Ideal S1x2048 .f32) (T : FVec Ideal S8192x2048 .f32)

/-- The reciprocal root of a row's mean square. -/
def ratio (l : Fin 8256) : EReal :=
  Ideal.rsqrt (Ideal.div (∑ k : Fin 2048, H (ix2 l k) * H (ix2 l k) : EReal) (Ideal.ofBits .f32 0x45000000#32)
    + Ideal.ofBits .f32 0x358637BD#32)

/-- The error of an entry, zero on the rows without a target. -/
def err (l : Fin 8256) (k : Fin 2048) : EReal :=
  if 64 ≤ l.val then H (ix2 l k) * ratio H l * W (ix2 0 k) - T (ix2 ⟨l.val - 64, by omega⟩ k) else 0

/-- The loss's derivative by a normed entry. -/
def dy (l : Fin 8256) (k : Fin 2048) : EReal := err H W T l k * Ideal.ofBits .f32 0x3A000000#32

/-- The gradient of the norm's input, at row `l` and column `j`. -/
def dRow (l : Fin 8256) (j : Fin 2048) : EReal :=
  ratio H l * (dy H W T l j * W (ix2 0 j) - H (ix2 l j) * ratio H l
    * Ideal.div (∑ k : Fin 2048, dy H W T l k * W (ix2 0 k) * (H (ix2 l k) * ratio H l)) (Ideal.ofBits .f32 0x45000000#32))

/-- The gradient of the norm's input. -/
def dIn : FVec Ideal S8256x2048 .f32 := fun i => dRow H W T (i 0) (i 1)

/-- A row's term of the weight's gradient. -/
def term (j : Fin 2048) (l : Fin 8256) : EReal := dy H W T l j * (H (ix2 l j) * ratio H l)

/-- A row's squared error in a column. -/
def sq (j : Fin 2048) (l : Fin 8256) : EReal := err H W T l j * err H W T l j

/-- The gradient of the weight. -/
def dWeight : FVec Ideal S1x2048 .f32 := fun i => (∑ l : Fin 8256, term H W T (i 1) l : EReal)

/-- The loss, in every lane. -/
def loss : FVec Ideal S1x128 .f32 := fun _ =>
  ((∑ j : Fin 2048, ∑ l : Fin 8256, sq H W T j l) * Ideal.ofBits .f32 0x39800000#32 : EReal)

end Defs

/-- The blocks' places. The three blocks of targets stand one block of 64 rows before the rows they belong to. -/
theorem idx : ∀ t : Fin cfg0.N, win0_0.index t = ![t.val, 0] ∧ win0_1.index t = ![0, 0] ∧ win0_2.index t = ![3 * t.val - 1, 0]
    ∧ win0_3.index t = ![3 * t.val, 0] ∧ win0_4.index t = ![3 * t.val + 1, 0] ∧ win0_5.index t = ![t.val, 0]
    ∧ win0_6.index t = ![t.val, 0] ∧ win0_7.index t = ![0, 0] ∧ win0_8.index t = ![0, 0] :=
  (by decide +kernel : ∀ t : Fin grid0.N, win0_0.index t = ![t.val, 0] ∧ win0_1.index t = ![0, 0] ∧ win0_2.index t = ![3 * t.val - 1, 0]
    ∧ win0_3.index t = ![3 * t.val, 0] ∧ win0_4.index t = ![3 * t.val + 1, 0] ∧ win0_5.index t = ![t.val, 0]
    ∧ win0_6.index t = ![t.val, 0] ∧ win0_7.index t = ![0, 0] ∧ win0_8.index t = ![0, 0])

/-- The one coordinate of a point is its number. -/
theorem coord : ∀ t : Fin cfg0.N, (grid0.coords t 0).val = t.val :=
  (by decide +kernel : ∀ t : Fin grid0.N, (grid0.coords t 0).val = t.val)

/-- Row `a` of the block of point `t`. -/
def row (t : Fin cfg0.N) (a : Fin 192) : Fin 8256 := ⟨t.val * 192 + a.val, by have h := lt_of_lt_of_eq t.isLt N_0; omega⟩

/-- The word the mask compares: the row's number against 64. -/
theorem live (n a : ℕ) (hn : n < 43) (ha : a < 192) :
    IntOp.cmpi .sge (IntOp.addi (Scalar.muli (BitVec.ofNat 32 n) 192#32) (BitVec.ofNat 32 a)) 64#32
      = BitVec.ofBool (decide (64 ≤ n * 192 + a)) := by
  show IntOp.cmpi .sge (IntOp.addi (IntOp.muli (BitVec.ofNat 32 n) (BitVec.ofNat 32 192)) (BitVec.ofNat 32 a)) (BitVec.ofNat 32 64) = _
  rw [WordCmp.muli_ofNat, WordCmp.addi_ofNat, WordCmp.cmpi_sge_ofNat (by norm_num; omega) (by norm_num)]

/-- The error a point computes. -/
theorem err_at (c : Dev nD) (t : Fin cfg0.N) (a : Fin 192) (k : Fin 2048) : k0_pay13 (F := Ideal) (grid0.coords t) (iblk m c 0 t) (iblk m c 2 t) (iblk m c 3 t) (iblk m c 4 t) (iblk m c 1 t) (ix2 a k)
    = err (m ((c : Thread nD τ).loc main_arg0)) (m ((c : Thread nD τ).loc main_arg1)) (m ((c : Thread nD τ).loc main_arg2)) (row t a) k := by
  have hc := coord t
  have hN := lt_of_lt_of_eq t.isLt N_0
  have hl := live t.val a.val hN a.isLt
  pointwise [k0_pay13, k0_pay12, k0_pay11, hc]
  rw [hl]
  by_cases hp : 64 ≤ t.val * 192 + a.val
  · pointwise [hlo_ix, err, row, ratio]
    all_goals first
      | (exfalso; omega)
      | (blk_point [iblk, V, idx t] <;> omega)
  · pointwise [hlo_ix, err, row, ratio]
    all_goals first
      | (exfalso; omega)
      | rw [if_neg hp, if_neg hp]

/-- The gradient of the norm's input a point computes. -/
def blkIn (c : Dev nD) (t : Fin cfg0.N) : FVec Ideal S192x2048 .f32 :=
  k0_pay1 (k0_pay11 (iblk m c 0 t)) (k0_pay12 (iblk m c 0 t)) (k0_pay15 (grid0.coords t) (iblk m c 0 t) (iblk m c 2 t) (iblk m c 3 t) (iblk m c 4 t) (iblk m c 1 t) (iblk m c 1 t)) (k0_pay16 (grid0.coords t) (iblk m c 0 t) (iblk m c 2 t) (iblk m c 3 t) (iblk m c 4 t) (iblk m c 1 t) (iblk m c 1 t)) k0_pay17

theorem blkIn_at (c : Dev nD) (t : Fin cfg0.N) (a : Fin 192) (j : Fin 2048) : blkIn m c t (ix2 a j)
    = dRow (m ((c : Thread nD τ).loc main_arg0)) (m ((c : Thread nD τ).loc main_arg1)) (m ((c : Thread nD τ).loc main_arg2)) (row t a) j := by
  unfold blkIn
  pointwise [k0_pay1, k0_pay11, k0_pay12, k0_pay14, k0_pay15, k0_pay16, k0_pay17]
  simp only [err_at m c t]
  unfold dRow dy ratio row
  blk_point [iblk, V, idx t]

/-- A point's own part of the weight's gradient: the rows of a block that leave the same remainder by eight. -/
def part (c : Dev nD) (t : Fin cfg0.N) : FVec Ideal S8x2048 .f32 := k0_pay3 (k0_pay12 (iblk m c 0 t)) (k0_pay14 (grid0.coords t) (iblk m c 0 t) (iblk m c 2 t) (iblk m c 3 t) (iblk m c 4 t) (iblk m c 1 t))

/-- A point's own part of the squared errors. -/
def sqPart (c : Dev nD) (t : Fin cfg0.N) : FVec Ideal S8x2048 .f32 := k0_pay4 (k0_pay13 (grid0.coords t) (iblk m c 0 t) (iblk m c 2 t) (iblk m c 3 t) (iblk m c 4 t) (iblk m c 1 t))

theorem part_at (c : Dev nD) (p : Fin cfg0.N) (s : Fin 8) (j : Fin 2048) : part m c p (ix2 s j)
    = (∑ q : Fin 24, term (m ((c : Thread nD τ).loc main_arg0)) (m ((c : Thread nD τ).loc main_arg1)) (m ((c : Thread nD τ).loc main_arg2)) j (row p ⟨q.val * 8 + s.val, by omega⟩) : EReal) := by
  unfold part
  pointwise [k0_pay3, k0_pay11, k0_pay12, k0_pay14]
  simp only [err_at m c p]
  unfold term dy ratio row
  blk_point [iblk, V, idx p]

theorem sqPart_at (c : Dev nD) (p : Fin cfg0.N) (s : Fin 8) (j : Fin 2048) : sqPart m c p (ix2 s j)
    = (∑ q : Fin 24, sq (m ((c : Thread nD τ).loc main_arg0)) (m ((c : Thread nD τ).loc main_arg1)) (m ((c : Thread nD τ).loc main_arg2)) j (row p ⟨q.val * 8 + s.val, by omega⟩) : EReal) := by
  unfold sqPart
  pointwise [k0_pay4]
  simp only [err_at m c p]
  rfl

/-- What a point leaves for the gradient of the input, whatever the point. -/
theorem outs5 (c : Dev nD) (t : Fin cfg0.N) (y : S192x2048.Idx) : (outsAt0 m c t.val t.isLt).1 y = blkIn m c t y := by
  have hN := lt_of_lt_of_eq t.isLt N_0
  by_cases h0 : t.val % 43 = 0
  · rw [outsAt0_A m c t h0 (by omega) (by omega)]
    frame_out
    rfl
  · by_cases h2 : t.val % 43 = 42
    · rw [outsAt0_C m c t h0 (by omega) h2]
      frame_out
      rfl
    · rw [outsAt0_B m c t h0 (by omega) h2]
      frame_out
      rfl

theorem outs6 (c : Dev nD) (t : Fin cfg0.N) (y : S192x2048.Idx) : (outsAt0 m c t.val t.isLt).2.1 y
    = truncf .bf16 (blkIn m c t) bitsLt_bf16_f32 y := by
  have hN := lt_of_lt_of_eq t.isLt N_0
  by_cases h0 : t.val % 43 = 0
  · rw [outsAt0_A m c t h0 (by omega) (by omega)]
    frame_out
    rfl
  · by_cases h2 : t.val % 43 = 42
    · rw [outsAt0_C m c t h0 (by omega) h2]
      frame_out
      rfl
    · rw [outsAt0_B m c t h0 (by omega) h2]
      frame_out
      rfl

theorem final5 (c : Dev nD) : (dats m 0 c).arrAt 5 (cfgs 0).N = dIn (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, outs5, show blkIn m c t y = _ from (congrArg _ (eq_ix2 y)).trans (blkIn_at m c t (y 0) (y 1))]
  show dIn (m ((c : Thread nD τ).loc main_arg0)) (m ((c : Thread nD τ).loc main_arg1)) (m ((c : Thread nD τ).loc main_arg2)) (ix2 (row t (y 0)) (y 1)) = _
  generalize dIn (m ((c : Thread nD τ).loc main_arg0)) (m ((c : Thread nD τ).loc main_arg1)) (m ((c : Thread nD τ).loc main_arg2)) = X
  blk_point [row, idx t]

theorem final6 (c : Dev nD) : (dats m 0 c).arrAt 6 (cfgs 0).N = dIn (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, outs6, show truncf .bf16 (blkIn m c t) bitsLt_bf16_f32 y = _ from (congrArg (blkIn m c t) (eq_ix2 y)).trans (blkIn_at m c t (y 0) (y 1))]
  show dIn (m ((c : Thread nD τ).loc main_arg0)) (m ((c : Thread nD τ).loc main_arg1)) (m ((c : Thread nD τ).loc main_arg2)) (ix2 (row t (y 0)) (y 1)) = _
  generalize dIn (m ((c : Thread nD τ).loc main_arg0)) (m ((c : Thread nD τ).loc main_arg1)) (m ((c : Thread nD τ).loc main_arg2)) = X
  blk_point [row, idx t]

theorem step_at (x d : FVec Ideal S192x2048 .f32) (acc : FVec Ideal S8x2048 .f32) (j : S8x2048.Idx) :
    k0_pay7 (F := Ideal) x d acc j = (acc j + k0_pay3 x d j : EReal) := by
  pointwise [k0_pay7]

theorem first_at (x d : FVec Ideal S192x2048 .f32) (j : S8x2048.Idx) : k0_pay5 (F := Ideal) x d j = k0_pay3 (F := Ideal) x d j := by
  pointwise [k0_pay5]

theorem sqStep_at (e : FVec Ideal S192x2048 .f32) (acc : FVec Ideal S8x2048 .f32) (j : S8x2048.Idx) :
    k0_pay8 (F := Ideal) e acc j = (acc j + k0_pay4 e j : EReal) := by
  pointwise [k0_pay8]

theorem sqFirst_at (e : FVec Ideal S192x2048 .f32) (j : S8x2048.Idx) : k0_pay6 (F := Ideal) e j = k0_pay4 (F := Ideal) e j := by
  pointwise [k0_pay6]

/-- The partial sums of the weight's gradient at the last point. -/
theorem acc_at (c : Dev nD) (t : Fin cfg0.N) (h : t.val % 43 = 43 - 1) (j : S8x2048.Idx) : (outsAt0 m c t.val t.isLt).2.2.2.2.1 j
    = (∑ s : Fin 43, part m c ⟨43 * (t.val / 43) + s.val, Pipeline.run_point_lt_of_flush t h s⟩ j : EReal) := by
  refine (Pipeline.eq_sum_fin_of_reset_step_apply_of_flush (M := EReal) (fun n h => (outsAt0 m c n h).2.2.2.2.1) 43 (fun _ => 0)
    (fun t j => part m c t j) (fun t h0 j => ?_) (fun t h0 j => ?_) t h j).trans (zero_add _)
  · have hN := lt_of_lt_of_eq t.isLt N_0
    rw [outsAt0_A m c t h0 (by omega) (by omega)]
    frame_out
    rw [zero_add]
    exact first_at _ _ j
  · have hN := lt_of_lt_of_eq t.isLt N_0
    by_cases h2 : t.val % 43 = 42
    · rw [outsAt0_C m c t h0 (by omega) h2]
      frame_out
      simp only [read_unread_whole]
      exact step_at _ _ _ j
    · rw [outsAt0_B m c t h0 (by omega) h2]
      frame_out
      simp only [read_unread_whole]
      exact step_at _ _ _ j

/-- The partial sums of the squared errors at the last point. -/
theorem sqAcc_at (c : Dev nD) (t : Fin cfg0.N) (h : t.val % 43 = 43 - 1) (j : S8x2048.Idx) : (outsAt0 m c t.val t.isLt).2.2.2.2.2 j
    = (∑ s : Fin 43, sqPart m c ⟨43 * (t.val / 43) + s.val, Pipeline.run_point_lt_of_flush t h s⟩ j : EReal) := by
  refine (Pipeline.eq_sum_fin_of_reset_step_apply_of_flush (M := EReal) (fun n h => (outsAt0 m c n h).2.2.2.2.2) 43 (fun _ => 0)
    (fun t j => sqPart m c t j) (fun t h0 j => ?_) (fun t h0 j => ?_) t h j).trans (zero_add _)
  · have hN := lt_of_lt_of_eq t.isLt N_0
    rw [outsAt0_A m c t h0 (by omega) (by omega)]
    frame_out
    rw [zero_add]
    exact sqFirst_at _ j
  · have hN := lt_of_lt_of_eq t.isLt N_0
    by_cases h2 : t.val % 43 = 42
    · rw [outsAt0_C m c t h0 (by omega) h2]
      frame_out
      simp only [read_unread_whole]
      exact sqStep_at _ _ j
    · rw [outsAt0_B m c t h0 (by omega) h2]
      frame_out
      simp only [read_unread_whole]
      exact sqStep_at _ _ j

/-- A point of the one run, by its number. -/
theorem point_eq (t : Fin cfg0.N) (h : t.val % 43 = 42) (s : Fin 43) :
    (⟨43 * (t.val / 43) + s.val, Pipeline.run_point_lt_of_flush t h s⟩ : Fin cfg0.N) = ⟨s.val, lt_of_lt_of_eq s.isLt N_0.symm⟩ :=
  Fin.ext (by have hN := lt_of_lt_of_eq t.isLt N_0; show 43 * (t.val / 43) + s.val = s.val; omega)

/-- The eight partial sums of the weight's gradient, in terms of the whole arrays. -/
theorem sum_at (c : Dev nD) (t : Fin cfg0.N) (h : t.val % 43 = 42) (s : Fin 8) (j : Fin 2048) : (outsAt0 m c t.val t.isLt).2.2.2.2.1 (ix2 s j)
    = (∑ p : Fin 43, ∑ q : Fin 24, term (m ((c : Thread nD τ).loc main_arg0)) (m ((c : Thread nD τ).loc main_arg1)) (m ((c : Thread nD τ).loc main_arg2)) j ⟨p.val * 192 + (q.val * 8 + s.val), by omega⟩ : EReal) := by
  rw [acc_at m c t h]
  refine Finset.sum_congr rfl fun p _ => ?_
  rw [point_eq t h p]
  exact part_at m c ⟨p.val, lt_of_lt_of_eq p.isLt N_0.symm⟩ s j

/-- The eight partial sums of the squared errors, in terms of the whole arrays. -/
theorem sqSum_at (c : Dev nD) (t : Fin cfg0.N) (h : t.val % 43 = 42) (s : Fin 8) (j : Fin 2048) : (outsAt0 m c t.val t.isLt).2.2.2.2.2 (ix2 s j)
    = (∑ p : Fin 43, ∑ q : Fin 24, sq (m ((c : Thread nD τ).loc main_arg0)) (m ((c : Thread nD τ).loc main_arg1)) (m ((c : Thread nD τ).loc main_arg2)) j ⟨p.val * 192 + (q.val * 8 + s.val), by omega⟩ : EReal) := by
  rw [sqAcc_at m c t h]
  refine Finset.sum_congr rfl fun p _ => ?_
  rw [point_eq t h p]
  exact sqPart_at m c ⟨p.val, lt_of_lt_of_eq p.isLt N_0.symm⟩ s j

/-- The last point writes the sum of the eight. -/
theorem outs7 (c : Dev nD) (t : Fin cfg0.N) (h : t.val % 43 = 42) (y : S1x2048.Idx) : (outsAt0 m c t.val t.isLt).2.2.1 y
    = k0_pay9 (F := Ideal) (outsAt0 m c t.val t.isLt).2.2.2.2.1 y := by
  rw [outsAt0_C m c t (by omega) (by omega) h]
  frame_out

theorem outs8 (c : Dev nD) (t : Fin cfg0.N) (h : t.val % 43 = 42) (y : S1x128.Idx) : (outsAt0 m c t.val t.isLt).2.2.2.1 y
    = k0_pay10 (F := Ideal) (outsAt0 m c t.val t.isLt).2.2.2.2.2 y := by
  rw [outsAt0_C m c t (by omega) (by omega) h]
  frame_out

theorem eight_at (x : FVec Ideal S8x2048 .f32) (y : S1x2048.Idx) : k0_pay9 (F := Ideal) x y = (∑ s : Fin 8, x (ix2 s (y 1)) : EReal) := by
  pointwise [k0_pay9]

theorem all_at (x : FVec Ideal S8x2048 .f32) (y : S1x128.Idx) : k0_pay10 (F := Ideal) x y
    = ((∑ j : Fin 2048, ∑ s : Fin 8, x (ix2 s j)) * Ideal.ofBits .f32 0x39800000#32 : EReal) := by
  pointwise [k0_pay10]

theorem final7 (c : Dev nD) : (dats m 0 c).arrAt 7 (cfgs 0).N = dWeight (m ((c : Thread nD τ).loc main_arg0)) (m ((c : Thread nD τ).loc main_arg1)) (m ((c : Thread nD τ).loc main_arg2)) := by
  refine (dats m 0 c).arrAt_eq_of_covers 7 _ (by decide +kernel) fun t hf y => ?_
  have h := (flush0_7 t).mp hf
  have e : (outsAt0 m c t.val t.isLt).2.2.1 y = (∑ l : Fin 8256, term (m ((c : Thread nD τ).loc main_arg0)) (m ((c : Thread nD τ).loc main_arg1)) (m ((c : Thread nD τ).loc main_arg2)) (y 1) l : EReal) := by
    rw [outs7 m c t h, eight_at]
    exact (Finset.sum_congr rfl fun s _ => sum_at m c t h s (y 1)).trans (Cert.Norm.sum_rows fun s p q hl => rfl)
  blk_simp
  rw [after0_7, e]
  show dWeight (m ((c : Thread nD τ).loc main_arg0)) (m ((c : Thread nD τ).loc main_arg1)) (m ((c : Thread nD τ).loc main_arg2)) (ix2 0 (y 1)) = _
  generalize dWeight (m ((c : Thread nD τ).loc main_arg0)) (m ((c : Thread nD τ).loc main_arg1)) (m ((c : Thread nD τ).loc main_arg2)) = X
  blk_point [idx t]

theorem final8 (c : Dev nD) : (dats m 0 c).arrAt 8 (cfgs 0).N = loss (m ((c : Thread nD τ).loc main_arg0)) (m ((c : Thread nD τ).loc main_arg1)) (m ((c : Thread nD τ).loc main_arg2)) := by
  refine (dats m 0 c).arrAt_eq_of_covers 8 _ (by decide +kernel) fun t hf y => ?_
  have h := (flush0_8 t).mp hf
  blk_simp
  rw [after0_8, outs8 m c t h, all_at]
  refine congrArg (fun s : EReal => s * Ideal.ofBits .f32 0x39800000#32) (Finset.sum_congr rfl fun j _ => ?_)
  exact (Finset.sum_congr rfl fun s _ => sqSum_at m c t h s j).trans (Cert.Norm.sum_rows fun s p q hl => rfl)

end Cert.LossHead

end
-- ==== Proof.Norm.LossScalar.lean ====
/-
  The loss over the reals: the scale of its derivative, its value summed by rows or by columns, and the rows without a target.
-/
module

public import proofs.«01_k».proof.Proof.Norm.Scalar

@[expose] public section

namespace Cert.Norm

open Idealize.ShloMosaic

/-- The words of one half, one, two, and the reciprocals of 2048 and 4096 at f32. -/
theorem ofBits_half : Ideal.ofBits .f32 0x3F000000#32 = ((1 / 2 : ℝ) : EReal) := by
  simp [Ideal.ofBits, Ideal.ieee, -EReal.coe_mul]
  norm_num

theorem ofBits_one : Ideal.ofBits .f32 0x3F800000#32 = ((1 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_inv_2048 : Ideal.ofBits .f32 0x3A000000#32 = ((1 / 2048 : ℝ) : EReal) := by
  simp [Ideal.ofBits, Ideal.ieee, -EReal.coe_mul]
  norm_num

theorem ofBits_inv_4096 : Ideal.ofBits .f32 0x39800000#32 = ((1 / 4096 : ℝ) : EReal) := by
  simp [Ideal.ofBits, Ideal.ieee, -EReal.coe_mul]
  norm_num

/-- The derivative of half the mean of squares. -/
theorem dy_real {e : EReal} (he : ∃ r : ℝ, e = (r : EReal)) :
    Ideal.div (Ideal.ofBits .f32 0x3F000000#32 * Ideal.ofBits .f32 0x3F800000#32) (Ideal.ofBits .f32 0x45000000#32)
      * (Ideal.ofBits .f32 0x40000000#32 * e) = e * Ideal.ofBits .f32 0x3A000000#32 := by
  obtain ⟨e, rfl⟩ := he
  rw [ofBits_half, ofBits_one, ofBits_two, ofBits_2048, ofBits_inv_2048, ← EReal.coe_mul, ← EReal.coe_mul, ← EReal.coe_mul,
    div_real _ (by norm_num), ← EReal.coe_mul]
  exact congrArg _ (by ring)

/-- Half the sum of the rows' means of squares, summed by columns. -/
theorem loss_real {n : ℕ} (E : Fin n → Fin 2048 → EReal) (hE : ∀ l k, ∃ r : ℝ, E l k = (r : EReal)) :
    Ideal.ofBits .f32 0x3F000000#32 * ∑ l, Ideal.div (∑ k, E l k * E l k) (Ideal.ofBits .f32 0x45000000#32)
      = (∑ k, ∑ l, E l k * E l k) * Ideal.ofBits .f32 0x39800000#32 := by
  choose e he using hE
  rw [Finset.sum_comm]
  simp only [he, ofBits_half, ofBits_2048, ofBits_inv_4096, ← EReal.coe_mul, sum_real, div_real _ (show (2048 : ℝ) ≠ 0 by norm_num)]
  refine congrArg _ ?_
  rw [Finset.mul_sum, Finset.sum_mul]
  exact Finset.sum_congr rfl fun l _ => by ring

/-- A row's reciprocal root is a real number. -/
theorem root_real (x : Fin 2048 → EReal) (hx : ∀ k, ∃ r : ℝ, x k = (r : EReal)) :
    ∃ r : ℝ, Ideal.rsqrt (Ideal.div (∑ k, x k * x k) (Ideal.ofBits .f32 0x45000000#32) + Ideal.ofBits .f32 0x358637BD#32) = (r : EReal) := by
  choose X hX using hx
  obtain ⟨e, he, hE⟩ := ofBits_eps
  refine ⟨(Real.sqrt ((∑ k, X k * X k) / 2048 + e))⁻¹, ?_⟩
  simp only [hX, ← EReal.coe_mul, sum_real, ofBits_2048, hE]
  rw [div_real _ (by norm_num), ← EReal.coe_add]
  exact rsqrt_pos (mean_pos X 2048 e (by norm_num) he)

/-- A sum over 8256 rows whose first 64 are zero. -/
theorem sum_tail {M : Type*} {_ : AddCommMonoid M} (f : Fin 8256 → M) (h : ∀ l : Fin 8256, l.val < 64 → f l = 0) :
    ∑ l, f l = ∑ l : Fin 8192, f ⟨64 + l.val, by omega⟩ := by
  have e : ∑ l, f l = ∑ i : Fin 64, f ⟨i.val, by omega⟩ + ∑ l : Fin 8192, f ⟨64 + l.val, by omega⟩ :=
    Fin.sum_univ_add (a := 64) (b := 8192) f
  rw [e, Finset.sum_eq_zero fun i _ => h _ i.isLt, zero_add]

end Cert.Norm

end
-- ==== Proof.Norm.LossHead.lean ====
/-
  The loss head: the loss of the last norm's output against the target, and the gradients of the norm's input and weight.

  The first 64 rows have no target; their error is zero, and so is their gradient. The loss and the weight's gradient are
  summed over 43 points.
-/
module

public import proofs.«01_k».proof.Defs
public import proofs.«01_k».proof.Proof.Norm.LossKernel
public import proofs.«01_k».proof.Proof.Norm.LossScalar
public import proofs.«01_k».proof.Proof.Swiglu.Ref
public import proofs.«01_k».proof.Proof.Gen.Reference6Ideal.Run
public import proofs.«01_k».proof.Proof.Gen.Pre_finite6
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossHead

open Cert.Kernel6Ideal Cert.Kernel6Ideal.Gen

theorem reference_frame : Cert.quiescent_Reference6Ideal := fun m g _ =>
  (θ_run Cert.Reference6Ideal.defs _ _).mono
    (fun r h => ⟨fun c => ⟨(h c).2.2.2.2.1, (h c).2.2.2.2.2.1, (h c).2.2.2.2.2.2⟩, sem_eq_zero_of_no_sems rfl r.2⟩)
    (Cert.Reference6Ideal.Value.run m g)

/-- The precondition, at an index: what is normed, the weight and the target hold real numbers. -/
theorem real_of_pre [Cert.Pre_finite6.Facts] {H : FVec Ideal S8256x2048 .f32} {W : FVec Ideal S1x2048 .f32} {T : FVec Ideal S8192x2048 .f32}
    (h : Cert.Pre_finite6.fn (F := Ideal) H W T = fun _ => 1#1) :
    (∀ i, ∃ r : ℝ, H i = (r : EReal)) ∧ (∀ i, ∃ r : ℝ, W i = (r : EReal)) ∧ (∀ i, ∃ r : ℝ, T i = (r : EReal)) := by
  have h0 := congrFun h (fun a => a.elim0)
  simp only [Cert.Pre_finite6.fn] at h0
  rw [andi_apply, IntOp.andi_eq_one, andi_apply, IntOp.andi_eq_one] at h0
  obtain ⟨⟨hH, hW⟩, hT⟩ := h0
  exact ⟨fun i => Cert.Swiglu.real_of_word (H i) (Host.reduce_andi_all _ _ _ _ _ hH i),
    fun i => Cert.Swiglu.real_of_word (W i) (Host.reduce_andi_all _ _ _ _ _ hW i),
    fun i => Cert.Swiglu.real_of_word (T i) (Host.reduce_andi_all _ _ _ _ _ hT i)⟩

section Rows

variable {H : FVec Ideal S8256x2048 .f32} {W : FVec Ideal S1x2048 .f32} {T : FVec Ideal S8192x2048 .f32}

theorem ratio_real (hH : ∀ i, ∃ r : ℝ, H i = (r : EReal)) (l : Fin 8256) : ∃ r : ℝ, ratio H l = (r : EReal) :=
  Cert.Norm.root_real (fun k => H (ix2 l k)) fun k => hH _

theorem err_real (hH : ∀ i, ∃ r : ℝ, H i = (r : EReal)) (hW : ∀ i, ∃ r : ℝ, W i = (r : EReal)) (hT : ∀ i, ∃ r : ℝ, T i = (r : EReal))
    (l : Fin 8256) (k : Fin 2048) : ∃ r : ℝ, err H W T l k = (r : EReal) := by
  obtain ⟨q, hq⟩ := ratio_real hH l
  obtain ⟨a, ha⟩ := hH (ix2 l k)
  obtain ⟨w, hw⟩ := hW (ix2 0 k)
  obtain ⟨t, ht⟩ := hT (ix2 ⟨l.val - 64, by omega⟩ k)
  unfold err
  split
  · exact ⟨a * q * w - t, by rw [hq, ha, hw, ht]; push_cast; rfl⟩
  · exact ⟨0, rfl⟩

theorem err_zero (l : Fin 8256) (h : l.val < 64) (k : Fin 2048) : err H W T l k = 0 := if_neg (by omega)

theorem err_tail (l : Fin 8192) (k : Fin 2048) : err H W T ⟨64 + l.val, by omega⟩ k
    = H (ix2 ⟨64 + l.val, by omega⟩ k) * ratio H ⟨64 + l.val, by omega⟩ * W (ix2 0 k) - T (ix2 l k) := by
  refine (if_pos (Nat.le_add_right _ _)).trans ?_
  have e : (⟨64 + l.val - 64, by omega⟩ : Fin 8192) = l := Fin.ext (Nat.add_sub_cancel_left _ _)
  exact congrArg (fun i : Fin 8192 => H (ix2 ⟨64 + l.val, by omega⟩ k) * ratio H ⟨64 + l.val, by omega⟩ * W (ix2 0 k) - T (ix2 i k)) e

/-- The rows without a target have no gradient. -/
theorem dRow_zero (l : Fin 8256) (h : l.val < 64) (j : Fin 2048) : dRow H W T l j = 0 := by
  have e : ∀ k, dy H W T l k = 0 := fun k => by rw [dy, err_zero l h, zero_mul]
  unfold dRow
  simp only [e, zero_mul, Finset.sum_const_zero]
  have z : Ideal.div 0 (Ideal.ofBits .f32 0x45000000#32) = 0 := by
    rw [Cert.Norm.ofBits_2048]
    exact (Cert.Norm.div_real 0 (by norm_num)).trans (by norm_num)
  rw [z, mul_zero, sub_zero, mul_zero]

/-- The derivative by a normed entry, as the chain rule writes it. -/
theorem dy_tail (hH : ∀ i, ∃ r : ℝ, H i = (r : EReal)) (hW : ∀ i, ∃ r : ℝ, W i = (r : EReal)) (hT : ∀ i, ∃ r : ℝ, T i = (r : EReal))
    (l : Fin 8192) (k : Fin 2048) : Ideal.div (Ideal.ofBits .f32 0x3F000000#32) (Ideal.ofBits .f32 0x45000000#32)
      * (Ideal.ofBits .f32 0x40000000#32 * (H (ix2 ⟨64 + l.val, by omega⟩ k) * ratio H ⟨64 + l.val, by omega⟩ * W (ix2 0 k) - T (ix2 l k)))
      = dy H W T ⟨64 + l.val, by omega⟩ k := by
  have h := Cert.Norm.dy_real (err_real hH hW hT ⟨64 + l.val, by omega⟩ k)
  rw [Cert.Norm.ofBits_one, EReal.coe_one, mul_one] at h
  rw [← err_tail, dy]
  exact h

/-- The gradient of a row with a target, as the chain rule writes it. -/
theorem grad_tail (hH : ∀ i, ∃ r : ℝ, H i = (r : EReal)) (hW : ∀ i, ∃ r : ℝ, W i = (r : EReal)) (hT : ∀ i, ∃ r : ℝ, T i = (r : EReal))
    (d : Fin 2048 → EReal) (l : Fin 8192) (hd : ∀ k, d k = dy H W T ⟨64 + l.val, by omega⟩ k) (j : Fin 2048) (v : EReal)
    (hv : v = Ideal.div (∑ k : Fin 2048, H (ix2 ⟨64 + l.val, by omega⟩ k) * H (ix2 ⟨64 + l.val, by omega⟩ k)) (Ideal.ofBits .f32 0x45000000#32) + Ideal.ofBits .f32 0x358637BD#32) :
    d j * W (ix2 0 j) * Ideal.rsqrt v + H (ix2 ⟨64 + l.val, by omega⟩ j) * (∑ _l : Fin 1, Ideal.div ((∑ k, H (ix2 ⟨64 + l.val, by omega⟩ k) * (d k * W (ix2 0 k))) * (Ideal.ofBits .f32 0xBF000000#32 * Ideal.div (Ideal.rsqrt v) v)) (Ideal.ofBits .f32 0x45000000#32))
        + (∑ _l : Fin 1, Ideal.div ((∑ k, H (ix2 ⟨64 + l.val, by omega⟩ k) * (d k * W (ix2 0 k))) * (Ideal.ofBits .f32 0xBF000000#32 * Ideal.div (Ideal.rsqrt v) v)) (Ideal.ofBits .f32 0x45000000#32)) * H (ix2 ⟨64 + l.val, by omega⟩ j)
      = dRow H W T ⟨64 + l.val, by omega⟩ j := by
  obtain rfl : d = fun k => dy H W T ⟨64 + l.val, by omega⟩ k := funext hd
  have hr : ∀ k, ∃ r : ℝ, dy H W T ⟨64 + l.val, by omega⟩ k = (r : EReal) := fun k => by
    obtain ⟨e, he⟩ := err_real hH hW hT ⟨64 + l.val, by omega⟩ k
    exact ⟨e * (1 / 2048), by rw [dy, he, Cert.Norm.ofBits_inv_2048, ← EReal.coe_mul]⟩
  have h := Cert.Norm.grad_at (fun k => H (ix2 ⟨64 + l.val, by omega⟩ k)) (fun k => dy H W T ⟨64 + l.val, by omega⟩ k) (fun k => W (ix2 0 k))
    (fun k => hH _) hr (fun k => hW _) 0 _ _ _ (hH (ix2 ⟨64 + l.val, by omega⟩ j)) (hr j) (hW (ix2 0 j)) v _ _ rfl hv rfl
  simp only [zero_add] at h
  rw [dRow, ratio, ← hv]
  exact h

/-- The weight's gradient, over the rows with a target. -/
theorem weight_tail (hH : ∀ i, ∃ r : ℝ, H i = (r : EReal)) (hW : ∀ i, ∃ r : ℝ, W i = (r : EReal)) (hT : ∀ i, ∃ r : ℝ, T i = (r : EReal))
    (j : Fin 2048) : (∑ l : Fin 8192, H (ix2 ⟨64 + l.val, by omega⟩ j) * ratio H ⟨64 + l.val, by omega⟩
      * (Ideal.div (Ideal.ofBits .f32 0x3F000000#32) (Ideal.ofBits .f32 0x45000000#32)
      * (Ideal.ofBits .f32 0x40000000#32 * (H (ix2 ⟨64 + l.val, by omega⟩ j) * ratio H ⟨64 + l.val, by omega⟩ * W (ix2 0 j) - T (ix2 l j)))))
    = ∑ l : Fin 8256, term H W T j l := by
  rw [Cert.Norm.sum_tail (term H W T j) fun l h => by rw [term, dy, err_zero l h, zero_mul, zero_mul]]
  exact Finset.sum_congr rfl fun l _ => by rw [dy_tail hH hW hT l j, term, mul_comm]

/-- The loss, over the rows with a target. -/
theorem loss_tail (hH : ∀ i, ∃ r : ℝ, H i = (r : EReal)) (hW : ∀ i, ∃ r : ℝ, W i = (r : EReal)) (hT : ∀ i, ∃ r : ℝ, T i = (r : EReal)) :
    Ideal.ofBits .f32 0x3F000000#32 * ∑ l : Fin 8192, Ideal.div (∑ k : Fin 2048,
      (H (ix2 ⟨64 + l.val, by omega⟩ k) * ratio H ⟨64 + l.val, by omega⟩ * W (ix2 0 k) - T (ix2 l k))
      * (H (ix2 ⟨64 + l.val, by omega⟩ k) * ratio H ⟨64 + l.val, by omega⟩ * W (ix2 0 k) - T (ix2 l k))) (Ideal.ofBits .f32 0x45000000#32)
    = (∑ j : Fin 2048, ∑ l : Fin 8256, sq H W T j l) * Ideal.ofBits .f32 0x39800000#32 := by
  refine Eq.trans ?_ ((Cert.Norm.loss_real (fun (l : Fin 8192) k => err H W T ⟨64 + l.val, by omega⟩ k) fun l k => err_real hH hW hT _ k).trans ?_)
  · simp only [err_tail]
  · exact congrArg (fun s : EReal => s * Ideal.ofBits .f32 0x39800000#32) (Finset.sum_congr rfl fun j _ =>
      (Cert.Norm.sum_tail (sq H W T j) fun l h => by rw [sq, err_zero l h, zero_mul]).symm)

end Rows

theorem algebraic [Cert.Pre_finite6.Facts] : Cert.algebraic_Kernel6Ideal_Reference6Ideal_pre_finite6 := by
  pair_intro
  · run_from Cert.Kernel6Ideal.Gen.run_main m g
  · refine θ_run_mono (Cert.Reference6Ideal.Value.run m' g') fun r hr c => ?_
    obtain ⟨h1, h2, h3, h4, ha⟩ := hr c
    obtain ⟨hH, hW, hT⟩ := real_of_pre (hpre c)
    obtain ⟨e0, e1, e2⟩ := hagree c
    refine ⟨h1.trans ?_, h2.trans ?_, h3.trans ?_, h4.trans ?_, ha⟩
    · unfold Cert.Reference6Ideal.Value.res_main_v50
      rw [e0, e1, e2, final5 m c]
      funext i
      pointwise [dIn]
      split
      · rename_i hp
        have hl : (⟨64 + ((i 0).val - 64), by omega⟩ : Fin 8256) = i 0 := Fin.ext (by show 64 + ((i 0).val - 64) = (i 0).val; omega)
        refine Eq.trans ?_ (congrArg (fun l => dRow _ _ _ l (i 1)) hl)
        exact grad_tail hH hW hT _ ⟨(i 0).val - 64, by omega⟩ (fun k => dy_tail hH hW hT _ k) (i 1) _ rfl
      · exact (dRow_zero _ (by omega) _).symm
    · unfold Cert.Reference6Ideal.Value.res_main_v51
      rw [e0, e1, e2, final6 m c]
      funext i
      pointwise [dIn]
      split
      · rename_i hp
        have hl : (⟨64 + ((i 0).val - 64), by omega⟩ : Fin 8256) = i 0 := Fin.ext (by show 64 + ((i 0).val - 64) = (i 0).val; omega)
        refine Eq.trans ?_ (congrArg (fun l => dRow _ _ _ l (i 1)) hl)
        exact grad_tail hH hW hT _ ⟨(i 0).val - 64, by omega⟩ (fun k => dy_tail hH hW hT _ k) (i 1) _ rfl
      · exact (dRow_zero _ (by omega) _).symm
    · rw [e0, e1, e2, final7 m c]
      funext i
      pointwise [dWeight]
      exact weight_tail hH hW hT (i 1)
    · rw [e0, e1, e2, final8 m c]
      funext i
      pointwise [loss]
      exact loss_tail hH hW hT

end Cert.LossHead

end
-- ==== Proof.Products.FfnDown.lean ====
/-
  The second product of the gated unit, added to the residual stream.
-/
module

public import proofs.«01_k».proof.Defs
public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDown

open Cert.Kernel11Ideal Cert.Kernel11Ideal.Gen

variable (m : (ℓ : Loc nD τ sig) → Buf (Elt Ideal) ℓ)

/-- The residual plus row `i 0` of the first factor times column `i 1` of the second. -/
def value (A : FVec Ideal S8256x5632 .bf16) (B : FVec Ideal S5632x2048 .bf16) (H : FVec Ideal S8256x2048 .f32) : FVec Ideal S8256x2048 .f32 := fun i =>
  (H i + ∑ k : Fin 5632, A (ix2 (i 0) k) * B (ix2 k (i 1)) : EReal)

/-- The blocks' places. -/
theorem idx : ∀ t : Fin cfg0.N, win0_0.index t = ![t.val / 8, 0] ∧ win0_1.index t = ![0, t.val % 8] ∧ win0_2.index t = ![t.val / 8, t.val % 8] ∧ win0_3.index t = ![t.val / 8, t.val % 8] :=
  (by decide +kernel : ∀ t : Fin grid0.N, win0_0.index t = ![t.val / 8, 0] ∧ win0_1.index t = ![0, t.val % 8] ∧ win0_2.index t = ![t.val / 8, t.val % 8] ∧ win0_3.index t = ![t.val / 8, t.val % 8])

/-- The result array after the run. -/
theorem final (c : Dev nD) : (dats m 0 c).arrAt 3 (cfgs 0).N
    = value (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, value]
  rw [add_comm]
  blk_point [iblk, V, idx t]

theorem reference_frame : Cert.quiescent_Reference11Ideal := fun m g _ =>
  (θ_run Cert.Reference11Ideal.defs _ _).mono
    (fun r h => ⟨fun c => ⟨(h c).2.1, (h c).2.2.1, (h c).2.2.2⟩, sem_eq_zero_of_no_sems rfl r.2⟩)
    (Cert.Reference11Ideal.Value.run m g)

theorem algebraic : Cert.algebraic_Kernel11Ideal_Reference11Ideal := by
  pair_intro
  · run_from Cert.Kernel11Ideal.Gen.run_main m g
  · run_from Cert.Reference11Ideal.Value.run m' g'
    rw [final m c]
    funext i
    pointwise [value]

end Cert.FfnDown

end
-- ==== Proof.Products.OutProj.lean ====
/-
  The output projection of the mixed heads, added to the residual stream.
-/
module

public import proofs.«01_k».proof.Defs
public import proofs.«01_k».proof.Proof.Gen.Kernel12Ideal.Frame
public import proofs.«01_k».proof.Proof.Gen.Reference12Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProj

open Cert.Kernel12Ideal Cert.Kernel12Ideal.Gen

variable (m : (ℓ : Loc nD τ sig) → Buf (Elt Ideal) ℓ)

/-- The residual plus row `i 0` of the first factor times column `i 1` of the second. -/
def value (A : FVec Ideal S8256x2048 .bf16) (B : FVec Ideal S2048x2048 .bf16) (H : FVec Ideal S8256x2048 .f32) : FVec Ideal S8256x2048 .f32 := fun i =>
  (H i + ∑ k : Fin 2048, A (ix2 (i 0) k) * B (ix2 k (i 1)) : EReal)

/-- The blocks' places. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, win0_0.index t = ![t.val / 4, 0] ∧ win0_1.index t = ![0, t.val % 4] ∧ win0_2.index t = ![t.val / 4, t.val % 4] ∧ win0_3.index t = ![t.val / 4, t.val % 4])

/-- The result array after the run. -/
theorem final (c : Dev nD) : (dats m 0 c).arrAt 3 (cfgs 0).N
    = value (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, value]
  rw [add_comm]
  blk_point [iblk, V, idx t]

theorem reference_frame : Cert.quiescent_Reference12Ideal := fun m g _ =>
  (θ_run Cert.Reference12Ideal.defs _ _).mono
    (fun r h => ⟨fun c => ⟨(h c).2.1, (h c).2.2.1, (h c).2.2.2⟩, sem_eq_zero_of_no_sems rfl r.2⟩)
    (Cert.Reference12Ideal.Value.run m g)

theorem algebraic : Cert.algebraic_Kernel12Ideal_Reference12Ideal := by
  pair_intro
  · run_from Cert.Kernel12Ideal.Gen.run_main m g
  · run_from Cert.Reference12Ideal.Value.run m' g'
    rw [final m c]
    funext i
    pointwise [value]

end Cert.OutProj

end
-- ==== Proof.Swiglu.Forward.lean ====
/-
  The forward call of the gated unit: the gate, the other factor and their gated product.
-/
module

public import proofs.«01_k».proof.Defs
public import proofs.«01_k».proof.Proof.Gen.Kernel13Ideal.Frame
public import proofs.«01_k».proof.Proof.Gen.Reference13Ideal.Run
public import proofs.«01_k».proof.Proof.Swiglu.Scalar
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SwigluForward

open Cert.Kernel13Ideal Cert.Kernel13Ideal.Gen

variable (m : (ℓ : Loc nD τ sig) → Buf (Elt Ideal) ℓ)

/-- Row `i 0` of the activations times row `i 1` of a weight kept transposed. -/
def rowRow (N : FVec Ideal S8256x2048 .bf16) (W : FVec Ideal S5632x2048 .bf16) : FVec Ideal S8256x5632 .bf16 := fun i =>
  (∑ k : Fin 2048, N (ix2 (i 0) k) * W (ix2 (i 1) k) : EReal)

/-- The gated product. -/
def gated (N : FVec Ideal S8256x2048 .bf16) (G U : FVec Ideal S5632x2048 .bf16) : FVec Ideal S8256x5632 .bf16 := fun i =>
  (((rowRow N G i : EReal) * Cert.Swiglu.sigTanh (rowRow N G i)) * (rowRow N U i : EReal) : EReal)

/-- The blocks' places. -/
theorem idx : ∀ t : Fin cfg0.N, win0_0.index t = ![t.val / 11, 0] ∧ win0_1.index t = ![t.val % 11, 0] ∧ win0_2.index t = ![t.val % 11, 0] ∧ win0_3.index t = ![t.val / 11, t.val % 11] ∧ win0_4.index t = ![t.val / 11, t.val % 11] ∧ win0_5.index t = ![t.val / 11, t.val % 11] :=
  (by decide +kernel : ∀ t : Fin grid0.N, win0_0.index t = ![t.val / 11, 0] ∧ win0_1.index t = ![t.val % 11, 0] ∧ win0_2.index t = ![t.val % 11, 0] ∧ win0_3.index t = ![t.val / 11, t.val % 11] ∧ win0_4.index t = ![t.val / 11, t.val % 11] ∧ win0_5.index t = ![t.val / 11, t.val % 11])

theorem point3 (c : Dev nD) (t : Fin cfg0.N) (y : S1376x512.Idx) :
    out0_3 (iblk m c 0 t) (iblk m c 1 t) (iblk m c 2 t) y
      = rowRow (m ((c : Thread nD τ).loc main_arg0)) (m ((c : Thread nD τ).loc main_arg1)) (((cfg0.win 3).blk t).view.emb y) := by
  canon_tiles x h
  · open_payloads
    pointwise [rowRow]
    blk_point [iblk, V, idx t]
  · open_payloads
    pointwise [rowRow]
    blk_point [iblk, V, idx t]

theorem final3 (c : Dev nD) : (dats m 0 c).arrAt 3 (cfgs 0).N
    = rowRow (m ((c : Thread nD τ).loc main_arg0)) (m ((c : Thread nD τ).loc main_arg1)) := by
  refine (dats m 0 c).arrAt_eq_of_covers 3 _ (by decide +kernel) fun t _ y => ?_
  blk_simp
  rw [after0_3]
  exact point3 m c t y

theorem point4 (c : Dev nD) (t : Fin cfg0.N) (y : S1376x512.Idx) :
    out0_4 (iblk m c 0 t) (iblk m c 1 t) (iblk m c 2 t) y
      = rowRow (m ((c : Thread nD τ).loc main_arg0)) (m ((c : Thread nD τ).loc main_arg2)) (((cfg0.win 4).blk t).view.emb y) := by
  canon_tiles x h
  · open_payloads
    pointwise [rowRow]
    blk_point [iblk, V, idx t]
  · open_payloads
    pointwise [rowRow]
    blk_point [iblk, V, idx t]

theorem final4 (c : Dev nD) : (dats m 0 c).arrAt 4 (cfgs 0).N
    = rowRow (m ((c : Thread nD τ).loc main_arg0)) (m ((c : Thread nD τ).loc main_arg2)) := by
  refine (dats m 0 c).arrAt_eq_of_covers 4 _ (by decide +kernel) fun t _ y => ?_
  blk_simp
  rw [after0_4]
  exact point4 m c t y

theorem point5 (c : Dev nD) (t : Fin cfg0.N) (y : S1376x512.Idx) :
    out0_5 (iblk m c 0 t) (iblk m c 1 t) (iblk m c 2 t) y
      = gated (m ((c : Thread nD τ).loc main_arg0)) (m ((c : Thread nD τ).loc main_arg1)) (m ((c : Thread nD τ).loc main_arg2)) (((cfg0.win 5).blk t).view.emb y) := by
  canon_tiles x h
  · open_payloads
    pointwise [gated, rowRow, Cert.Swiglu.sigTanh]
    blk_point [iblk, V, idx t]
  · open_payloads
    pointwise [gated, rowRow, Cert.Swiglu.sigTanh]
    blk_point [iblk, V, idx t]

theorem final5 (c : Dev nD) : (dats m 0 c).arrAt 5 (cfgs 0).N
    = gated (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y

theorem reference_frame : Cert.quiescent_Reference13Ideal := fun m g _ =>
  (θ_run Cert.Reference13Ideal.defs _ _).mono
    (fun r h => ⟨fun c => ⟨(h c).2.2.2.1, (h c).2.2.2.2.1, (h c).2.2.2.2.2⟩, sem_eq_zero_of_no_sems rfl r.2⟩)
    (Cert.Reference13Ideal.Value.run m g)

theorem algebraic : Cert.algebraic_Kernel13Ideal_Reference13Ideal := by
  pair_intro
  · run_from Cert.Kernel13Ideal.Gen.run_main m g
  · run_from Cert.Reference13Ideal.Value.run m' g'
    · rw [final3 m c]
      funext i
      pointwise [rowRow]
    · rw [final4 m c]
      funext i
      pointwise [rowRow]
    · rw [final5 m c]
      funext i
      simp only [gated, Cert.Swiglu.sigTanh_eq]
      pointwise [rowRow, Cert.Swiglu.sigExp]

end Cert.SwigluForward

end
-- ==== Proof.Norm.Forward.lean ====
/-
  The forward call of the norm before the gated unit.
-/
module

public import proofs.«01_k».proof.Defs
public import proofs.«01_k».proof.Proof.Gen.Kernel14Ideal.Frame
public import proofs.«01_k».proof.Proof.Gen.Reference14Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormForward

open Cert.Kernel14Ideal Cert.Kernel14Ideal.Gen

variable (m : (ℓ : Loc nD τ sig) → Buf (Elt Ideal) ℓ)

/-- An entry over the root of its row's mean square, times the weight. -/
def normed (H : FVec Ideal S8256x2048 .f32) (W : FVec Ideal S1x2048 .f32) : FVec Ideal S8256x2048 .bf16 := fun i =>
  (H i * Ideal.rsqrt (Ideal.div (∑ k : Fin 2048, H (ix2 (i 0) k) * H (ix2 (i 0) k) : EReal) (Ideal.ofBits .f32 0x45000000#32)
    + Ideal.ofBits .f32 0x358637BD#32) * W (ix2 0 (i 1)) : EReal)

/-- The blocks' places. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem final (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, normed]
  blk_point [iblk, V, idx t]

theorem reference_frame : Cert.quiescent_Reference14Ideal := fun m g _ =>
  (θ_run Cert.Reference14Ideal.defs _ _).mono
    (fun r h => ⟨fun c => ⟨(h c).2.1, (h c).2.2⟩, sem_eq_zero_of_no_sems rfl r.2⟩)
    (Cert.Reference14Ideal.Value.run m g)

theorem algebraic : Cert.algebraic_Kernel14Ideal_Reference14Ideal := by
  pair_intro
  · run_from Cert.Kernel14Ideal.Gen.run_main m g
  · run_from Cert.Reference14Ideal.Value.run m' g'
    rw [final m c]
    funext i
    pointwise [normed]

end Cert.NormForward

end
-- ==== Proof.Products.InProj.lean ====
/-
  The input projection: the activations times the weight kept transposed, and the 128 columns of it the gates read,
  kept unrounded.

  A grid point multiplies 1376 rows of the activations with 512 rows of the weight. The narrow result is stored at the
  last of the fifteen points that walk along the weight.
-/
module

public import proofs.«01_k».proof.Defs
public import proofs.«01_k».proof.Proof.Gen.Kernel15Ideal.Frame
public import proofs.«01_k».proof.Proof.Gen.Reference15Ideal.Run
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProj

open Cert.Kernel15Ideal Cert.Kernel15Ideal.Gen

variable (m : (ℓ : Loc nD τ sig) → Buf (Elt Ideal) ℓ)

/-- Row `i 0` of the activations times row `i 1` of the weight. -/
def proj (N : FVec Ideal S8256x2048 .bf16) (W : FVec Ideal S7680x2048 .bf16) : FVec Ideal S8256x7680 .bf16 := fun i =>
  (∑ k : Fin 2048, N (ix2 (i 0) k) * W (ix2 (i 1) k) : EReal)

/-- The same for the rows of the weight from 7168 on. -/
def small (N : FVec Ideal S8256x2048 .bf16) (W : FVec Ideal S7680x2048 .bf16) : FVec Ideal S8256x128 .f32 := fun i =>
  (∑ k : Fin 2048, N (ix2 (i 0) k) * W (ix2 ⟨7168 + (i 1 : ℕ), by have h : (i 1 : ℕ) < 128 := (i 1).isLt; omega⟩ k) : EReal)

/-- The blocks' places. -/
theorem idx : ∀ t : Fin cfg0.N, win0_0.index t = ![t.val / 15, 0] ∧ win0_1.index t = ![t.val % 15, 0]
    ∧ win0_2.index t = ![t.val / 15, t.val % 15] ∧ win0_3.index t = ![t.val / 15, 0] :=
  (by decide +kernel : ∀ t : Fin grid0.N, win0_0.index t = ![t.val / 15, 0] ∧ win0_1.index t = ![t.val % 15, 0]
    ∧ win0_2.index t = ![t.val / 15, t.val % 15] ∧ win0_3.index t = ![t.val / 15, 0])

theorem final2 (c : Dev nD) : (dats m 0 c).arrAt 2 (cfgs 0).N = proj (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 15 = 14
  · rw [outsAt0_B m c t h]
    frame_out
    pointwise [k0_pay2, k0_pay1, proj]
    blk_point [iblk, V, idx t]
  · rw [outsAt0_A m c t h]
    frame_out
    pointwise [k0_pay2, k0_pay1, proj]
    blk_point [iblk, V, idx t]

theorem final3 (c : Dev nD) : (dats m 0 c).arrAt 3 (cfgs 0).N = small (m ((c : Thread nD τ).loc main_arg0)) (m ((c : Thread nD τ).loc main_arg1)) := by
  refine (dats m 0 c).arrAt_eq_of_covers 3 _ (by decide +kernel) fun t hf y => ?_
  have h := (flush0_3 t).mp hf
  blk_simp
  rw [after0_3, outsAt0_B m c t h]
  frame_out
  pointwise [k0_pay3, k0_pay1, small]
  blk_point [iblk, V, idx t]

theorem reference_frame : Cert.quiescent_Reference15Ideal := fun m g _ =>
  (θ_run Cert.Reference15Ideal.defs _ _).mono
    (fun r h => ⟨fun c => ⟨(h c).2.2.1, (h c).2.2.2⟩, sem_eq_zero_of_no_sems rfl r.2⟩)
    (Cert.Reference15Ideal.Value.run m g)

theorem algebraic : Cert.algebraic_Kernel15Ideal_Reference15Ideal := by
  pair_intro
  · run_from Cert.Kernel15Ideal.Gen.run_main m g
  · refine θ_run_mono (Cert.Reference15Ideal.Value.run m' g') fun r hr c => ?_
    obtain ⟨h1, h2, ha⟩ := hr c
    obtain ⟨e0, e1⟩ := hagree c
    refine ⟨h1.trans ?_, h2.trans ?_, ha⟩
    · rw [e0, e1, final2 m c]
      funext i
      pointwise [proj]
    · rw [e0, e1, final3 m c]
      funext i
      pointwise [small]

end Cert.InProj

end
-- ==== Proof.Optim.Scalar.lean ====
/-
  One entry of the optimiser's step, with the constants' words as printed.
-/
module

public import Idealize.ShloMosaic.PureOps.Ideal

@[expose] public section

noncomputable section

namespace Cert.Optim

open Idealize.ShloMosaic

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The change of the weight. -/
def change (g w m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.Optim

end
-- ==== Proof.Optim.AdamwDown.lean ====
/-
  The sum of the eight devices' shares of a gradient and the step of the optimiser, for `w_down`, `w_gate` and `w_up`.
-/
module

public import proofs.«01_k».proof.Defs
public import proofs.«01_k».proof.Proof.Gen.Kernel17Ideal.Frame
public import proofs.«01_k».proof.Proof.Gen.Reference17Ideal.Run
public import proofs.«01_k».proof.Proof.Optim.Scalar
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwDown

open Cert.Kernel17Ideal Cert.Kernel17Ideal.Gen

variable (m : (ℓ : Loc nD τ sig) → Buf (Elt Ideal) ℓ)

/-- The sum of the eight shares. -/
def total (X : FVec Ideal S8x704x2048 .bf16) : FVec Ideal S704x2048 .f32 := fun i =>
  (X (ix3 0 (i 0) (i 1)) + X (ix3 1 (i 0) (i 1)) + X (ix3 2 (i 0) (i 1)) + X (ix3 3 (i 0) (i 1)) + X (ix3 4 (i 0) (i 1))
    + X (ix3 5 (i 0) (i 1)) + X (ix3 6 (i 0) (i 1)) + X (ix3 7 (i 0) (i 1)) : EReal)

/-- The two moments and the change of the weight. -/
def firsts (X : FVec Ideal S8x704x2048 .bf16) (M : FVec Ideal S704x2048 .f32) : FVec Ideal S704x2048 .f32 := fun i => Cert.Optim.first (total X i) (M i)
def seconds (X : FVec Ideal S8x704x2048 .bf16) (U : FVec Ideal S704x2048 .f32) : FVec Ideal S704x2048 .f32 := fun i => Cert.Optim.second (total X i) (U i)
def changes (X : FVec Ideal S8x704x2048 .bf16) (W M U : FVec Ideal S704x2048 .f32) : FVec Ideal S704x2048 .f32 := fun i =>
  Cert.Optim.change (total X i) (W i) (M i) (U i)

/-- The blocks' places. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

theorem final4 (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]
  frame_out
  open_payloads
  pointwise [total]
  blk_point [iblk, V, idx t]

theorem final5 (c : Dev nD) : (dats m 0 c).arrAt 5 (cfgs 0).N = changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  open_payloads
  pointwise [changes, total, Cert.Optim.change, Cert.Optim.first, Cert.Optim.second]
  blk_point [iblk, V, idx t]

theorem final6 (c : Dev nD) : (dats m 0 c).arrAt 6 (cfgs 0).N = firsts (m ((c : Thread nD τ).loc main_arg0)) (m ((c : Thread nD τ).loc main_arg2)) := by
  refine (dats m 0 c).arrAt_eq_of_covers 6 _ (by decide +kernel) fun t _ y => ?_
  blk_simp
  rw [after0_6]
  frame_out
  open_payloads
  pointwise [firsts, total, Cert.Optim.first]
  blk_point [iblk, V, idx t]

theorem final7 (c : Dev nD) : (dats m 0 c).arrAt 7 (cfgs 0).N = seconds (m ((c : Thread nD τ).loc main_arg0)) (m ((c : Thread nD τ).loc main_arg3)) := by
  refine (dats m 0 c).arrAt_eq_of_covers 7 _ (by decide +kernel) fun t _ y => ?_
  blk_simp
  rw [after0_7]
  frame_out
  open_payloads
  pointwise [seconds, total, Cert.Optim.second]
  blk_point [iblk, V, idx t]

theorem reference_frame : Cert.quiescent_Reference17Ideal := fun m g _ =>
  (θ_run Cert.Reference17Ideal.defs _ _).mono
    (fun r h => ⟨fun c => ⟨(h c).2.2.2.2.1, (h c).2.2.2.2.2.1, (h c).2.2.2.2.2.2.1, (h c).2.2.2.2.2.2.2⟩, sem_eq_zero_of_no_sems rfl r.2⟩)
    (Cert.Reference17Ideal.Value.run m g)

/-- The reference's sum, at an index. -/
theorem total_at (X : FVec Ideal Cert.Kernel17Ideal.S8x704x2048 .bf16) (i : Cert.Kernel17Ideal.S704x2048.Idx) :
    Host.reduceAdd (F := Ideal) (extf .f32 X Cert.Reference17Ideal.Gen.bitsLt_bf16_f32) (constant Cert.Reference17Ideal.S_ .f32 0x00000000#32) Cert.Reference17Ideal.Gen.reducesTo_S8x704x2048_S704x2048_d0 Cert.Reference17Ideal.Gen.h_S_ i = total X i := by
  pointwise [total]
  rw [Fin.sum_univ_eight]

theorem algebraic : Cert.algebraic_Kernel17Ideal_Reference17Ideal := by
  pair_intro
  · run_from Cert.Kernel17Ideal.Gen.run_main m g
  · refine θ_run_mono (Cert.Reference17Ideal.Value.run m' g') fun r hr c => ?_
    obtain ⟨h1, h2, h3, h4, ha⟩ := hr c
    obtain ⟨e0, e1, e2, e3⟩ := hagree c
    refine ⟨h1.trans ?_, h2.trans ?_, h3.trans ?_, h4.trans ?_, ha⟩
    · rw [e0, final4 m c]
      funext i
      exact total_at _ i
    · rw [e0, e1, e2, e3, final5 m c]
      funext i
      simp only [changes, ← total_at]
      pointwise [Cert.Optim.change, Cert.Optim.first, Cert.Optim.second]
    · rw [e0, e2, final6 m c]
      funext i
      simp only [firsts, ← total_at]
      pointwise [Cert.Optim.first]
    · rw [e0, e3, final7 m c]
      funext i
      simp only [seconds, ← total_at]
      pointwise [Cert.Optim.second]

end Cert.AdamwDown

end
-- ==== Proof.Optim.AdamwOut.lean ====
/-
  The sum of the eight devices' shares of a gradient and the step of the optimiser, for `w_out`.
-/
module

public import proofs.«01_k».proof.Defs
public import proofs.«01_k».proof.Proof.Gen.Kernel18Ideal.Frame
public import proofs.«01_k».proof.Proof.Gen.Reference18Ideal.Run
public import proofs.«01_k».proof.Proof.Optim.Scalar
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwOut

open Cert.Kernel18Ideal Cert.Kernel18Ideal.Gen

variable (m : (ℓ : Loc nD τ sig) → Buf (Elt Ideal) ℓ)

/-- The sum of the eight shares. -/
def total (X : FVec Ideal S8x256x2048 .bf16) : FVec Ideal S256x2048 .f32 := fun i =>
  (X (ix3 0 (i 0) (i 1)) + X (ix3 1 (i 0) (i 1)) + X (ix3 2 (i 0) (i 1)) + X (ix3 3 (i 0) (i 1)) + X (ix3 4 (i 0) (i 1))
    + X (ix3 5 (i 0) (i 1)) + X (ix3 6 (i 0) (i 1)) + X (ix3 7 (i 0) (i 1)) : EReal)

/-- The two moments and the change of the weight. -/
def firsts (X : FVec Ideal S8x256x2048 .bf16) (M : FVec Ideal S256x2048 .f32) : FVec Ideal S256x2048 .f32 := fun i => Cert.Optim.first (total X i) (M i)
def seconds (X : FVec Ideal S8x256x2048 .bf16) (U : FVec Ideal S256x2048 .f32) : FVec Ideal S256x2048 .f32 := fun i => Cert.Optim.second (total X i) (U i)
def changes (X : FVec Ideal S8x256x2048 .bf16) (W M U : FVec Ideal S256x2048 .f32) : FVec Ideal S256x2048 .f32 := fun i =>
  Cert.Optim.change (total X i) (W i) (M i) (U i)

/-- The blocks' places. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

theorem final4 (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]
  frame_out
  open_payloads
  pointwise [total]
  blk_point [iblk, V, idx t]

theorem final5 (c : Dev nD) : (dats m 0 c).arrAt 5 (cfgs 0).N = changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  open_payloads
  pointwise [changes, total, Cert.Optim.change, Cert.Optim.first, Cert.Optim.second]
  blk_point [iblk, V, idx t]

theorem final6 (c : Dev nD) : (dats m 0 c).arrAt 6 (cfgs 0).N = firsts (m ((c : Thread nD τ).loc main_arg0)) (m ((c : Thread nD τ).loc main_arg2)) := by
  refine (dats m 0 c).arrAt_eq_of_covers 6 _ (by decide +kernel) fun t _ y => ?_
  blk_simp
  rw [after0_6]
  frame_out
  open_payloads
  pointwise [firsts, total, Cert.Optim.first]
  blk_point [iblk, V, idx t]

theorem final7 (c : Dev nD) : (dats m 0 c).arrAt 7 (cfgs 0).N = seconds (m ((c : Thread nD τ).loc main_arg0)) (m ((c : Thread nD τ).loc main_arg3)) := by
  refine (dats m 0 c).arrAt_eq_of_covers 7 _ (by decide +kernel) fun t _ y => ?_
  blk_simp
  rw [after0_7]
  frame_out
  open_payloads
  pointwise [seconds, total, Cert.Optim.second]
  blk_point [iblk, V, idx t]

theorem reference_frame : Cert.quiescent_Reference18Ideal := fun m g _ =>
  (θ_run Cert.Reference18Ideal.defs _ _).mono
    (fun r h => ⟨fun c => ⟨(h c).2.2.2.2.1, (h c).2.2.2.2.2.1, (h c).2.2.2.2.2.2.1, (h c).2.2.2.2.2.2.2⟩, sem_eq_zero_of_no_sems rfl r.2⟩)
    (Cert.Reference18Ideal.Value.run m g)

/-- The reference's sum, at an index. -/
theorem total_at (X : FVec Ideal Cert.Kernel18Ideal.S8x256x2048 .bf16) (i : Cert.Kernel18Ideal.S256x2048.Idx) :
    Host.reduceAdd (F := Ideal) (extf .f32 X Cert.Reference18Ideal.Gen.bitsLt_bf16_f32) (constant Cert.Reference18Ideal.S_ .f32 0x00000000#32) Cert.Reference18Ideal.Gen.reducesTo_S8x256x2048_S256x2048_d0 Cert.Reference18Ideal.Gen.h_S_ i = total X i := by
  pointwise [total]
  rw [Fin.sum_univ_eight]

theorem algebraic : Cert.algebraic_Kernel18Ideal_Reference18Ideal := by
  pair_intro
  · run_from Cert.Kernel18Ideal.Gen.run_main m g
  · refine θ_run_mono (Cert.Reference18Ideal.Value.run m' g') fun r hr c => ?_
    obtain ⟨h1, h2, h3, h4, ha⟩ := hr c
    obtain ⟨e0, e1, e2, e3⟩ := hagree c
    refine ⟨h1.trans ?_, h2.trans ?_, h3.trans ?_, h4.trans ?_, ha⟩
    · rw [e0, final4 m c]
      funext i
      exact total_at _ i
    · rw [e0, e1, e2, e3, final5 m c]
      funext i
      simp only [changes, ← total_at]
      pointwise [Cert.Optim.change, Cert.Optim.first, Cert.Optim.second]
    · rw [e0, e2, final6 m c]
      funext i
      simp only [firsts, ← total_at]
      pointwise [Cert.Optim.first]
    · rw [e0, e3, final7 m c]
      funext i
      simp only [seconds, ← total_at]
      pointwise [Cert.Optim.second]

end Cert.AdamwOut

end
-- ==== Proof.Optim.AdamwIn.lean ====
/-
  The sum of the eight devices' shares of a gradient and the step of the optimiser, for `w_in`.
-/
module

public import proofs.«01_k».proof.Defs
public import proofs.«01_k».proof.Proof.Gen.Kernel19Ideal.Frame
public import proofs.«01_k».proof.Proof.Gen.Reference19Ideal.Run
public import proofs.«01_k».proof.Proof.Optim.Scalar
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwIn

open Cert.Kernel19Ideal Cert.Kernel19Ideal.Gen

variable (m : (ℓ : Loc nD τ sig) → Buf (Elt Ideal) ℓ)

/-- The sum of the eight shares. -/
def total (X : FVec Ideal S8x900x2048 .bf16) : FVec Ideal S900x2048 .f32 := fun i =>
  (X (ix3 0 (i 0) (i 1)) + X (ix3 1 (i 0) (i 1)) + X (ix3 2 (i 0) (i 1)) + X (ix3 3 (i 0) (i 1)) + X (ix3 4 (i 0) (i 1))
    + X (ix3 5 (i 0) (i 1)) + X (ix3 6 (i 0) (i 1)) + X (ix3 7 (i 0) (i 1)) : EReal)

/-- The two moments and the change of the weight. -/
def firsts (X : FVec Ideal S8x900x2048 .bf16) (M : FVec Ideal S900x2048 .f32) : FVec Ideal S900x2048 .f32 := fun i => Cert.Optim.first (total X i) (M i)
def seconds (X : FVec Ideal S8x900x2048 .bf16) (U : FVec Ideal S900x2048 .f32) : FVec Ideal S900x2048 .f32 := fun i => Cert.Optim.second (total X i) (U i)
def changes (X : FVec Ideal S8x900x2048 .bf16) (W M U : FVec Ideal S900x2048 .f32) : FVec Ideal S900x2048 .f32 := fun i =>
  Cert.Optim.change (total X i) (W i) (M i) (U i)

/-- The blocks' places. -/
theorem idx : ∀ t : Fin cfg0.N, win0_0.index t = ![0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, win0_0.index t = ![0, 0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val])

theorem final4 (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]
  frame_out
  open_payloads
  pointwise [total]
  blk_point [iblk, V, idx t]

theorem final5 (c : Dev nD) : (dats m 0 c).arrAt 5 (cfgs 0).N = changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  open_payloads
  pointwise [changes, total, Cert.Optim.change, Cert.Optim.first, Cert.Optim.second]
  blk_point [iblk, V, idx t]

theorem final6 (c : Dev nD) : (dats m 0 c).arrAt 6 (cfgs 0).N = firsts (m ((c : Thread nD τ).loc main_arg0)) (m ((c : Thread nD τ).loc main_arg2)) := by
  refine (dats m 0 c).arrAt_eq_of_covers 6 _ (by decide +kernel) fun t _ y => ?_
  blk_simp
  rw [after0_6]
  frame_out
  open_payloads
  pointwise [firsts, total, Cert.Optim.first]
  blk_point [iblk, V, idx t]

theorem final7 (c : Dev nD) : (dats m 0 c).arrAt 7 (cfgs 0).N = seconds (m ((c : Thread nD τ).loc main_arg0)) (m ((c : Thread nD τ).loc main_arg3)) := by
  refine (dats m 0 c).arrAt_eq_of_covers 7 _ (by decide +kernel) fun t _ y => ?_
  blk_simp
  rw [after0_7]
  frame_out
  open_payloads
  pointwise [seconds, total, Cert.Optim.second]
  blk_point [iblk, V, idx t]

theorem reference_frame : Cert.quiescent_Reference19Ideal := fun m g _ =>
  (θ_run Cert.Reference19Ideal.defs _ _).mono
    (fun r h => ⟨fun c => ⟨(h c).2.2.2.2.1, (h c).2.2.2.2.2.1, (h c).2.2.2.2.2.2.1, (h c).2.2.2.2.2.2.2⟩, sem_eq_zero_of_no_sems rfl r.2⟩)
    (Cert.Reference19Ideal.Value.run m g)

/-- The reference's sum, at an index. -/
theorem total_at (X : FVec Ideal Cert.Kernel19Ideal.S8x900x2048 .bf16) (i : Cert.Kernel19Ideal.S900x2048.Idx) :
    Host.reduceAdd (F := Ideal) (extf .f32 X Cert.Reference19Ideal.Gen.bitsLt_bf16_f32) (constant Cert.Reference19Ideal.S_ .f32 0x00000000#32) Cert.Reference19Ideal.Gen.reducesTo_S8x900x2048_S900x2048_d0 Cert.Reference19Ideal.Gen.h_S_ i = total X i := by
  pointwise [total]
  rw [Fin.sum_univ_eight]

theorem algebraic : Cert.algebraic_Kernel19Ideal_Reference19Ideal := by
  pair_intro
  · run_from Cert.Kernel19Ideal.Gen.run_main m g
  · refine θ_run_mono (Cert.Reference19Ideal.Value.run m' g') fun r hr c => ?_
    obtain ⟨h1, h2, h3, h4, ha⟩ := hr c
    obtain ⟨e0, e1, e2, e3⟩ := hagree c
    refine ⟨h1.trans ?_, h2.trans ?_, h3.trans ?_, h4.trans ?_, ha⟩
    · rw [e0, final4 m c]
      funext i
      exact total_at _ i
    · rw [e0, e1, e2, e3, final5 m c]
      funext i
      simp only [changes, ← total_at]
      pointwise [Cert.Optim.change, Cert.Optim.first, Cert.Optim.second]
    · rw [e0, e2, final6 m c]
      funext i
      simp only [firsts, ← total_at]
      pointwise [Cert.Optim.first]
    · rw [e0, e3, final7 m c]
      funext i
      simp only [seconds, ← total_at]
      pointwise [Cert.Optim.second]

end Cert.AdamwIn

end
-- ==== Proof.Mix.Scalar.lean ====
/-
  The derivative of a head's root-mean-square norm, for heads of any width: what the mixed heads' backward call multiplies
  out, and what the chain rule through `rsqrt` gives, are the same number.
-/
module

public import proofs.«01_k».proof.Proof.Norm.Scalar
public import proofs.«01_k».proof.Proof.Swiglu.Scalar
public import Idealize.ShloMosaic.Lib.Pointwise.Tactic

@[expose] public section

noncomputable section

open Idealize.ShloMosaic

namespace Cert.MixGrad

/-- The reciprocal root of a head's mean square. -/
def ratio {n : ℕ} (N : EReal) (x : Fin n → EReal) : EReal :=
  Ideal.rsqrt (Ideal.div (∑ k, x k * x k) N + Ideal.ofBits .f32 0x358637BD#32)

/-- The gradient of a head's normed entry: `x` the head, `d` the cotangent behind the gate, `w` the weight. -/
def grad {n : ℕ} (N : EReal) (x d w : Fin n → EReal) (k : Fin n) : EReal :=
  ratio N x * (d k * w k - x k * ratio N x * Ideal.div (∑ l, d l * w l * (x l * ratio N x)) N)

/-- `w` columns of a row of an array, from column `o` on. -/
def cols {r n w : ℕ} (B : (⟨2, ![r, n]⟩ : Shape).Idx → EReal) (a : Fin r) (o : ℕ) (h : o + w ≤ n) : Fin w → EReal :=
  fun k => B (ix2 a ⟨o + k.val, by omega⟩)

/-- The cotangent behind the gate. -/
def gated {n : ℕ} (d z : Fin n → EReal) : Fin n → EReal := fun k => d k * (z k * Cert.Swiglu.sigTanh (z k))

/-- A head's gradient at row `a`, from the blocks of the head, the gate's input, the cotangent and the weight. -/
def headOut {r n : ℕ} (N : EReal) (x z d : (⟨2, ![r, n]⟩ : Shape).Idx → EReal) (w : (⟨2, ![1, n]⟩ : Shape).Idx → EReal) (a : Fin r) (k : Fin n) : EReal :=
  grad N (fun k => x (ix2 a k)) (gated (fun k => d (ix2 a k)) (fun k => z (ix2 a k))) (fun k => w (ix2 0 k)) k

/-- Row `a`'s term of the weight's gradient. -/
def term {n : ℕ} (N : EReal) (x d : Fin n → EReal) (k : Fin n) : EReal := d k * (x k * ratio N x)

/-- Row `a`'s term of the weight's gradient, from the blocks. -/
def headTerm {r n : ℕ} (N : EReal) (x z d : (⟨2, ![r, n]⟩ : Shape).Idx → EReal) (a : Fin r) (k : Fin n) : EReal :=
  term N (fun k => x (ix2 a k)) (gated (fun k => d (ix2 a k)) (fun k => z (ix2 a k))) k

/-- The word of `128` at f32. -/
theorem ofBits_128 : Ideal.ofBits .f32 0x43000000#32 = ((128 : ℝ) : EReal) := by
  simp [Ideal.ofBits, Ideal.ieee, -EReal.coe_mul]
  norm_num

/-- The word of `256` at f32. -/
theorem ofBits_256 : Ideal.ofBits .f32 0x43800000#32 = ((256 : ℝ) : EReal) := by
  simp [Ideal.ofBits, Ideal.ieee, -EReal.coe_mul]
  norm_num

/-- The gradient of a head's norm at an entry, as the chain rule writes it and as the call computes it: `a`, `b` and `u` are
    the entry, its cotangent and its weight. -/
theorem grad_at {n : ℕ} (x d w : Fin n → EReal) (hx : ∀ k, ∃ r : ℝ, x k = (r : EReal)) (hd : ∀ k, ∃ r : ℝ, d k = (r : EReal))
    (hw : ∀ k, ∃ r : ℝ, w k = (r : EReal)) (k : Fin n) (a b u N v : EReal) (ha : a = x k) (hb : b = d k) (hu : u = w k)
    (B : ℝ) (hB : 0 < B) (hN : N = (B : EReal)) (hv : v = Ideal.div (∑ k, x k * x k) N + Ideal.ofBits .f32 0x358637BD#32) :
    b * u * Ideal.rsqrt v
        + a * (∑ _l : Fin 1, Ideal.div ((∑ k, x k * (d k * w k)) * (Ideal.ofBits .f32 0xBF000000#32 * Ideal.div (Ideal.rsqrt v) v)) N)
        + (∑ _l : Fin 1, Ideal.div ((∑ k, x k * (d k * w k)) * (Ideal.ofBits .f32 0xBF000000#32 * Ideal.div (Ideal.rsqrt v) v)) N) * a
      = grad N x d w k := by
  unfold grad ratio
  rw [← hv]
  subst ha hb hu
  choose X hX using hx
  choose D hD using hd
  choose W hW using hw
  obtain ⟨e, he, hE⟩ := Cert.Norm.ofBits_eps
  have hpos : 0 < (∑ k, X k * X k) / B + e := Cert.Norm.mean_pos X B e hB he
  have hv' : v = (((∑ k, X k * X k) / B + e : ℝ) : EReal) := by
    rw [hv, hN, hE]
    simp only [hX, ← EReal.coe_mul, Cert.Norm.sum_real]
    rw [Cert.Norm.div_real _ hB.ne', ← EReal.coe_add]
  clear hv
  generalize (∑ k, X k * X k) / B + e = V at hv' hpos
  subst hv'
  simp only [Fin.sum_univ_one, hN, Cert.Norm.ofBits_neg_half, Cert.Norm.rsqrt_pos hpos, hX, hD, hW, ← EReal.coe_mul, Cert.Norm.sum_real,
    Cert.Norm.div_real _ hpos.ne', Cert.Norm.div_real _ hB.ne', ← EReal.coe_sub, ← EReal.coe_add]
  have hs : ∑ k, D k * W k * (X k * (Real.sqrt V)⁻¹) = (∑ k, X k * (D k * W k)) * (Real.sqrt V)⁻¹ := by
    rw [Finset.sum_mul]
    exact Finset.sum_congr rfl fun k _ => by ring
  rw [hs, Cert.Norm.grad_real (X k) (D k * W k) (∑ k, X k * (D k * W k)) V B hpos]

/-- A sum over the first two axes of three. -/
theorem reduce_two {n0 n1 n2 : ℕ} (h : (⟨3, ![n0, n1, n2]⟩ : Shape).ReducesTo [0, 1] ⟨1, ![n2]⟩)
    (x : (⟨3, ![n0, n1, n2]⟩ : Shape).Idx → EReal) (init : EReal) (j : (⟨1, ![n2]⟩ : Shape).Idx) :
    Ideal.hostReduceAdd h x init j = init + ∑ p : Fin n0, ∑ q : Fin n1, x (ix3 p q (j 0)) := by
  unfold Ideal.hostReduceAdd
  congr 1
  rw [← Fintype.sum_prod_type']
  have hd : ∀ i : (⟨3, ![n0, n1, n2]⟩ : Shape).Idx, (h.drop i 0 : ℕ) = i 2 := fun i => Shape.ReducesTo.drop_apply_val h i 0
  refine (Finset.sum_bij' (fun (pq : Fin n0 × Fin n1) _ => (ix3 pq.1 pq.2 (j 0) : (⟨3, ![n0, n1, n2]⟩ : Shape).Idx))
    (fun (i : (⟨3, ![n0, n1, n2]⟩ : Shape).Idx) _ => ((i 0, i 1) : Fin n0 × Fin n1)) ?_ ?_ ?_ ?_ ?_).symm
  · intro pq _
    rw [Finset.mem_filter]
    refine ⟨Finset.mem_univ _, funext fun b => Fin.ext ?_⟩
    obtain rfl : b = 0 := Subsingleton.elim _ _
    exact hd _
  · intro i _
    exact Finset.mem_univ _
  · intro pq _
    rfl
  · intro i hi
    rw [Finset.mem_filter] at hi
    have e : i 2 = j 0 := Fin.ext (by rw [← hd i, hi.2])
    show ix3 (i 0) (i 1) (j 0) = i
    rw [← e]
    exact (eq_ix3 i).symm
  · intro pq _
    rfl

end Cert.MixGrad

end
-- ==== Proof.Mix.Blocks.lean ====
/-
  The blocks of a point of the mixed heads' backward call, in terms of the whole arrays.
-/
module

public import proofs.«01_k».proof.Defs
public import proofs.«01_k».proof.Proof.Gen.Kernel20Ideal.Frame
public import proofs.«01_k».proof.Proof.Mix.Scalar
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.MixGrad

open Cert.Kernel20Ideal Cert.Kernel20Ideal.Gen

variable (m : (ℓ : Loc nD τ sig) → Buf (Elt Ideal) ℓ)

/-- The blocks' places. -/
theorem idx : ∀ t : Fin cfg0.N, win0_0.index t = ![t.val, 0] ∧ win0_1.index t = ![t.val, 0] ∧ win0_2.index t = ![t.val, 0]
    ∧ win0_3.index t = ![t.val, 1] ∧ win0_4.index t = ![0, 0] ∧ win0_5.index t = ![0, 0] ∧ win0_6.index t = ![t.val, 0]
    ∧ win0_7.index t = ![t.val, 0] ∧ win0_8.index t = ![t.val, 0] ∧ win0_10.index t = ![0, 0] ∧ win0_11.index t = ![0, 0] :=
  (by decide +kernel : ∀ t : Fin grid0.N, win0_0.index t = ![t.val, 0] ∧ win0_1.index t = ![t.val, 0] ∧ win0_2.index t = ![t.val, 0]
    ∧ win0_3.index t = ![t.val, 1] ∧ win0_4.index t = ![0, 0] ∧ win0_5.index t = ![0, 0] ∧ win0_6.index t = ![t.val, 0]
    ∧ win0_7.index t = ![t.val, 0] ∧ win0_8.index t = ![t.val, 0] ∧ win0_10.index t = ![0, 0] ∧ win0_11.index t = ![0, 0])

/-- Row `a` of the block of point `t`. -/
def row (t : Fin cfg0.N) (a : Fin 192) : Fin 8256 := ⟨t.val * 192 + a.val, by have h := lt_of_lt_of_eq t.isLt N_0; omega⟩

variable (c : Dev nD) (t : Fin cfg0.N) (a : Fin 192)

/-- The gates' inputs are never cut: the first 1024 columns of the projections, and the next 1024. -/
theorem gate_gdn (k : Fin 1024) : X0_2 m c t (ix2 a k) = m ((c : Thread nD τ).loc main_arg2) (ix2 (row t a) ⟨k.val, by omega⟩) := by
  unfold X0_2 Pipeline.Window.fill
  rw [dif_pos (moved0_2 t (ix2 a k))]
  blk_point [iblk, V, idx t, row]

theorem gate_gla (k : Fin 1024) : X0_3 m c t (ix2 a k) = m ((c : Thread nD τ).loc main_arg2) (ix2 (row t a) ⟨1024 + k.val, by omega⟩) := by
  unfold X0_3 Pipeline.Window.fill
  rw [dif_pos (moved0_3 t (ix2 a k))]
  blk_point [iblk, V, idx t, row]

section Gdn

variable (o : ℕ) (ho : o + 128 ≤ 1024) (h : ∀ b, (![0, o] : Fin 2 → Nat) b + S192x128.size b ≤ S192x1024.size b)
  (h' : ∀ b, (![0, o] : Fin 2 → Nat) b + S192x128.size b ≤ S192x2048.size b)

theorem gdn_x : (fun k : Fin 128 => View.ld (iblk m c 0 t) (Rect.unit ![0, o] ![192, 128] h) (ix2 a k))
    = cols (m ((c : Thread nD τ).loc main_arg0)) (row t a) o ho := by
  funext k
  pointwise [cols]
  blk_point [iblk, V, idx t, row]

theorem gdn_z : (fun k : Fin 128 => View.ld (X0_2 m c t) (Rect.unit ![0, o] ![192, 128] h) (ix2 a k))
    = cols (m ((c : Thread nD τ).loc main_arg2)) (row t a) o (by omega) := by
  funext k
  pointwise [cols]
  exact gate_gdn m c t a ⟨o + k.val, by omega⟩

theorem gdn_d : (fun k : Fin 128 => View.ld (iblk m c 6 t) (Rect.unit ![0, o] ![192, 128] h') (ix2 a k))
    = cols (m ((c : Thread nD τ).loc main_arg5)) (row t a) o (by omega) := by
  funext k
  pointwise [cols]
  blk_point [iblk, V, idx t, row]

theorem gdn_w : (fun k : Fin 128 => iblk m c 4 t (ix2 0 k)) = fun k => m ((c : Thread nD τ).loc main_arg3) (ix2 0 k) := by
  funext k
  blk_point [iblk, V, idx t]

end Gdn

section Gla

variable (o : ℕ) (ho : o + 256 ≤ 1024) (h : ∀ b, (![0, o] : Fin 2 → Nat) b + S192x256.size b ≤ S192x1024.size b)
  (h' : ∀ b, (![0, 1024 + o] : Fin 2 → Nat) b + S192x256.size b ≤ S192x2048.size b)

theorem gla_x : (fun k : Fin 256 => View.ld (iblk m c 1 t) (Rect.unit ![0, o] ![192, 256] h) (ix2 a k))
    = cols (m ((c : Thread nD τ).loc main_arg1)) (row t a) o ho := by
  funext k
  pointwise [cols]
  blk_point [iblk, V, idx t, row]

theorem gla_z : (fun k : Fin 256 => View.ld (X0_3 m c t) (Rect.unit ![0, o] ![192, 256] h) (ix2 a k))
    = cols (m ((c : Thread nD τ).loc main_arg2)) (row t a) (1024 + o) (by omega) := by
  funext k
  pointwise [cols]
  exact (gate_gla m c t a ⟨o + k.val, by omega⟩).trans (congrArg (fun j => m ((c : Thread nD τ).loc main_arg2) (ix2 (row t a) j)) (Fin.ext (Nat.add_assoc _ _ _).symm))

theorem gla_d : (fun k : Fin 256 => View.ld (iblk m c 6 t) (Rect.unit ![0, 1024 + o] ![192, 256] h') (ix2 a k))
    = cols (m ((c : Thread nD τ).loc main_arg5)) (row t a) (1024 + o) (by omega) := by
  funext k
  pointwise [cols]
  blk_point [iblk, V, idx t, row]

theorem gla_w : (fun k : Fin 256 => iblk m c 5 t (ix2 0 k)) = fun k => m ((c : Thread nD τ).loc main_arg4) (ix2 0 k) := by
  funext k
  blk_point [iblk, V, idx t]

end Gla

end Cert.MixGrad

end
-- ==== Proof.Mix.GdnHeads.lean ====
/-
  The heads of 128 columns, one by one: what a point computes for each is the same function of its columns.
-/
module

public import proofs.«01_k».proof.Defs
public import proofs.«01_k».proof.Proof.Gen.Kernel20Ideal.Frame
public import proofs.«01_k».proof.Proof.Mix.Scalar
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.MixGrad

open Cert.Kernel20Ideal Cert.Kernel20Ideal.Gen

variable (v0 v2 : Vec Ideal S192x128 .bf16) (v6 : Vec Ideal S192x128 .f32) (v4 : Vec Ideal S1x128 .f32) (a : Fin 192) (k : Fin 128)

/-! What a point stores for each head. -/

theorem gdnOut_0 : k0_pay17 (F := Ideal) (k0_pay9 v0) (k0_pay10 v0) (k0_pay13 v2) v6 v4 (ix2 a k) = headOut (Ideal.ofBits .f32 0x43000000#32) v0 v2 v6 v4 a k := by
  pointwise [k0_pay8, k0_pay9, k0_pay10, k0_pay11, k0_pay12, k0_pay13, k0_pay15, k0_pay17, headOut, grad, ratio, gated, Cert.Swiglu.sigTanh]

theorem gdnOut_128 : k0_pay27 (F := Ideal) (k0_pay19 v0) (k0_pay20 v0) (k0_pay23 v2) v6 v4 (ix2 a k) = headOut (Ideal.ofBits .f32 0x43000000#32) v0 v2 v6 v4 a k := by
  pointwise [k0_pay18, k0_pay19, k0_pay20, k0_pay21, k0_pay22, k0_pay23, k0_pay25, k0_pay27, headOut, grad, ratio, gated, Cert.Swiglu.sigTanh]

theorem gdnOut_256 : k0_pay39 (F := Ideal) (k0_pay30 (k0_pay29 v0)) (k0_pay31 (k0_pay28 v0) (k0_pay29 v0)) (k0_pay37 v2 v6 v4) (k0_pay38 (k0_pay28 v0) (k0_pay29 v0) v2 v6 v4) (FloatOps.ofBits (F := Ideal) FTy.f32 1124073472#32) (ix2 a k) = headOut (Ideal.ofBits .f32 0x43000000#32) v0 v2 v6 v4 a k := by
  pointwise [k0_pay28, k0_pay29, k0_pay30, k0_pay31, k0_pay32, k0_pay33, k0_pay35, k0_pay37, k0_pay38, k0_pay39, headOut, grad, ratio, gated, Cert.Swiglu.sigTanh]

theorem gdnOut_384 : k0_pay51 (F := Ideal) (k0_pay41 v0) (k0_pay42 v0) (k0_pay45 v2) v6 v4 (ix2 a k) = headOut (Ideal.ofBits .f32 0x43000000#32) v0 v2 v6 v4 a k := by
  pointwise [k0_pay40, k0_pay41, k0_pay42, k0_pay43, k0_pay44, k0_pay45, k0_pay49, k0_pay51, headOut, grad, ratio, gated, Cert.Swiglu.sigTanh]

theorem gdnOut_512 : k0_pay62 (F := Ideal) (k0_pay53 v0) (k0_pay54 v0) (k0_pay55 v2) (k0_pay56 v2) (k0_pay57 (F := Ideal)) v6 v4 (ix2 a k) = headOut (Ideal.ofBits .f32 0x43000000#32) v0 v2 v6 v4 a k := by
  pointwise [k0_pay52, k0_pay53, k0_pay54, k0_pay55, k0_pay56, k0_pay57, k0_pay58, k0_pay60, k0_pay62, headOut, grad, ratio, gated, Cert.Swiglu.sigTanh]

theorem gdnOut_640 : k0_pay73 (F := Ideal) (k0_pay65 (k0_pay64 v0)) (k0_pay66 (k0_pay63 v0) (k0_pay64 v0)) (k0_pay70 v2 v6) (k0_pay72 v4) (ix2 a k) = headOut (Ideal.ofBits .f32 0x43000000#32) v0 v2 v6 v4 a k := by
  pointwise [k0_pay63, k0_pay64, k0_pay65, k0_pay66, k0_pay67, k0_pay68, k0_pay70, k0_pay72, k0_pay73, headOut, grad, ratio, gated, Cert.Swiglu.sigTanh]

theorem gdnOut_768 : k0_pay84 (F := Ideal) (k0_pay75 v0) (k0_pay76 v0) (k0_pay79 v2) v6 v4 (ix2 a k) = headOut (Ideal.ofBits .f32 0x43000000#32) v0 v2 v6 v4 a k := by
  pointwise [k0_pay74, k0_pay75, k0_pay76, k0_pay77, k0_pay78, k0_pay79, k0_pay82, k0_pay84, headOut, grad, ratio, gated, Cert.Swiglu.sigTanh]

theorem gdnOut_896 : k0_pay93 (F := Ideal) (k0_pay86 v0) (k0_pay87 v0) (k0_pay88 v2) v6 v4 (ix2 a k) = headOut (Ideal.ofBits .f32 0x43000000#32) v0 v2 v6 v4 a k := by
  pointwise [k0_pay85, k0_pay86, k0_pay87, k0_pay88, k0_pay89, k0_pay91, k0_pay93, headOut, grad, ratio, gated, Cert.Swiglu.sigTanh]

variable (acc : FVec Ideal S1x128 .f32)

/-! What each head adds to the point's part of the weight's gradient. -/

theorem gdnTerm_0 : k0_pay16 (F := Ideal) acc (k0_pay10 v0) (k0_pay13 v2) v6 (ix2 0 k) = (acc (ix2 0 k) + ∑ a : Fin 192, headTerm (Ideal.ofBits .f32 0x43000000#32) v0 v2 v6 a k : EReal) := by
  pointwise [k0_pay8, k0_pay9, k0_pay10, k0_pay11, k0_pay12, k0_pay13, k0_pay15, k0_pay16, headTerm, term, ratio, gated, Cert.Swiglu.sigTanh]

theorem gdnTerm_128 : k0_pay26 (F := Ideal) acc (k0_pay20 v0) (k0_pay23 v2) v6 (ix2 0 k) = (acc (ix2 0 k) + ∑ a : Fin 192, headTerm (Ideal.ofBits .f32 0x43000000#32) v0 v2 v6 a k : EReal) := by
  pointwise [k0_pay18, k0_pay19, k0_pay20, k0_pay21, k0_pay22, k0_pay23, k0_pay25, k0_pay26, headTerm, term, ratio, gated, Cert.Swiglu.sigTanh]

theorem gdnTerm_256 : k0_pay36 (F := Ideal) acc (k0_pay28 v0) (k0_pay29 v0) v2 v6 (ix2 0 k) = (acc (ix2 0 k) + ∑ a : Fin 192, headTerm (Ideal.ofBits .f32 0x43000000#32) v0 v2 v6 a k : EReal) := by
  pointwise [k0_pay28, k0_pay29, k0_pay30, k0_pay31, k0_pay32, k0_pay33, k0_pay35, k0_pay36, headTerm, term, ratio, gated, Cert.Swiglu.sigTanh]

theorem gdnTerm_384 : k0_pay50 (F := Ideal) acc (k0_pay42 v0) (k0_pay45 v2) v6 (ix2 0 k) = (acc (ix2 0 k) + ∑ a : Fin 192, headTerm (Ideal.ofBits .f32 0x43000000#32) v0 v2 v6 a k : EReal) := by
  pointwise [k0_pay40, k0_pay41, k0_pay42, k0_pay43, k0_pay44, k0_pay45, k0_pay49, k0_pay50, headTerm, term, ratio, gated, Cert.Swiglu.sigTanh]

theorem gdnTerm_512 : k0_pay61 (F := Ideal) acc (k0_pay54 v0) (k0_pay55 v2) (k0_pay56 v2) (k0_pay57 (F := Ideal)) v6 (ix2 0 k) = (acc (ix2 0 k) + ∑ a : Fin 192, headTerm (Ideal.ofBits .f32 0x43000000#32) v0 v2 v6 a k : EReal) := by
  pointwise [k0_pay52, k0_pay53, k0_pay54, k0_pay55, k0_pay56, k0_pay57, k0_pay58, k0_pay60, k0_pay61, headTerm, term, ratio, gated, Cert.Swiglu.sigTanh]

theorem gdnTerm_640 : k0_pay71 (F := Ideal) acc (k0_pay63 v0) (k0_pay64 v0) v2 v6 (ix2 0 k) = (acc (ix2 0 k) + ∑ a : Fin 192, headTerm (Ideal.ofBits .f32 0x43000000#32) v0 v2 v6 a k : EReal) := by
  pointwise [k0_pay63, k0_pay64, k0_pay65, k0_pay66, k0_pay67, k0_pay68, k0_pay70, k0_pay71, headTerm, term, ratio, gated, Cert.Swiglu.sigTanh]

theorem gdnTerm_768 : k0_pay83 (F := Ideal) acc (k0_pay76 v0) (k0_pay79 v2) v6 (ix2 0 k) = (acc (ix2 0 k) + ∑ a : Fin 192, headTerm (Ideal.ofBits .f32 0x43000000#32) v0 v2 v6 a k : EReal) := by
  pointwise [k0_pay74, k0_pay75, k0_pay76, k0_pay77, k0_pay78, k0_pay79, k0_pay82, k0_pay83, headTerm, term, ratio, gated, Cert.Swiglu.sigTanh]

theorem gdnTerm_896 : k0_pay92 (F := Ideal) acc (k0_pay87 v0) (k0_pay88 v2) v6 (ix2 0 k) = (acc (ix2 0 k) + ∑ a : Fin 192, headTerm (Ideal.ofBits .f32 0x43000000#32) v0 v2 v6 a k : EReal) := by
  pointwise [k0_pay85, k0_pay86, k0_pay87, k0_pay88, k0_pay89, k0_pay91, k0_pay92, headTerm, term, ratio, gated, Cert.Swiglu.sigTanh]

end Cert.MixGrad

end
-- ==== Proof.Mix.Gdn.lean ====
/-
  The heads of 128 columns: the gradient of their norm's input and of its weight, after all points.
-/
module

public import proofs.«01_k».proof.Defs
public import proofs.«01_k».proof.Proof.Gen.Kernel20Ideal.Frame
public import proofs.«01_k».proof.Proof.Mix.Blocks
public import proofs.«01_k».proof.Proof.Mix.GdnHeads
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.MixGrad

open Cert.Kernel20Ideal Cert.Kernel20Ideal.Gen

section Defs

variable (X : FVec Ideal S8256x1024 .bf16) (Z : FVec Ideal S8256x7680 .bf16) (D : FVec Ideal S8256x2048 .f32) (W : FVec Ideal S1x128 .f32)

/-- The cotangent behind the gate of the head from column `o` on, in row `l`. -/
def gdnCot (l : Fin 8256) (o : ℕ) (h : o + 128 ≤ 1024) : Fin 128 → EReal :=
  gated (cols D l (o) (by omega)) (cols Z l (o) (by omega))

/-- The gradient of the head from column `o` on, in row `l`. -/
def gdnHead (l : Fin 8256) (o : ℕ) (h : o + 128 ≤ 1024) (k : Fin 128) : EReal :=
  grad (Ideal.ofBits .f32 0x43000000#32) (cols X l o h) (gdnCot Z D l o h) (fun k => W (ix2 0 k)) k

/-- The gradient of the heads. -/
def gdnGrad : FVec Ideal S8256x1024 .bf16 := fun i =>
  gdnHead X Z D W (i 0) ((i 1).val / 128 * 128) (by have h : (i 1).val < 1024 := (i 1).isLt; omega) ⟨(i 1).val % 128, by omega⟩

/-- A row's term of the weight's gradient, for the head from column `o` on. -/
def gdnRow (l : Fin 8256) (o : ℕ) (h : o + 128 ≤ 1024) (k : Fin 128) : EReal := term (Ideal.ofBits .f32 0x43000000#32) (cols X l o h) (gdnCot Z D l o h) k

/-- The weight's gradient: over all rows and heads. -/
def gdnWeight : FVec Ideal S1x128 .f32 := fun i => (∑ l : Fin 8256, ∑ q : Fin 8, gdnRow X Z D l (q.val * 128) (by omega) (i 1) : EReal)

theorem gdnHead_congr (l : Fin 8256) {o o' : ℕ} (h : o + 128 ≤ 1024) (h' : o' + 128 ≤ 1024) {k k' : Fin 128} (e : o = o') (ek : k = k') :
    gdnHead X Z D W l o h k = gdnHead X Z D W l o' h' k' := by
  subst e ek
  rfl

theorem gdnGrad_at (l : Fin 8256) (q : ℕ) (h : q * 128 + 128 ≤ 1024) (k : Fin 128) (j : Fin 1024) (hj : j.val = q * 128 + k.val) :
    gdnGrad X Z D W (ix2 l j) = gdnHead X Z D W l (q * 128) h k :=
  gdnHead_congr X Z D W l _ _ (by show j.val / 128 * 128 = _; omega) (Fin.ext (by show j.val % 128 = _; omega))

end Defs

variable (m : (ℓ : Loc nD τ sig) → Buf (Elt Ideal) ℓ) (c : Dev nD)

/-- What a point stores of a head, in terms of the whole arrays. -/
theorem gdn_piece (t : Fin cfg0.N) (o : ℕ) (ho : o + 128 ≤ 1024) (h : ∀ b, (![0, o] : Fin 2 → Nat) b + S192x128.size b ≤ S192x1024.size b)
    (h' : ∀ b, (![0, o] : Fin 2 → Nat) b + S192x128.size b ≤ S192x2048.size b) (a : Fin 192) (k : Fin 128) :
    headOut (Ideal.ofBits .f32 0x43000000#32) (View.ld (iblk m c 0 t) (Rect.unit ![0, o] ![192, 128] h)) (View.ld (X0_2 m c t) (Rect.unit ![0, o] ![192, 128] h))
        (View.ld (iblk m c 6 t) (Rect.unit ![0, o] ![192, 128] h')) (iblk m c 4 t) a k
      = gdnHead (m ((c : Thread nD τ).loc main_arg0)) (m ((c : Thread nD τ).loc main_arg2)) (m ((c : Thread nD τ).loc main_arg5)) (m ((c : Thread nD τ).loc main_arg3)) (row t a) o ho k := by
  unfold headOut gdnHead gdnCot
  rw [gdn_x m c t a o ho h, gdn_z m c t a o ho h, gdn_d m c t a o ho h', gdn_w m c t]

/-- What a head adds to the weight's gradient. -/
theorem gdn_term (t : Fin cfg0.N) (o : ℕ) (ho : o + 128 ≤ 1024) (h : ∀ b, (![0, o] : Fin 2 → Nat) b + S192x128.size b ≤ S192x1024.size b)
    (h' : ∀ b, (![0, o] : Fin 2 → Nat) b + S192x128.size b ≤ S192x2048.size b) (k : Fin 128) :
    (∑ a : Fin 192, headTerm (Ideal.ofBits .f32 0x43000000#32) (View.ld (iblk m c 0 t) (Rect.unit ![0, o] ![192, 128] h)) (View.ld (X0_2 m c t) (Rect.unit ![0, o] ![192, 128] h))
        (View.ld (iblk m c 6 t) (Rect.unit ![0, o] ![192, 128] h')) a k : EReal)
      = ∑ a : Fin 192, gdnRow (m ((c : Thread nD τ).loc main_arg0)) (m ((c : Thread nD τ).loc main_arg2)) (m ((c : Thread nD τ).loc main_arg5)) (row t a) o ho k := by
  refine Finset.sum_congr rfl fun a _ => ?_
  unfold headTerm gdnRow gdnCot
  rw [gdn_x m c t a o ho h, gdn_z m c t a o ho h, gdn_d m c t a o ho h']

/-- The place of a stored entry in the whole array. -/
theorem gdn_place (t : Fin cfg0.N) (q : ℕ) (hq : q * 128 + 128 ≤ 1024) (a : Fin 192) (k : Fin 128) (y : S192x1024.Idx)
    (e0 : (y 0).val = a.val) (e1 : (y 1).val = q * 128 + k.val) :
    gdnHead (m ((c : Thread nD τ).loc main_arg0)) (m ((c : Thread nD τ).loc main_arg2)) (m ((c : Thread nD τ).loc main_arg5)) (m ((c : Thread nD τ).loc main_arg3)) (row t a) (q * 128) hq k
      = gdnGrad (m ((c : Thread nD τ).loc main_arg0)) (m ((c : Thread nD τ).loc main_arg2)) (m ((c : Thread nD τ).loc main_arg5)) (m ((c : Thread nD τ).loc main_arg3)) (ix2 (row t (y 0)) (y 1)) := by
  obtain rfl : a = y 0 := Fin.ext e0.symm
  exact (gdnGrad_at _ _ _ _ _ q hq k _ e1).symm

/-- What a point leaves for the gradient of the heads. -/
theorem gdn_outs (t : Fin cfg0.N) (y : S192x1024.Idx) : (outsAt0 m c t.val t.isLt).1 y
    = gdnGrad (m ((c : Thread nD τ).loc main_arg0)) (m ((c : Thread nD τ).loc main_arg2)) (m ((c : Thread nD τ).loc main_arg5)) (m ((c : Thread nD τ).loc main_arg3)) (ix2 (row t (y 0)) (y 1)) := by
  have hN := lt_of_lt_of_eq t.isLt N_0
  by_cases h0 : t.val % 43 = 0
  · rw [outsAt0_A m c t h0 (by omega)]
    frame_out
    canon_tiles x h
    · refine (congrArg _ (eq_ix2 x)).trans ((gdnOut_896 _ _ _ _ _ _).trans ((gdn_piece m c t 896 (by omega) _ _ (x 0) (x 1)).trans ?_))
      exact gdn_place m c t 7 (by omega) (x 0) (x 1) y (by omega) (by omega)
    · refine (congrArg _ (eq_ix2 x)).trans ((gdnOut_768 _ _ _ _ _ _).trans ((gdn_piece m c t 768 (by omega) _ _ (x 0) (x 1)).trans ?_))
      exact gdn_place m c t 6 (by omega) (x 0) (x 1) y (by omega) (by omega)
    · refine (congrArg _ (eq_ix2 x)).trans ((gdnOut_640 _ _ _ _ _ _).trans ((gdn_piece m c t 640 (by omega) _ _ (x 0) (x 1)).trans ?_))
      exact gdn_place m c t 5 (by omega) (x 0) (x 1) y (by omega) (by omega)
    · refine (congrArg _ (eq_ix2 x)).trans ((gdnOut_512 _ _ _ _ _ _).trans ((gdn_piece m c t 512 (by omega) _ _ (x 0) (x 1)).trans ?_))
      exact gdn_place m c t 4 (by omega) (x 0) (x 1) y (by omega) (by omega)
    · refine (congrArg _ (eq_ix2 x)).trans ((gdnOut_384 _ _ _ _ _ _).trans ((gdn_piece m c t 384 (by omega) _ _ (x 0) (x 1)).trans ?_))
      exact gdn_place m c t 3 (by omega) (x 0) (x 1) y (by omega) (by omega)
    · refine (congrArg _ (eq_ix2 x)).trans ((gdnOut_256 _ _ _ _ _ _).trans ((gdn_piece m c t 256 (by omega) _ _ (x 0) (x 1)).trans ?_))
      exact gdn_place m c t 2 (by omega) (x 0) (x 1) y (by omega) (by omega)
    · refine (congrArg _ (eq_ix2 x)).trans ((gdnOut_128 _ _ _ _ _ _).trans ((gdn_piece m c t 128 (by omega) _ _ (x 0) (x 1)).trans ?_))
      exact gdn_place m c t 1 (by omega) (x 0) (x 1) y (by omega) (by omega)
    · refine (congrArg _ (eq_ix2 x)).trans ((gdnOut_0 _ _ _ _ _ _).trans ((gdn_piece m c t 0 (by omega) _ _ (x 0) (x 1)).trans ?_))
      exact gdn_place m c t 0 (by omega) (x 0) (x 1) y (by omega) (by omega)
  · rw [outsAt0_B m c t h0 (by omega)]
    frame_out
    canon_tiles x h
    · refine (congrArg _ (eq_ix2 x)).trans ((gdnOut_896 _ _ _ _ _ _).trans ((gdn_piece m c t 896 (by omega) _ _ (x 0) (x 1)).trans ?_))
      exact gdn_place m c t 7 (by omega) (x 0) (x 1) y (by omega) (by omega)
    · refine (congrArg _ (eq_ix2 x)).trans ((gdnOut_768 _ _ _ _ _ _).trans ((gdn_piece m c t 768 (by omega) _ _ (x 0) (x 1)).trans ?_))
      exact gdn_place m c t 6 (by omega) (x 0) (x 1) y (by omega) (by omega)
    · refine (congrArg _ (eq_ix2 x)).trans ((gdnOut_640 _ _ _ _ _ _).trans ((gdn_piece m c t 640 (by omega) _ _ (x 0) (x 1)).trans ?_))
      exact gdn_place m c t 5 (by omega) (x 0) (x 1) y (by omega) (by omega)
    · refine (congrArg _ (eq_ix2 x)).trans ((gdnOut_512 _ _ _ _ _ _).trans ((gdn_piece m c t 512 (by omega) _ _ (x 0) (x 1)).trans ?_))
      exact gdn_place m c t 4 (by omega) (x 0) (x 1) y (by omega) (by omega)
    · refine (congrArg _ (eq_ix2 x)).trans ((gdnOut_384 _ _ _ _ _ _).trans ((gdn_piece m c t 384 (by omega) _ _ (x 0) (x 1)).trans ?_))
      exact gdn_place m c t 3 (by omega) (x 0) (x 1) y (by omega) (by omega)
    · refine (congrArg _ (eq_ix2 x)).trans ((gdnOut_256 _ _ _ _ _ _).trans ((gdn_piece m c t 256 (by omega) _ _ (x 0) (x 1)).trans ?_))
      exact gdn_place m c t 2 (by omega) (x 0) (x 1) y (by omega) (by omega)
    · refine (congrArg _ (eq_ix2 x)).trans ((gdnOut_128 _ _ _ _ _ _).trans ((gdn_piece m c t 128 (by omega) _ _ (x 0) (x 1)).trans ?_))
      exact gdn_place m c t 1 (by omega) (x 0) (x 1) y (by omega) (by omega)
    · refine (congrArg _ (eq_ix2 x)).trans ((gdnOut_0 _ _ _ _ _ _).trans ((gdn_piece m c t 0 (by omega) _ _ (x 0) (x 1)).trans ?_))
      exact gdn_place m c t 0 (by omega) (x 0) (x 1) y (by omega) (by omega)

/-- The gradient of the heads, after all points. -/
theorem gdn_final : (dats m 0 c).arrAt 7 (cfgs 0).N = gdnGrad (m ((c : Thread nD τ).loc main_arg0)) (m ((c : Thread nD τ).loc main_arg2)) (m ((c : Thread nD τ).loc main_arg5)) (m ((c : Thread nD τ).loc main_arg3)) := by
  refine (dats m 0 c).arrAt_eq_of_covers 7 _ (by decide +kernel) fun t _ y => ?_
  blk_simp
  rw [after0_7, gdn_outs m c t]
  generalize gdnGrad (m ((c : Thread nD τ).loc main_arg0)) (m ((c : Thread nD τ).loc main_arg2)) (m ((c : Thread nD τ).loc main_arg5)) (m ((c : Thread nD τ).loc main_arg3)) = G
  blk_point [row, idx t]

/-- A point's part of the weight's gradient. -/
def gdnPart (t : Fin cfg0.N) : FVec Ideal S1x128 .f32 :=
  k0_pay92 (k0_pay83 (k0_pay71 (k0_pay61 (k0_pay50 (k0_pay36 (k0_pay26 (k0_pay16 k0_pay6 (k0_pay10 (View.ld (iblk m c 0 t) (Rect.unit ![0, 0] ![192, 128] inb_S192x1024_S192x128_0_0))) (k0_pay13 (View.ld (X0_2 m c t) (Rect.unit ![0, 0] ![192, 128] inb_S192x1024_S192x128_0_0))) (View.ld (iblk m c 6 t) (Rect.unit ![0, 0] ![192, 128] inb_S192x2048_S192x128_0_0))) (k0_pay20 (View.ld (iblk m c 0 t) (Rect.unit ![0, 128] ![192, 128] inb_S192x1024_S192x128_0_128))) (k0_pay23 (View.ld (X0_2 m c t) (Rect.unit ![0, 128] ![192, 128] inb_S192x1024_S192x128_0_128))) (View.ld (iblk m c 6 t) (Rect.unit ![0, 128] ![192, 128] inb_S192x2048_S192x128_0_128))) (k0_pay28 (View.ld (iblk m c 0 t) (Rect.unit ![0, 256] ![192, 128] inb_S192x1024_S192x128_0_256))) (k0_pay29 (View.ld (iblk m c 0 t) (Rect.unit ![0, 256] ![192, 128] inb_S192x1024_S192x128_0_256))) (View.ld (X0_2 m c t) (Rect.unit ![0, 256] ![192, 128] inb_S192x1024_S192x128_0_256)) (View.ld (iblk m c 6 t) (Rect.unit ![0, 256] ![192, 128] inb_S192x2048_S192x128_0_256))) (k0_pay42 (View.ld (iblk m c 0 t) (Rect.unit ![0, 384] ![192, 128] inb_S192x1024_S192x128_0_384))) (k0_pay45 (View.ld (X0_2 m c t) (Rect.unit ![0, 384] ![192, 128] inb_S192x1024_S192x128_0_384))) (View.ld (iblk m c 6 t) (Rect.unit ![0, 384] ![192, 128] inb_S192x2048_S192x128_0_384))) (k0_pay54 (View.ld (iblk m c 0 t) (Rect.unit ![0, 512] ![192, 128] inb_S192x1024_S192x128_0_512))) (k0_pay55 (View.ld (X0_2 m c t) (Rect.unit ![0, 512] ![192, 128] inb_S192x1024_S192x128_0_512))) (k0_pay56 (View.ld (X0_2 m c t) (Rect.unit ![0, 512] ![192, 128] inb_S192x1024_S192x128_0_512))) (k0_pay57) (View.ld (iblk m c 6 t) (Rect.unit ![0, 512] ![192, 128] inb_S192x2048_S192x128_0_512))) (k0_pay63 (View.ld (iblk m c 0 t) (Rect.unit ![0, 640] ![192, 128] inb_S192x1024_S192x128_0_640))) (k0_pay64 (View.ld (iblk m c 0 t) (Rect.unit ![0, 640] ![192, 128] inb_S192x1024_S192x128_0_640))) (View.ld (X0_2 m c t) (Rect.unit ![0, 640] ![192, 128] inb_S192x1024_S192x128_0_640)) (View.ld (iblk m c 6 t) (Rect.unit ![0, 640] ![192, 128] inb_S192x2048_S192x128_0_640))) (k0_pay76 (View.ld (iblk m c 0 t) (Rect.unit ![0, 768] ![192, 128] inb_S192x1024_S192x128_0_768))) (k0_pay79 (View.ld (X0_2 m c t) (Rect.unit ![0, 768] ![192, 128] inb_S192x1024_S192x128_0_768))) (View.ld (iblk m c 6 t) (Rect.unit ![0, 768] ![192, 128] inb_S192x2048_S192x128_0_768))) (k0_pay87 (View.ld (iblk m c 0 t) (Rect.unit ![0, 896] ![192, 128] inb_S192x1024_S192x128_0_896))) (k0_pay88 (View.ld (X0_2 m c t) (Rect.unit ![0, 896] ![192, 128] inb_S192x1024_S192x128_0_896))) (View.ld (iblk m c 6 t) (Rect.unit ![0, 896] ![192, 128] inb_S192x2048_S192x128_0_896))

theorem gdn_zero (k : Fin 128) : k0_pay6 (F := Ideal) (ix2 0 k) = (0 : EReal) := by
  pointwise [k0_pay6]

theorem gdnPart_at (t : Fin cfg0.N) (k : Fin 128) : gdnPart m c t (ix2 0 k)
    = (∑ a : Fin 192, ∑ q : Fin 8, gdnRow (m ((c : Thread nD τ).loc main_arg0)) (m ((c : Thread nD τ).loc main_arg2)) (m ((c : Thread nD τ).loc main_arg5)) (row t a) (q.val * 128) (by omega) k : EReal) := by
  unfold gdnPart
  rw [Finset.sum_comm, Fin.sum_univ_eight, gdnTerm_896, gdnTerm_768, gdnTerm_640, gdnTerm_512, gdnTerm_384, gdnTerm_256, gdnTerm_128, gdnTerm_0, gdn_zero, zero_add,
    gdn_term m c t 896 (by omega), gdn_term m c t 768 (by omega), gdn_term m c t 640 (by omega), gdn_term m c t 512 (by omega), gdn_term m c t 384 (by omega), gdn_term m c t 256 (by omega), gdn_term m c t 128 (by omega), gdn_term m c t 0 (by omega)]
  rfl

theorem gdn_step_at (p acc : FVec Ideal S1x128 .f32) (j : S1x128.Idx) : k0_pay4 (F := Ideal) p acc j = (acc j + p j : EReal) := by
  pointwise [k0_pay4]

/-- The weight's gradient at the last point. -/
theorem gdn_acc (t : Fin cfg0.N) (h : t.val % 43 = 43 - 1) (j : S1x128.Idx) : (outsAt0 m c t.val t.isLt).2.2.2.1 j
    = (∑ s : Fin 43, gdnPart m c ⟨43 * (t.val / 43) + s.val, Pipeline.run_point_lt_of_flush t h s⟩ j : EReal) := by
  refine (Pipeline.eq_sum_fin_of_reset_step_apply_of_flush (M := EReal) (fun n h => (outsAt0 m c n h).2.2.2.1) 43 (fun _ => 0)
    (fun t j => gdnPart m c t j) (fun t h0 j => ?_) (fun t h0 j => ?_) t h j).trans (zero_add _)
  · have hN := lt_of_lt_of_eq t.isLt N_0
    rw [outsAt0_A m c t h0 (by omega)]
    frame_out
    rw [zero_add]
    rfl
  · have hN := lt_of_lt_of_eq t.isLt N_0
    rw [outsAt0_B m c t h0 (by omega)]
    frame_out
    exact gdn_step_at _ _ j

/-- The weight's gradient at the last point, in terms of the whole arrays. -/
theorem gdn_sum (t : Fin cfg0.N) (h : t.val % 43 = 42) (y : S1x128.Idx) : (outsAt0 m c t.val t.isLt).2.2.2.1 y
    = gdnWeight (m ((c : Thread nD τ).loc main_arg0)) (m ((c : Thread nD τ).loc main_arg2)) (m ((c : Thread nD τ).loc main_arg5)) (ix2 0 (y 1)) := by
  have hN := lt_of_lt_of_eq t.isLt N_0
  have ey : y = ix2 0 (y 1) := (eq_ix2 y).trans (congrArg (fun b : Fin 1 => ix2 b (y 1)) (Subsingleton.elim _ _))
  rw [gdn_acc m c t h]
  unfold gdnWeight
  refine Eq.trans ?_ (Fin.sum_mul_add_fin 43 192 (fun l : Fin 8256 => ∑ q : Fin 8, gdnRow (m ((c : Thread nD τ).loc main_arg0)) (m ((c : Thread nD τ).loc main_arg2)) (m ((c : Thread nD τ).loc main_arg5)) l (q.val * 128) (by omega) (y 1)))
  refine Finset.sum_congr rfl fun p _ => ?_
  rw [show (⟨43 * (t.val / 43) + p.val, Pipeline.run_point_lt_of_flush t h p⟩ : Fin cfg0.N) = ⟨p.val, lt_of_lt_of_eq p.isLt N_0.symm⟩ from
    Fin.ext (by show 43 * (t.val / 43) + p.val = p.val; omega)]
  exact (congrArg _ ey).trans (gdnPart_at m c ⟨p.val, lt_of_lt_of_eq p.isLt N_0.symm⟩ (y 1))

/-- The gradient of the weight, after all points. -/
theorem gdn_weight : (dats m 0 c).arrAt 10 (cfgs 0).N = gdnWeight (m ((c : Thread nD τ).loc main_arg0)) (m ((c : Thread nD τ).loc main_arg2)) (m ((c : Thread nD τ).loc main_arg5)) := by
  refine (dats m 0 c).arrAt_eq_of_covers 10 _ (by decide +kernel) fun t hf y => ?_
  have e := gdn_sum m c t ((flush0_10 t).mp hf) y
  blk_simp
  rw [after0_10, e]
  generalize gdnWeight (m ((c : Thread nD τ).loc main_arg0)) (m ((c : Thread nD τ).loc main_arg2)) (m ((c : Thread nD τ).loc main_arg5)) = G
  blk_point [idx t]

end Cert.MixGrad

end
-- ==== Proof.Mix.GlaHeads.lean ====
/-
  The heads of 256 columns, one by one: what a point computes for each is the same function of its columns.
-/
module

public import proofs.«01_k».proof.Defs
public import proofs.«01_k».proof.Proof.Gen.Kernel20Ideal.Frame
public import proofs.«01_k».proof.Proof.Mix.Scalar
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.MixGrad

open Cert.Kernel20Ideal Cert.Kernel20Ideal.Gen

variable (v0 v2 : Vec Ideal S192x256 .bf16) (v6 : Vec Ideal S192x256 .f32) (v4 : Vec Ideal S1x256 .f32) (a : Fin 192) (k : Fin 256)

/-! What a point stores for each head. -/

theorem glaOut_0 : k0_pay103 (F := Ideal) (k0_pay95 v0) (k0_pay96 v0) (k0_pay100 v2 v6) v4 (ix2 a k) = headOut (Ideal.ofBits .f32 0x43800000#32) v0 v2 v6 v4 a k := by
  pointwise [k0_pay94, k0_pay95, k0_pay96, k0_pay97, k0_pay98, k0_pay100, k0_pay103, headOut, grad, ratio, gated, Cert.Swiglu.sigTanh]

theorem glaOut_256 : k0_pay114 (F := Ideal) (k0_pay105 v0) (k0_pay106 v0) (k0_pay109 v2) v6 v4 (ix2 a k) = headOut (Ideal.ofBits .f32 0x43800000#32) v0 v2 v6 v4 a k := by
  pointwise [k0_pay104, k0_pay105, k0_pay106, k0_pay107, k0_pay108, k0_pay109, k0_pay112, k0_pay114, headOut, grad, ratio, gated, Cert.Swiglu.sigTanh]

theorem glaOut_512 : k0_pay125 (F := Ideal) (k0_pay116 v0) (k0_pay123 v2 v6 v4) (k0_pay124 (k0_pay115 v0) (k0_pay116 v0) v2 v6 v4) (ix2 a k) = headOut (Ideal.ofBits .f32 0x43800000#32) v0 v2 v6 v4 a k := by
  pointwise [k0_pay115, k0_pay116, k0_pay117, k0_pay118, k0_pay119, k0_pay121, k0_pay123, k0_pay124, k0_pay125, headOut, grad, ratio, gated, Cert.Swiglu.sigTanh]

theorem glaOut_768 : k0_pay3 (F := Ideal) (k0_pay127 v0) (k0_pay128 v0) (k0_pay131 v2) v6 v4 (ix2 a k) = headOut (Ideal.ofBits .f32 0x43800000#32) v0 v2 v6 v4 a k := by
  pointwise [k0_pay1, k0_pay3, k0_pay126, k0_pay127, k0_pay128, k0_pay129, k0_pay130, k0_pay131, headOut, grad, ratio, gated, Cert.Swiglu.sigTanh]

variable (acc : FVec Ideal S1x256 .f32)

/-! What each head adds to the point's part of the weight's gradient. -/

theorem glaTerm_0 : k0_pay102 (F := Ideal) acc (k0_pay101 v0 v2 v6) (ix2 0 k) = (acc (ix2 0 k) + ∑ a : Fin 192, headTerm (Ideal.ofBits .f32 0x43800000#32) v0 v2 v6 a k : EReal) := by
  pointwise [k0_pay94, k0_pay95, k0_pay96, k0_pay97, k0_pay98, k0_pay100, k0_pay101, k0_pay102, headTerm, term, ratio, gated, Cert.Swiglu.sigTanh]

theorem glaTerm_256 : k0_pay113 (F := Ideal) acc (k0_pay106 v0) (k0_pay109 v2) v6 (ix2 0 k) = (acc (ix2 0 k) + ∑ a : Fin 192, headTerm (Ideal.ofBits .f32 0x43800000#32) v0 v2 v6 a k : EReal) := by
  pointwise [k0_pay104, k0_pay105, k0_pay106, k0_pay107, k0_pay108, k0_pay109, k0_pay112, k0_pay113, headTerm, term, ratio, gated, Cert.Swiglu.sigTanh]

theorem glaTerm_512 : k0_pay122 (F := Ideal) acc (k0_pay115 v0) (k0_pay116 v0) v2 v6 (ix2 0 k) = (acc (ix2 0 k) + ∑ a : Fin 192, headTerm (Ideal.ofBits .f32 0x43800000#32) v0 v2 v6 a k : EReal) := by
  pointwise [k0_pay115, k0_pay116, k0_pay117, k0_pay118, k0_pay119, k0_pay121, k0_pay122, headTerm, term, ratio, gated, Cert.Swiglu.sigTanh]

theorem glaTerm_768 : k0_pay2 (F := Ideal) acc (k0_pay128 v0) (k0_pay131 v2) v6 (ix2 0 k) = (acc (ix2 0 k) + ∑ a : Fin 192, headTerm (Ideal.ofBits .f32 0x43800000#32) v0 v2 v6 a k : EReal) := by
  pointwise [k0_pay1, k0_pay2, k0_pay126, k0_pay127, k0_pay128, k0_pay129, k0_pay130, k0_pay131, headTerm, term, ratio, gated, Cert.Swiglu.sigTanh]

end Cert.MixGrad

end
-- ==== Proof.Mix.Gla.lean ====
/-
  The heads of 256 columns: the gradient of their norm's input and of its weight, after all points.
-/
module

public import proofs.«01_k».proof.Defs
public import proofs.«01_k».proof.Proof.Gen.Kernel20Ideal.Frame
public import proofs.«01_k».proof.Proof.Mix.Blocks
public import proofs.«01_k».proof.Proof.Mix.GlaHeads
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.MixGrad

open Cert.Kernel20Ideal Cert.Kernel20Ideal.Gen

section Defs

variable (X : FVec Ideal S8256x1024 .bf16) (Z : FVec Ideal S8256x7680 .bf16) (D : FVec Ideal S8256x2048 .f32) (W : FVec Ideal S1x256 .f32)

/-- The cotangent behind the gate of the head from column `o` on, in row `l`. -/
def glaCot (l : Fin 8256) (o : ℕ) (h : o + 256 ≤ 1024) : Fin 256 → EReal :=
  gated (cols D l (1024 + o) (by omega)) (cols Z l (1024 + o) (by omega))

/-- The gradient of the head from column `o` on, in row `l`. -/
def glaHead (l : Fin 8256) (o : ℕ) (h : o + 256 ≤ 1024) (k : Fin 256) : EReal :=
  grad (Ideal.ofBits .f32 0x43800000#32) (cols X l o h) (glaCot Z D l o h) (fun k => W (ix2 0 k)) k

/-- The gradient of the heads. -/
def glaGrad : FVec Ideal S8256x1024 .bf16 := fun i =>
  glaHead X Z D W (i 0) ((i 1).val / 256 * 256) (by have h : (i 1).val < 1024 := (i 1).isLt; omega) ⟨(i 1).val % 256, by omega⟩

/-- A row's term of the weight's gradient, for the head from column `o` on. -/
def glaRow (l : Fin 8256) (o : ℕ) (h : o + 256 ≤ 1024) (k : Fin 256) : EReal := term (Ideal.ofBits .f32 0x43800000#32) (cols X l o h) (glaCot Z D l o h) k

/-- The weight's gradient: over all rows and heads. -/
def glaWeight : FVec Ideal S1x256 .f32 := fun i => (∑ l : Fin 8256, ∑ q : Fin 4, glaRow X Z D l (q.val * 256) (by omega) (i 1) : EReal)

theorem glaHead_congr (l : Fin 8256) {o o' : ℕ} (h : o + 256 ≤ 1024) (h' : o' + 256 ≤ 1024) {k k' : Fin 256} (e : o = o') (ek : k = k') :
    glaHead X Z D W l o h k = glaHead X Z D W l o' h' k' := by
  subst e ek
  rfl

theorem glaGrad_at (l : Fin 8256) (q : ℕ) (h : q * 256 + 256 ≤ 1024) (k : Fin 256) (j : Fin 1024) (hj : j.val = q * 256 + k.val) :
    glaGrad X Z D W (ix2 l j) = glaHead X Z D W l (q * 256) h k :=
  glaHead_congr X Z D W l _ _ (by show j.val / 256 * 256 = _; omega) (Fin.ext (by show j.val % 256 = _; omega))

end Defs

variable (m : (ℓ : Loc nD τ sig) → Buf (Elt Ideal) ℓ) (c : Dev nD)

/-- What a point stores of a head, in terms of the whole arrays. -/
theorem gla_piece (t : Fin cfg0.N) (o : ℕ) (ho : o + 256 ≤ 1024) (h : ∀ b, (![0, o] : Fin 2 → Nat) b + S192x256.size b ≤ S192x1024.size b)
    (h' : ∀ b, (![0, (1024 + o)] : Fin 2 → Nat) b + S192x256.size b ≤ S192x2048.size b) (a : Fin 192) (k : Fin 256) :
    headOut (Ideal.ofBits .f32 0x43800000#32) (View.ld (iblk m c 1 t) (Rect.unit ![0, o] ![192, 256] h)) (View.ld (X0_3 m c t) (Rect.unit ![0, o] ![192, 256] h))
        (View.ld (iblk m c 6 t) (Rect.unit ![0, (1024 + o)] ![192, 256] h')) (iblk m c 5 t) a k
      = glaHead (m ((c : Thread nD τ).loc main_arg1)) (m ((c : Thread nD τ).loc main_arg2)) (m ((c : Thread nD τ).loc main_arg5)) (m ((c : Thread nD τ).loc main_arg4)) (row t a) o ho k := by
  unfold headOut glaHead glaCot
  rw [gla_x m c t a o ho h, gla_z m c t a o ho h, gla_d m c t a o ho h', gla_w m c t]

/-- What a head adds to the weight's gradient. -/
theorem gla_term (t : Fin cfg0.N) (o : ℕ) (ho : o + 256 ≤ 1024) (h : ∀ b, (![0, o] : Fin 2 → Nat) b + S192x256.size b ≤ S192x1024.size b)
    (h' : ∀ b, (![0, (1024 + o)] : Fin 2 → Nat) b + S192x256.size b ≤ S192x2048.size b) (k : Fin 256) :
    (∑ a : Fin 192, headTerm (Ideal.ofBits .f32 0x43800000#32) (View.ld (iblk m c 1 t) (Rect.unit ![0, o] ![192, 256] h)) (View.ld (X0_3 m c t) (Rect.unit ![0, o] ![192, 256] h))
        (View.ld (iblk m c 6 t) (Rect.unit ![0, (1024 + o)] ![192, 256] h')) a k : EReal)
      = ∑ a : Fin 192, glaRow (m ((c : Thread nD τ).loc main_arg1)) (m ((c : Thread nD τ).loc main_arg2)) (m ((c : Thread nD τ).loc main_arg5)) (row t a) o ho k := by
  refine Finset.sum_congr rfl fun a _ => ?_
  unfold headTerm glaRow glaCot
  rw [gla_x m c t a o ho h, gla_z m c t a o ho h, gla_d m c t a o ho h']

/-- The place of a stored entry in the whole array. -/
theorem gla_place (t : Fin cfg0.N) (q : ℕ) (hq : q * 256 + 256 ≤ 1024) (a : Fin 192) (k : Fin 256) (y : S192x1024.Idx)
    (e0 : (y 0).val = a.val) (e1 : (y 1).val = q * 256 + k.val) :
    glaHead (m ((c : Thread nD τ).loc main_arg1)) (m ((c : Thread nD τ).loc main_arg2)) (m ((c : Thread nD τ).loc main_arg5)) (m ((c : Thread nD τ).loc main_arg4)) (row t a) (q * 256) hq k
      = glaGrad (m ((c : Thread nD τ).loc main_arg1)) (m ((c : Thread nD τ).loc main_arg2)) (m ((c : Thread nD τ).loc main_arg5)) (m ((c : Thread nD τ).loc main_arg4)) (ix2 (row t (y 0)) (y 1)) := by
  obtain rfl : a = y 0 := Fin.ext e0.symm
  exact (glaGrad_at _ _ _ _ _ q hq k _ e1).symm

/-- What a point leaves for the gradient of the heads. -/
theorem gla_outs (t : Fin cfg0.N) (y : S192x1024.Idx) : (outsAt0 m c t.val t.isLt).2.1 y
    = glaGrad (m ((c : Thread nD τ).loc main_arg1)) (m ((c : Thread nD τ).loc main_arg2)) (m ((c : Thread nD τ).loc main_arg5)) (m ((c : Thread nD τ).loc main_arg4)) (ix2 (row t (y 0)) (y 1)) := by
  have hN := lt_of_lt_of_eq t.isLt N_0
  by_cases h0 : t.val % 43 = 0
  · rw [outsAt0_A m c t h0 (by omega)]
    frame_out
    canon_tiles x h
    · refine (congrArg _ (eq_ix2 x)).trans ((glaOut_768 _ _ _ _ _ _).trans ((gla_piece m c t 768 (by omega) _ _ (x 0) (x 1)).trans ?_))
      exact gla_place m c t 3 (by omega) (x 0) (x 1) y (by omega) (by omega)
    · refine (congrArg _ (eq_ix2 x)).trans ((glaOut_512 _ _ _ _ _ _).trans ((gla_piece m c t 512 (by omega) _ _ (x 0) (x 1)).trans ?_))
      exact gla_place m c t 2 (by omega) (x 0) (x 1) y (by omega) (by omega)
    · refine (congrArg _ (eq_ix2 x)).trans ((glaOut_256 _ _ _ _ _ _).trans ((gla_piece m c t 256 (by omega) _ _ (x 0) (x 1)).trans ?_))
      exact gla_place m c t 1 (by omega) (x 0) (x 1) y (by omega) (by omega)
    · refine (congrArg _ (eq_ix2 x)).trans ((glaOut_0 _ _ _ _ _ _).trans ((gla_piece m c t 0 (by omega) _ _ (x 0) (x 1)).trans ?_))
      exact gla_place m c t 0 (by omega) (x 0) (x 1) y (by omega) (by omega)
  · rw [outsAt0_B m c t h0 (by omega)]
    frame_out
    canon_tiles x h
    · refine (congrArg _ (eq_ix2 x)).trans ((glaOut_768 _ _ _ _ _ _).trans ((gla_piece m c t 768 (by omega) _ _ (x 0) (x 1)).trans ?_))
      exact gla_place m c t 3 (by omega) (x 0) (x 1) y (by omega) (by omega)
    · refine (congrArg _ (eq_ix2 x)).trans ((glaOut_512 _ _ _ _ _ _).trans ((gla_piece m c t 512 (by omega) _ _ (x 0) (x 1)).trans ?_))
      exact gla_place m c t 2 (by omega) (x 0) (x 1) y (by omega) (by omega)
    · refine (congrArg _ (eq_ix2 x)).trans ((glaOut_256 _ _ _ _ _ _).trans ((gla_piece m c t 256 (by omega) _ _ (x 0) (x 1)).trans ?_))
      exact gla_place m c t 1 (by omega) (x 0) (x 1) y (by omega) (by omega)
    · refine (congrArg _ (eq_ix2 x)).trans ((glaOut_0 _ _ _ _ _ _).trans ((gla_piece m c t 0 (by omega) _ _ (x 0) (x 1)).trans ?_))
      exact gla_place m c t 0 (by omega) (x 0) (x 1) y (by omega) (by omega)

/-- The gradient of the heads, after all points. -/
theorem gla_final : (dats m 0 c).arrAt 8 (cfgs 0).N = glaGrad (m ((c : Thread nD τ).loc main_arg1)) (m ((c : Thread nD τ).loc main_arg2)) (m ((c : Thread nD τ).loc main_arg5)) (m ((c : Thread nD τ).loc main_arg4)) := by
  refine (dats m 0 c).arrAt_eq_of_covers 8 _ (by decide +kernel) fun t _ y => ?_
  blk_simp
  rw [after0_8, gla_outs m c t]
  generalize glaGrad (m ((c : Thread nD τ).loc main_arg1)) (m ((c : Thread nD τ).loc main_arg2)) (m ((c : Thread nD τ).loc main_arg5)) (m ((c : Thread nD τ).loc main_arg4)) = G
  blk_point [row, idx t]

/-- A point's part of the weight's gradient. -/
def glaPart (t : Fin cfg0.N) : FVec Ideal S1x256 .f32 :=
  k0_pay2 (k0_pay122 (k0_pay113 (k0_pay102 k0_pay7 (k0_pay101 (View.ld (iblk m c 1 t) (Rect.unit ![0, 0] ![192, 256] inb_S192x1024_S192x256_0_0)) (View.ld (X0_3 m c t) (Rect.unit ![0, 0] ![192, 256] inb_S192x1024_S192x256_0_0)) (View.ld (iblk m c 6 t) (Rect.unit ![0, 1024] ![192, 256] inb_S192x2048_S192x256_0_1024)))) (k0_pay106 (View.ld (iblk m c 1 t) (Rect.unit ![0, 256] ![192, 256] inb_S192x1024_S192x256_0_256))) (k0_pay109 (View.ld (X0_3 m c t) (Rect.unit ![0, 256] ![192, 256] inb_S192x1024_S192x256_0_256))) (View.ld (iblk m c 6 t) (Rect.unit ![0, 1280] ![192, 256] inb_S192x2048_S192x256_0_1280))) (k0_pay115 (View.ld (iblk m c 1 t) (Rect.unit ![0, 512] ![192, 256] inb_S192x1024_S192x256_0_512))) (k0_pay116 (View.ld (iblk m c 1 t) (Rect.unit ![0, 512] ![192, 256] inb_S192x1024_S192x256_0_512))) (View.ld (X0_3 m c t) (Rect.unit ![0, 512] ![192, 256] inb_S192x1024_S192x256_0_512)) (View.ld (iblk m c 6 t) (Rect.unit ![0, 1536] ![192, 256] inb_S192x2048_S192x256_0_1536))) (k0_pay128 (View.ld (iblk m c 1 t) (Rect.unit ![0, 768] ![192, 256] inb_S192x1024_S192x256_0_768))) (k0_pay131 (View.ld (X0_3 m c t) (Rect.unit ![0, 768] ![192, 256] inb_S192x1024_S192x256_0_768))) (View.ld (iblk m c 6 t) (Rect.unit ![0, 1792] ![192, 256] inb_S192x2048_S192x256_0_1792))

theorem gla_zero (k : Fin 256) : k0_pay7 (F := Ideal) (ix2 0 k) = (0 : EReal) := by
  pointwise [k0_pay7]

theorem glaPart_at (t : Fin cfg0.N) (k : Fin 256) : glaPart m c t (ix2 0 k)
    = (∑ a : Fin 192, ∑ q : Fin 4, glaRow (m ((c : Thread nD τ).loc main_arg1)) (m ((c : Thread nD τ).loc main_arg2)) (m ((c : Thread nD τ).loc main_arg5)) (row t a) (q.val * 256) (by omega) k : EReal) := by
  unfold glaPart
  rw [Finset.sum_comm, Fin.sum_univ_four, glaTerm_768, glaTerm_512, glaTerm_256, glaTerm_0, gla_zero, zero_add,
    gla_term m c t 768 (by omega), gla_term m c t 512 (by omega), gla_term m c t 256 (by omega), gla_term m c t 0 (by omega)]
  rfl

theorem gla_step_at (t : Fin cfg0.N) (acc : FVec Ideal S1x256 .f32) (j : S1x256.Idx) : k0_pay5 (F := Ideal) (k0_pay122 (k0_pay113 (k0_pay102 k0_pay7 (k0_pay101 (View.ld (iblk m c 1 t) (Rect.unit ![0, 0] ![192, 256] inb_S192x1024_S192x256_0_0)) (View.ld (X0_3 m c t) (Rect.unit ![0, 0] ![192, 256] inb_S192x1024_S192x256_0_0)) (View.ld (iblk m c 6 t) (Rect.unit ![0, 1024] ![192, 256] inb_S192x2048_S192x256_0_1024)))) (k0_pay106 (View.ld (iblk m c 1 t) (Rect.unit ![0, 256] ![192, 256] inb_S192x1024_S192x256_0_256))) (k0_pay109 (View.ld (X0_3 m c t) (Rect.unit ![0, 256] ![192, 256] inb_S192x1024_S192x256_0_256))) (View.ld (iblk m c 6 t) (Rect.unit ![0, 1280] ![192, 256] inb_S192x2048_S192x256_0_1280))) (k0_pay115 (View.ld (iblk m c 1 t) (Rect.unit ![0, 512] ![192, 256] inb_S192x1024_S192x256_0_512))) (k0_pay116 (View.ld (iblk m c 1 t) (Rect.unit ![0, 512] ![192, 256] inb_S192x1024_S192x256_0_512))) (View.ld (X0_3 m c t) (Rect.unit ![0, 512] ![192, 256] inb_S192x1024_S192x256_0_512)) (View.ld (iblk m c 6 t) (Rect.unit ![0, 1536] ![192, 256] inb_S192x2048_S192x256_0_1536))) (k0_pay128 (View.ld (iblk m c 1 t) (Rect.unit ![0, 768] ![192, 256] inb_S192x1024_S192x256_0_768))) (k0_pay131 (View.ld (X0_3 m c t) (Rect.unit ![0, 768] ![192, 256] inb_S192x1024_S192x256_0_768))) (View.ld (iblk m c 6 t) (Rect.unit ![0, 1792] ![192, 256] inb_S192x2048_S192x256_0_1792)) acc j = (acc j + glaPart m c t j : EReal) := by
  unfold glaPart
  pointwise [k0_pay5]

/-- The weight's gradient at the last point. -/
theorem gla_acc (t : Fin cfg0.N) (h : t.val % 43 = 43 - 1) (j : S1x256.Idx) : (outsAt0 m c t.val t.isLt).2.2.2.2 j
    = (∑ s : Fin 43, glaPart m c ⟨43 * (t.val / 43) + s.val, Pipeline.run_point_lt_of_flush t h s⟩ j : EReal) := by
  refine (Pipeline.eq_sum_fin_of_reset_step_apply_of_flush (M := EReal) (fun n h => (outsAt0 m c n h).2.2.2.2) 43 (fun _ => 0)
    (fun t j => glaPart m c t j) (fun t h0 j => ?_) (fun t h0 j => ?_) t h j).trans (zero_add _)
  · have hN := lt_of_lt_of_eq t.isLt N_0
    rw [outsAt0_A m c t h0 (by omega)]
    frame_out
    rw [zero_add]
    rfl
  · have hN := lt_of_lt_of_eq t.isLt N_0
    rw [outsAt0_B m c t h0 (by omega)]
    frame_out
    exact gla_step_at m c t _ j

/-- The weight's gradient at the last point, in terms of the whole arrays. -/
theorem gla_sum (t : Fin cfg0.N) (h : t.val % 43 = 42) (y : S1x256.Idx) : (outsAt0 m c t.val t.isLt).2.2.2.2 y
    = glaWeight (m ((c : Thread nD τ).loc main_arg1)) (m ((c : Thread nD τ).loc main_arg2)) (m ((c : Thread nD τ).loc main_arg5)) (ix2 0 (y 1)) := by
  have hN := lt_of_lt_of_eq t.isLt N_0
  have ey : y = ix2 0 (y 1) := (eq_ix2 y).trans (congrArg (fun b : Fin 1 => ix2 b (y 1)) (Subsingleton.elim _ _))
  rw [gla_acc m c t h]
  unfold glaWeight
  refine Eq.trans ?_ (Fin.sum_mul_add_fin 43 192 (fun l : Fin 8256 => ∑ q : Fin 4, glaRow (m ((c : Thread nD τ).loc main_arg1)) (m ((c : Thread nD τ).loc main_arg2)) (m ((c : Thread nD τ).loc main_arg5)) l (q.val * 256) (by omega) (y 1)))
  refine Finset.sum_congr rfl fun p _ => ?_
  rw [show (⟨43 * (t.val / 43) + p.val, Pipeline.run_point_lt_of_flush t h p⟩ : Fin cfg0.N) = ⟨p.val, lt_of_lt_of_eq p.isLt N_0.symm⟩ from
    Fin.ext (by show 43 * (t.val / 43) + p.val = p.val; omega)]
  exact (congrArg _ ey).trans (glaPart_at m c ⟨p.val, lt_of_lt_of_eq p.isLt N_0.symm⟩ (y 1))

/-- The gradient of the weight, after all points. -/
theorem gla_weight : (dats m 0 c).arrAt 11 (cfgs 0).N = glaWeight (m ((c : Thread nD τ).loc main_arg1)) (m ((c : Thread nD τ).loc main_arg2)) (m ((c : Thread nD τ).loc main_arg5)) := by
  refine (dats m 0 c).arrAt_eq_of_covers 11 _ (by decide +kernel) fun t hf y => ?_
  have e := gla_sum m c t ((flush0_11 t).mp hf) y
  blk_simp
  rw [after0_11, e]
  generalize glaWeight (m ((c : Thread nD τ).loc main_arg1)) (m ((c : Thread nD τ).loc main_arg2)) (m ((c : Thread nD τ).loc main_arg5)) = G
  blk_point [idx t]

end Cert.MixGrad

end
-- ==== Proof.Mix.Ref.lean ====
/-
  The plain derivative of the gated head norms, read at an index and compared with what the call computes.
-/
module

public import proofs.«01_k».proof.Proof.Mix.Gdn
public import proofs.«01_k».proof.Proof.Mix.Gla
public import proofs.«01_k».proof.Proof.Gen.Reference20Ideal.Run
public import Idealize.ShloMosaic.Lib.Pointwise.Tactic

@[expose] public section

set_option maxRecDepth 16384

noncomputable section

open Idealize.ShloMosaic Idealize.ShloMosaic.TcCoe Idealize.SL.Sem

namespace Cert.MixGrad

open Cert.Reference20Ideal Cert.Reference20Ideal.Gen

/-- The gated cotangent in the other spelling of the logistic function. -/
theorem gated_exp {n : ℕ} (d z : Fin n → EReal) (k : Fin n) : d k * (z k * Ideal.div 1 (1 + Ideal.exp (-z k))) = gated d z k :=
  congrArg (fun s => d k * (z k * s)) (Cert.Swiglu.sigTanh_eq (z k)).symm

/-- A gated cotangent is a real number. -/
theorem gated_real {n : ℕ} {d z : Fin n → EReal} (hd : ∀ k, ∃ r : ℝ, d k = (r : EReal)) (hz : ∀ k, ∃ r : ℝ, z k = (r : EReal)) (k : Fin n) :
    ∃ r : ℝ, gated d z k = (r : EReal) := by
  obtain ⟨a, ha⟩ := hd k
  obtain ⟨b, hb⟩ := hz k
  exact ⟨a * (b * (1 + Real.exp (-b))⁻¹), by
    rw [gated, ha, hb, Cert.Swiglu.sigTanh_eq, Cert.Swiglu.sigExp_coe, ← EReal.coe_mul, ← EReal.coe_mul]⟩

variable (m : (ℓ : Loc nD τ sig) → Buf (Elt Ideal) ℓ) (c : Dev nD)

/-- The cotangent behind the gate of a head is a real number. -/
theorem gdnCot_real (hZ : ∀ (l : Fin 8256) (k : Fin 2048), ∃ r : ℝ, (m ((c.tc : Thread nD τ).loc main_arg2)) (ix2 l ⟨k.val, by omega⟩) = ((r : ℝ) : EReal))
    (hD : ∀ i, ∃ r : ℝ, (m ((c.tc : Thread nD τ).loc main_arg5)) i = ((r : ℝ) : EReal)) (l : Fin 8256) (o : ℕ) (h : o + 128 ≤ 1024) (k : Fin 128) :
    ∃ r : ℝ, gdnCot (m ((c.tc : Thread nD τ).loc main_arg2)) (m ((c.tc : Thread nD τ).loc main_arg5)) l o h k = (r : EReal) :=
  gated_real (fun k => hD _) (fun k => hZ l ⟨o + k.val, by omega⟩) k

/-- The cotangent behind the gate of a head, as the chain rule writes it. -/
theorem gdnCot_exp (Z : (⟨2, ![8256, 7680]⟩ : Shape).Idx → EReal) (D : (⟨2, ![8256, 2048]⟩ : Shape).Idx → EReal) (l : Fin 8256) (o : ℕ)
    (h : o + 128 ≤ 1024) (k : Fin 128) (p p') :
    D (ix2 l ⟨o + k.val, p⟩) * (Z (ix2 l ⟨o + k.val, p'⟩) * Ideal.div 1 (1 + Ideal.exp (-Z (ix2 l ⟨o + k.val, p'⟩)))) = gdnCot Z D l o h k := by
  exact gated_exp (cols D l o (by omega)) (cols Z l o (by omega)) k

/-- The derivative by the heads. -/
theorem gdn_ref (hX : ∀ i, ∃ r : ℝ, (m ((c.tc : Thread nD τ).loc main_arg0)) i = ((r : ℝ) : EReal))
    (hZ : ∀ (l : Fin 8256) (k : Fin 2048), ∃ r : ℝ, (m ((c.tc : Thread nD τ).loc main_arg2)) (ix2 l ⟨k.val, by omega⟩) = ((r : ℝ) : EReal))
    (hW : ∀ i, ∃ r : ℝ, (m ((c.tc : Thread nD τ).loc main_arg3)) i = ((r : ℝ) : EReal)) (hD : ∀ i, ∃ r : ℝ, (m ((c.tc : Thread nD τ).loc main_arg5)) i = ((r : ℝ) : EReal))
    (i : S8256x1024.Idx) : Cert.Reference20Ideal.Value.res_main_v100 (F := Ideal) m c i = gdnGrad (m ((c.tc : Thread nD τ).loc main_arg0)) (m ((c.tc : Thread nD τ).loc main_arg2)) (m ((c.tc : Thread nD τ).loc main_arg5)) (m ((c.tc : Thread nD τ).loc main_arg3)) i := by
  have h1 : (i 1).val < 1024 := (i 1).isLt
  have ho : (i 1).val / 128 * 128 + 128 ≤ 1024 := by omega
  unfold Cert.Reference20Ideal.Value.res_main_v100
  pointwise
  refine (grad_at _ _ _ ?_ ?_ ?_ ⟨(i 1).val % 128, by omega⟩ _ _ _ _ _ ?_ ?_ ?_ 128 (by norm_num) ofBits_128 rfl).trans ?_
  · exact fun k => hX _
  · intro k
    obtain ⟨r, hr⟩ := gdnCot_real m c hZ hD (i 0) _ ho k
    exact ⟨r, (gdnCot_exp _ _ (i 0) _ ho k _ _).trans hr⟩
  · exact fun k => hW _
  · simp only [Nat.div_add_mod']
    exact congrArg _ (eq_ix2 i)
  · simp only [Nat.div_add_mod']
  · rfl
  · exact congrArg (fun d => grad _ _ d _ _) (funext fun k => gdnCot_exp _ _ (i 0) _ ho k _ _)

/-- The derivative by the weight. -/
theorem gdn_weight_ref (i : S1x128.Idx) : (broadcastInDim S1x128 ![1] bcast_S128_S1x128_1 (Host.reduceAdd (shapeCast _ (Host.reduceAdd (mulf (mulf (shapeCast _ (extf .f32 (m ((c.tc : Thread nD τ).loc main_arg0)) bitsLt_bf16_f32) shapeCasts_S8256x1024_S8256x8x128) (broadcastInDim S8256x8x128 ![0, 1, 2] bcast_S8256x8x1_S8256x8x128_0_1_2 (Host.rsqrt (addf (Host.divf (broadcastInDim S8256x8x1 ![0, 1] bcast_S8256x8_S8256x8x1_0_1 (Host.reduceAdd (mulf (shapeCast _ (extf .f32 (m ((c.tc : Thread nD τ).loc main_arg0)) bitsLt_bf16_f32) shapeCasts_S8256x1024_S8256x8x128) (shapeCast _ (extf .f32 (m ((c.tc : Thread nD τ).loc main_arg0)) bitsLt_bf16_f32) shapeCasts_S8256x1024_S8256x8x128)) (constant S_ .f32 0x00000000#32) reducesTo_S8256x8x128_S8256x8_d2 h_S_)) (broadcastInDim S8256x8x1 ![] bcast_S_S8256x8x1 (constant S_ .f32 0x43000000#32))) (broadcastInDim S8256x8x1 ![] bcast_S_S8256x8x1 (constant S_ .f32 0x358637BD#32)))))) (mulf (shapeCast _ (extractStridedSlice S8256x1024 ![0, 0] (m ((c.tc : Thread nD τ).loc main_arg5)) slices_S8256x2048_S8256x1024_0_0) shapeCasts_S8256x1024_S8256x8x128) (mulf (shapeCast _ (extf .f32 (extractStridedSlice S8256x1024 ![0, 0] (m ((c.tc : Thread nD τ).loc main_arg2)) slices_S8256x7680_S8256x1024_0_0) bitsLt_bf16_f32) shapeCasts_S8256x1024_S8256x8x128) (Host.divf (broadcastInDim S8256x8x128 ![] bcast_S_S8256x8x128 (constant S_ .f32 0x3F800000#32)) (addf (broadcastInDim S8256x8x128 ![] bcast_S_S8256x8x128 (constant S_ .f32 0x3F800000#32)) (Host.exp (Host.negf (shapeCast _ (extf .f32 (extractStridedSlice S8256x1024 ![0, 0] (m ((c.tc : Thread nD τ).loc main_arg2)) slices_S8256x7680_S8256x1024_0_0) bitsLt_bf16_f32) shapeCasts_S8256x1024_S8256x8x128)))))))) (constant S_ .f32 0x00000000#32) reducesTo_S8256x8x128_S128_d0_1 h_S_) shapeCasts_S128_S1x1x128) (constant S_ .f32 0x00000000#32) reducesTo_S1x1x128_S128_d0_1 h_S_) : FVec Ideal S1x128 .f32) i
    = gdnWeight (m ((c.tc : Thread nD τ).loc main_arg0)) (m ((c.tc : Thread nD τ).loc main_arg2)) (m ((c.tc : Thread nD τ).loc main_arg5)) i := by
  pointwise [reduce_two, gdnWeight]
  simp only [Fin.sum_univ_one]
  refine Finset.sum_congr rfl fun l _ => Finset.sum_congr rfl fun q _ => ?_
  refine (mul_comm _ _).trans ?_
  unfold gdnRow term
  exact congrArg (fun d => d * _) (gdnCot_exp _ _ l (q.val * 128) (by omega) (i 1) _ _)

/-- The cotangent behind the gate of a head is a real number. -/
theorem glaCot_real (hZ : ∀ (l : Fin 8256) (k : Fin 2048), ∃ r : ℝ, (m ((c.tc : Thread nD τ).loc main_arg2)) (ix2 l ⟨k.val, by omega⟩) = ((r : ℝ) : EReal))
    (hD : ∀ i, ∃ r : ℝ, (m ((c.tc : Thread nD τ).loc main_arg5)) i = ((r : ℝ) : EReal)) (l : Fin 8256) (o : ℕ) (h : o + 256 ≤ 1024) (k : Fin 256) :
    ∃ r : ℝ, glaCot (m ((c.tc : Thread nD τ).loc main_arg2)) (m ((c.tc : Thread nD τ).loc main_arg5)) l o h k = (r : EReal) :=
  gated_real (fun k => hD _) (fun k => hZ l ⟨(1024 + o) + k.val, by omega⟩) k

/-- The cotangent behind the gate of a head, as the chain rule writes it. -/
theorem glaCot_exp (Z : (⟨2, ![8256, 7680]⟩ : Shape).Idx → EReal) (D : (⟨2, ![8256, 2048]⟩ : Shape).Idx → EReal) (l : Fin 8256) (o : ℕ)
    (h : o + 256 ≤ 1024) (k : Fin 256) (p p') :
    D (ix2 l ⟨1024 + (o + k.val), p⟩) * (Z (ix2 l ⟨1024 + (o + k.val), p'⟩) * Ideal.div 1 (1 + Ideal.exp (-Z (ix2 l ⟨1024 + (o + k.val), p'⟩)))) = glaCot Z D l o h k := by
  simp only [← Nat.add_assoc]
  exact gated_exp (cols D l (1024 + o) (by omega)) (cols Z l (1024 + o) (by omega)) k

/-- The derivative by the heads. -/
theorem gla_ref (hX : ∀ i, ∃ r : ℝ, (m ((c.tc : Thread nD τ).loc main_arg1)) i = ((r : ℝ) : EReal))
    (hZ : ∀ (l : Fin 8256) (k : Fin 2048), ∃ r : ℝ, (m ((c.tc : Thread nD τ).loc main_arg2)) (ix2 l ⟨k.val, by omega⟩) = ((r : ℝ) : EReal))
    (hW : ∀ i, ∃ r : ℝ, (m ((c.tc : Thread nD τ).loc main_arg4)) i = ((r : ℝ) : EReal)) (hD : ∀ i, ∃ r : ℝ, (m ((c.tc : Thread nD τ).loc main_arg5)) i = ((r : ℝ) : EReal))
    (i : S8256x1024.Idx) : Cert.Reference20Ideal.Value.res_main_v77 (F := Ideal) m c i = glaGrad (m ((c.tc : Thread nD τ).loc main_arg1)) (m ((c.tc : Thread nD τ).loc main_arg2)) (m ((c.tc : Thread nD τ).loc main_arg5)) (m ((c.tc : Thread nD τ).loc main_arg4)) i := by
  have h1 : (i 1).val < 1024 := (i 1).isLt
  have ho : (i 1).val / 256 * 256 + 256 ≤ 1024 := by omega
  unfold Cert.Reference20Ideal.Value.res_main_v77
  pointwise
  refine (grad_at _ _ _ ?_ ?_ ?_ ⟨(i 1).val % 256, by omega⟩ _ _ _ _ _ ?_ ?_ ?_ 256 (by norm_num) ofBits_256 rfl).trans ?_
  · exact fun k => hX _
  · intro k
    obtain ⟨r, hr⟩ := glaCot_real m c hZ hD (i 0) _ ho k
    exact ⟨r, (glaCot_exp _ _ (i 0) _ ho k _ _).trans hr⟩
  · exact fun k => hW _
  · simp only [Nat.div_add_mod']
    exact congrArg _ (eq_ix2 i)
  · simp only [Nat.div_add_mod']
  · rfl
  · exact congrArg (fun d => grad _ _ d _ _) (funext fun k => glaCot_exp _ _ (i 0) _ ho k _ _)

/-- The derivative by the weight. -/
theorem gla_weight_ref (i : S1x256.Idx) : (broadcastInDim S1x256 ![1] bcast_S256_S1x256_1 (Host.reduceAdd (shapeCast _ (Host.reduceAdd (mulf (mulf (shapeCast _ (extf .f32 (m ((c.tc : Thread nD τ).loc main_arg1)) bitsLt_bf16_f32) shapeCasts_S8256x1024_S8256x4x256) (broadcastInDim S8256x4x256 ![0, 1, 2] bcast_S8256x4x1_S8256x4x256_0_1_2 (Host.rsqrt (addf (Host.divf (broadcastInDim S8256x4x1 ![0, 1] bcast_S8256x4_S8256x4x1_0_1 (Host.reduceAdd (mulf (shapeCast _ (extf .f32 (m ((c.tc : Thread nD τ).loc main_arg1)) bitsLt_bf16_f32) shapeCasts_S8256x1024_S8256x4x256) (shapeCast _ (extf .f32 (m ((c.tc : Thread nD τ).loc main_arg1)) bitsLt_bf16_f32) shapeCasts_S8256x1024_S8256x4x256)) (constant S_ .f32 0x00000000#32) reducesTo_S8256x4x256_S8256x4_d2 h_S_)) (broadcastInDim S8256x4x1 ![] bcast_S_S8256x4x1 (constant S_ .f32 0x43800000#32))) (broadcastInDim S8256x4x1 ![] bcast_S_S8256x4x1 (constant S_ .f32 0x358637BD#32)))))) (mulf (shapeCast _ (extractStridedSlice S8256x1024 ![0, 1024] (m ((c.tc : Thread nD τ).loc main_arg5)) slices_S8256x2048_S8256x1024_0_1024) shapeCasts_S8256x1024_S8256x4x256) (mulf (shapeCast _ (extf .f32 (extractStridedSlice S8256x1024 ![0, 1024] (m ((c.tc : Thread nD τ).loc main_arg2)) slices_S8256x7680_S8256x1024_0_1024) bitsLt_bf16_f32) shapeCasts_S8256x1024_S8256x4x256) (Host.divf (broadcastInDim S8256x4x256 ![] bcast_S_S8256x4x256 (constant S_ .f32 0x3F800000#32)) (addf (broadcastInDim S8256x4x256 ![] bcast_S_S8256x4x256 (constant S_ .f32 0x3F800000#32)) (Host.exp (Host.negf (shapeCast _ (extf .f32 (extractStridedSlice S8256x1024 ![0, 1024] (m ((c.tc : Thread nD τ).loc main_arg2)) slices_S8256x7680_S8256x1024_0_1024) bitsLt_bf16_f32) shapeCasts_S8256x1024_S8256x4x256)))))))) (constant S_ .f32 0x00000000#32) reducesTo_S8256x4x256_S256_d0_1 h_S_) shapeCasts_S256_S1x1x256) (constant S_ .f32 0x00000000#32) reducesTo_S1x1x256_S256_d0_1 h_S_) : FVec Ideal S1x256 .f32) i
    = glaWeight (m ((c.tc : Thread nD τ).loc main_arg1)) (m ((c.tc : Thread nD τ).loc main_arg2)) (m ((c.tc : Thread nD τ).loc main_arg5)) i := by
  pointwise [reduce_two, glaWeight]
  simp only [Fin.sum_univ_one]
  refine Finset.sum_congr rfl fun l _ => Finset.sum_congr rfl fun q _ => ?_
  refine (mul_comm _ _).trans ?_
  unfold glaRow term
  exact congrArg (fun d => d * _) (glaCot_exp _ _ l (q.val * 256) (by omega) (i 1) _ _)

end Cert.MixGrad

end
-- ==== Proof.Mix.Backward.lean ====
/-
  The reference of the mixed heads' backward call: its frame.
-/
module

public import proofs.«01_k».proof.Defs
public import proofs.«01_k».proof.Proof.Gen.Kernel20Ideal.Frame
public import proofs.«01_k».proof.Proof.Gen.Reference20Ideal.Run
public import Idealize.ShloMosaic.Lib.Quiescent
public import Idealize.ShloMosaic.Lib.Claim

@[expose] public section

noncomputable section

open Idealize.ShloMosaic Idealize.ShloMosaic.TcCoe Idealize.SL.Sem

namespace Cert.MixGrad

theorem reference_frame : Cert.quiescent_Reference20Ideal := fun m g _ =>
  (θ_run Cert.Reference20Ideal.defs _ _).mono
    (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems rfl r.2⟩)
    (Cert.Reference20Ideal.Value.run m g)

end Cert.MixGrad

end
-- ==== Proof.Mix.Value.lean ====
/-
  The gated head norms: the gradients by the heads and by the two weights.
-/
module

public import proofs.«01_k».proof.Defs
public import proofs.«01_k».proof.Proof.Mix.Ref
public import proofs.«01_k».proof.Proof.Mix.Backward
public import proofs.«01_k».proof.Proof.Swiglu.Ref
public import proofs.«01_k».proof.Proof.Gen.Pre_finite20
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixGrad

open Cert.Kernel20Ideal Cert.Kernel20Ideal.Gen

/-- The precondition, at an index: the heads, the gates' inputs, the weights and the cotangent hold real numbers. -/
theorem real_of_pre [Cert.Pre_finite20.Facts] {X Y : FVec Ideal S8256x1024 .bf16} {Z : FVec Ideal S8256x7680 .bf16} {W : FVec Ideal S1x128 .f32}
    {V : FVec Ideal S1x256 .f32} {D : FVec Ideal S8256x2048 .f32} (h : Cert.Pre_finite20.fn (F := Ideal) X Y Z W V D = fun _ => 1#1) :
    (∀ i, ∃ r : ℝ, X i = (r : EReal)) ∧ (∀ i, ∃ r : ℝ, Y i = (r : EReal))
      ∧ (∀ (l : Fin 8256) (k : Fin 2048), ∃ r : ℝ, Z (ix2 l ⟨k.val, by omega⟩) = (r : EReal))
      ∧ (∀ i, ∃ r : ℝ, W i = (r : EReal)) ∧ (∀ i, ∃ r : ℝ, V i = (r : EReal)) ∧ (∀ i, ∃ r : ℝ, D i = (r : EReal)) := by
  have h0 := congrFun h (fun a => a.elim0)
  simp only [Cert.Pre_finite20.fn, Cert.Pre_finite20.fn_part1] at h0
  rw [andi_apply, IntOp.andi_eq_one, andi_apply, IntOp.andi_eq_one, andi_apply, IntOp.andi_eq_one, andi_apply, IntOp.andi_eq_one,
    andi_apply, IntOp.andi_eq_one] at h0
  obtain ⟨⟨⟨⟨⟨hX, hY⟩, hZ⟩, hW⟩, hV⟩, hD⟩ := h0
  refine ⟨fun i => Cert.Swiglu.real_of_word (X i) (Host.reduce_andi_all _ _ _ _ _ hX i),
    fun i => Cert.Swiglu.real_of_word (Y i) (Host.reduce_andi_all _ _ _ _ _ hY i), fun l k => ?_,
    fun i => Cert.Swiglu.real_of_word (W i) (Host.reduce_andi_all _ _ _ _ _ hW i),
    fun i => Cert.Swiglu.real_of_word (V i) (Host.reduce_andi_all _ _ _ _ _ hV i),
    fun i => Cert.Swiglu.real_of_word (D i) (Host.reduce_andi_all _ _ _ _ _ hD i)⟩
  obtain ⟨r, hr⟩ := Cert.Swiglu.real_of_word _ (Host.reduce_andi_all _ _ _ _ _ hZ (ix2 l k))
  refine ⟨r, Eq.trans ?_ hr⟩
  pointwise

theorem algebraic [Cert.Pre_finite20.Facts] : Cert.algebraic_Kernel20Ideal_Reference20Ideal_pre_finite20 := by
  pair_intro
  · run_from Cert.Kernel20Ideal.Gen.run_main m g
  · refine θ_run_mono (Cert.Reference20Ideal.Value.run m' g') fun r hr c => ?_
    obtain ⟨h1, h2, h3, h4, ha⟩ := hr c
    obtain ⟨hX, hY, hZ, hW, hV, hD⟩ := real_of_pre (hpre c)
    obtain ⟨e0, e1, e2, e3, e4, e5⟩ := hagree c
    rw [← e0] at hX
    rw [← e1] at hY
    simp only [← e2] at hZ
    rw [← e3] at hW
    rw [← e4] at hV
    rw [← e5] at hD
    refine ⟨h1.trans ?_, h2.trans ?_, h3.trans ?_, h4.trans ?_, ha⟩
    · rw [gdn_final m c, ← e0, ← e2, ← e3, ← e5]
      exact funext fun i => gdn_ref m' c hX hZ hW hD i
    · rw [gla_final m c, ← e1, ← e2, ← e4, ← e5]
      exact funext fun i => gla_ref m' c hY hZ hV hD i
    · rw [gdn_weight m c, ← e0, ← e2, ← e5]
      exact funext fun i => gdn_weight_ref m' c i
    · rw [gla_weight m c, ← e1, ← e2, ← e5]
      exact funext fun i => gla_weight_ref m' c i

end Cert.MixGrad

end
-- ==== Proof.Gates.Scalar.lean ====
/-
  The derivatives of the gates over the reals: what the backward call multiplies out and what the chain rule through
  `log1p` and `exp` gives are the same number. And a sum over rows of which the first 48 add nothing.
-/
module

public import proofs.«01_k».proof.Proof.Norm.Scalar
public import proofs.«01_k».proof.Proof.Swiglu.Scalar
public import Idealize.ShloMosaic.Lib.Pointwise.Tactic

@[expose] public section

noncomputable section

open Idealize.ShloMosaic

namespace Cert.GateGrad

/-- The word of `16` at f32. -/
theorem ofBits_16 : Ideal.ofBits .f32 0x41800000#32 = ((16 : ℝ) : EReal) := by
  simp [Ideal.ofBits, Ideal.ieee, -EReal.coe_mul]
  norm_num

/-- The word of a sixteenth at f32. -/
theorem ofBits_16th : Ideal.ofBits .f32 0x3D800000#32 = ((1 / 16 : ℝ) : EReal) := by
  simp [Ideal.ofBits, Ideal.ieee, -EReal.coe_mul]
  norm_num

/-- The function the call computes for `log (1 + exp x)`. -/
def softplus (x : EReal) : EReal := max x 0 + Ideal.log1p (Ideal.exp (0 - max x (-x)))

theorem exp_real (x : ℝ) : Ideal.exp (x : EReal) = (Real.exp x : EReal) := rfl

theorem log1p_real {x : ℝ} (h : 0 < x) : Ideal.log1p (x : EReal) = (Real.log (1 + x) : EReal) := by
  have e : (1 : EReal) + (x : EReal) = ((1 + x : ℝ) : EReal) := (EReal.coe_add 1 x).symm
  rw [Ideal.log1p, e]
  show (if 1 + x ≤ 0 then (⊥ : EReal) else (Real.log (1 + x) : EReal)) = _
  rw [if_neg (by linarith)]

/-- `log (1 + exp x)`, as it stands. -/
theorem log1p_exp (x : ℝ) : Ideal.log1p (Ideal.exp (x : EReal)) = (Real.log (1 + Real.exp x) : EReal) := by
  rw [exp_real, log1p_real (Real.exp_pos x)]

/-- And as the call computes it. -/
theorem softplus_real (x : ℝ) : softplus (x : EReal) = (Real.log (1 + Real.exp x) : EReal) := by
  have hm : max (x : EReal) (-(x : EReal)) = ((max x (-x) : ℝ) : EReal) := by
    rw [← EReal.coe_neg]
    exact (EReal.coe_strictMono.monotone.map_max).symm
  have h0 : max (x : EReal) 0 = ((max x 0 : ℝ) : EReal) := (EReal.coe_strictMono.monotone.map_max (a := x) (b := 0)).symm
  unfold softplus
  rw [hm, h0, zero_sub, ← EReal.coe_neg, log1p_exp, ← EReal.coe_add]
  congr 1
  rcases le_total 0 x with h | h
  · rw [max_eq_left h, max_eq_left (by linarith)]
    have e : 1 + Real.exp x = Real.exp x * (1 + Real.exp (-x)) := by
      rw [mul_add, mul_one, ← Real.exp_add, add_neg_cancel, Real.exp_zero]
      ring
    rw [e, Real.log_mul (Real.exp_pos _).ne' (by positivity), Real.log_exp]
  · rw [max_eq_right h, max_eq_right (by linarith), neg_neg, zero_add]

/-- The logistic function of a real number. -/
theorem sig_real (x : ℝ) : Cert.Swiglu.sigTanh (x : EReal) = ((1 + Real.exp (-x))⁻¹ : ℝ) := by
  rw [Cert.Swiglu.sigTanh_eq, Cert.Swiglu.sigExp_coe]

/-- The derivative of the decay's logarithm by its gate's input. -/
theorem decay_real (a : EReal) (z : ℝ) :
    -(Ideal.div (-(Ideal.div a (Ideal.ofBits .f32 0x41800000#32))) (Ideal.exp (-(z : EReal)) + 1) * Ideal.exp (-(z : EReal)))
      = a * (Cert.Swiglu.sigTanh (-(z : EReal)) * Ideal.ofBits .f32 0x3D800000#32) := by
  have hp := Real.exp_pos (-z)
  rw [ofBits_16, ofBits_16th, Ideal.div_coe (by norm_num : (16 : ℝ) ≠ 0), ← EReal.coe_neg z, exp_real, sig_real,
    show (Real.exp (-z) : EReal) + 1 = ((Real.exp (-z) + 1 : ℝ) : EReal) from (EReal.coe_add _ 1).symm,
    Ideal.div_coe (by positivity), neg_mul, neg_mul, neg_neg, mul_assoc, mul_assoc, ← EReal.coe_mul, ← EReal.coe_mul, ← EReal.coe_mul, neg_neg]
  refine congrArg (fun x : ℝ => a * (x : EReal)) ?_
  have h1 : Real.exp z * Real.exp (-z) = 1 := by rw [← Real.exp_add, add_neg_cancel, Real.exp_zero]
  have hz := Real.exp_pos z
  have h2 : (1 + Real.exp z)⁻¹ = Real.exp (-z) / (Real.exp (-z) + 1) := by
    field_simp
    nlinarith [h1]
  rw [h2]
  ring

/-- The derivative of the step's logarithm by its input. -/
theorem step_real (d e x : ℝ) :
    Ideal.div (-(e : EReal) * (d : EReal)) (Ideal.exp (x : EReal) + 1) * Ideal.exp (x : EReal)
      = (d : EReal) * (-(e : EReal)) * Cert.Swiglu.sigTanh (x : EReal) := by
  have hp := Real.exp_pos x
  rw [exp_real, sig_real, ← EReal.coe_neg, ← EReal.coe_mul, ← EReal.coe_mul,
    show (Real.exp x : EReal) + 1 = ((Real.exp x + 1 : ℝ) : EReal) from (EReal.coe_add _ 1).symm,
    Cert.Norm.div_real _ (by positivity), ← EReal.coe_mul, ← EReal.coe_mul]
  congr 1
  have h1 : Real.exp x * Real.exp (-x) = 1 := by rw [← Real.exp_add, add_neg_cancel, Real.exp_zero]
  have hz := Real.exp_pos (-x)
  have h2 : (1 + Real.exp (-x))⁻¹ = Real.exp x / (Real.exp x + 1) := by
    field_simp
    nlinarith [h1]
  rw [h2]
  ring

/-- The factor in front of a sum: the step's scale is the same in every row. -/
theorem sum_scaled {n : ℕ} (d s : Fin n → ℝ) (e : ℝ) :
    -(∑ l, (d l : EReal) * (s l : EReal)) * (e : EReal) = ∑ l, (d l : EReal) * (-(e : EReal) * (s l : EReal)) := by
  simp only [← EReal.coe_neg, ← EReal.coe_mul, Cert.Norm.sum_real]
  congr 1
  rw [← neg_mul_eq_neg_mul, Finset.sum_mul, ← Finset.sum_neg_distrib]
  exact Finset.sum_congr rfl fun l _ => by ring

/-- A sum over all rows, when the first 48 add nothing. -/
theorem sum_tail (f : Fin 8256 → EReal) (h : ∀ l : Fin 8256, l.val < 48 → f l = 0) :
    ∑ l, f l = ∑ l : Fin 8208, f ⟨48 + l.val, by omega⟩ := by
  refine (Fin.sum_univ_add (a := 48) (b := 8208) f).trans ?_
  rw [Finset.sum_eq_zero fun i _ => h (Fin.castAdd 8208 i) i.isLt, zero_add]
  rfl

end Cert.GateGrad

end
-- ==== Proof.Gates.Closed.lean ====
/-
  The gradients of the gates' parameters as sums over all rows. The first 48 rows are padding and count as zero.
-/
module

public import proofs.«01_k».proof.Proof.Gates.Scalar

@[expose] public section

noncomputable section

open Idealize.ShloMosaic

namespace Cert.GateGrad

variable (S : (⟨2, ![8256, 128]⟩ : Shape).Idx → EReal) (W : (⟨2, ![128, 512]⟩ : Shape).Idx → EReal) (B : (⟨2, ![1, 512]⟩ : Shape).Idx → EReal)
  (L E : (⟨2, ![1, 128]⟩ : Shape).Idx → EReal) (D : (⟨3, ![8, 8256, 128]⟩ : Shape).Idx → EReal) (G : (⟨2, ![8256, 512]⟩ : Shape).Idx → EReal)

/-- The input of the decay's gate. -/
def zed (l : Fin 8256) (q : Fin 512) : EReal := (∑ p : Fin 128, S (ix2 l p) * W (ix2 p q)) + B (ix2 0 q)

/-- The cotangent of that input. -/
def decay (l : Fin 8256) (q : Fin 512) : EReal :=
  if 48 ≤ l.val then G (ix2 l q) * (Cert.Swiglu.sigTanh (-(zed S W B l q)) * Ideal.ofBits .f32 0x3D800000#32) else 0

/-- The cotangent of the step, summed over the heads' arrays. -/
def heads (l : Fin 8256) (j : Fin 128) : EReal :=
  if 48 ≤ l.val then D (ix3 0 l j) + D (ix3 1 l j) + D (ix3 2 l j) + D (ix3 3 l j) + D (ix3 4 l j) + D (ix3 5 l j) + D (ix3 6 l j) + D (ix3 7 l j) else 0

/-- A row's term of the gradient of the step's scale. -/
def scaleRow (l : Fin 8256) (j : Fin 128) : EReal :=
  if j.val < 8 then heads D l j * (-(Ideal.exp (L (ix2 0 j))) * softplus (S (ix2 l j) + E (ix2 0 j))) else 0

/-- The cotangent of the step's input. -/
def slope (l : Fin 8256) (j : Fin 128) : EReal := heads D l j * -(Ideal.exp (L (ix2 0 j))) * Cert.Swiglu.sigTanh (S (ix2 l j) + E (ix2 0 j))

/-- A row's term of the gradient of the step's bias. -/
def shiftRow (l : Fin 8256) (j : Fin 128) : EReal := if j.val < 8 then slope S L E D l j else 0

/-- A row's term of the gradient of the projection. -/
def projRow (l : Fin 8256) (p : Fin 128) (q : Fin 512) : EReal := S (ix2 l p) * decay S W B G l q

/-- The gradient of the projection. -/
def dProj : (⟨2, ![128, 512]⟩ : Shape).Idx → EReal := fun i => ∑ l : Fin 8256, projRow S W B G l (i 0) (i 1)

/-- The gradient of the projection's bias. -/
def dBias : (⟨2, ![1, 512]⟩ : Shape).Idx → EReal := fun i => ∑ l : Fin 8256, decay S W B G l (i 1)

/-- The gradient of the logarithm of the step's scale. -/
def dScale : (⟨2, ![1, 128]⟩ : Shape).Idx → EReal := fun i => ∑ l : Fin 8256, scaleRow S L E D l (i 1)

/-- The gradient of the step's bias. -/
def dShift : (⟨2, ![1, 128]⟩ : Shape).Idx → EReal := fun i => ∑ l : Fin 8256, shiftRow S L E D l (i 1)

end Cert.GateGrad

end
-- ==== Proof.Gates.Payload.lean ====
/-
  What one point of the gates' backward call computes of its blocks, entry by entry.
-/
module

public import proofs.«01_k».proof.Defs
public import proofs.«01_k».proof.Proof.Gen.Kernel21Ideal.Skeleton
public import proofs.«01_k».proof.Proof.Gates.Scalar
public import Idealize.ShloMosaic.Lib.WordCmp
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.GateGrad

open Cert.Kernel21Ideal Cert.Kernel21Ideal.Gen

/-- The word the mask compares: the row's number against 48. -/
theorem live (n a : ℕ) (hn : n < 12) (ha : a < 688) :
    IntOp.cmpi .sge (IntOp.addi (Scalar.muli (BitVec.ofNat 32 n) 688#32) (BitVec.ofNat 32 a)) 48#32
      = BitVec.ofBool (decide (48 ≤ n * 688 + a)) := by
  show IntOp.cmpi .sge (IntOp.addi (IntOp.muli (BitVec.ofNat 32 n) (BitVec.ofNat 32 688)) (BitVec.ofNat 32 a)) (BitVec.ofNat 32 48) = _
  rw [WordCmp.muli_ofNat, WordCmp.addi_ofNat, WordCmp.cmpi_sge_ofNat (by norm_num; omega) (by norm_num)]

/-- The word that keeps the first eight lanes. -/
theorem lane (j : ℕ) (hj : j < 128) : IntOp.cmpi .slt (BitVec.ofNat 32 j) 8#32 = BitVec.ofBool (decide (j < 8)) := by
  show IntOp.cmpi .slt (BitVec.ofNat 32 j) (BitVec.ofNat 32 8) = _
  rw [WordCmp.cmpi_slt_ofNat (by norm_num; omega) (by norm_num)]

/-- The row mask. -/
theorem mask_at (i : grid0.Coords) (a : Fin 688) (b : Fin 1) : k0_pay10 i (ix2 a b) = BitVec.ofBool (decide (48 ≤ (i 0).val * 688 + a.val)) := by
  have hl := live (i 0).val a.val (i 0).isLt a.isLt
  pointwise [k0_pay10]
  exact hl

/-- The gate's input. -/
theorem zed_at (s : FVec Ideal S688x128 .f32) (w : FVec Ideal S128x512 .f32) (b : FVec Ideal S1x512 .f32) (a : Fin 688) (q : Fin 512) :
    k0_pay15 (F := Ideal) s w b (ix2 a q) = ((∑ p : Fin 128, s (ix2 a p) * w (ix2 p q)) + b (ix2 0 q) : EReal) := by
  pointwise [k0_pay15]

/-- The cotangent of the gate's input. -/
theorem decay_at (i : grid0.Coords) (z g : FVec Ideal S688x512 .f32) (a : Fin 688) (q : Fin 512) : k0_pay16 (F := Ideal) (k0_pay10 i) z g (ix2 a q)
    = if 48 ≤ (i 0).val * 688 + a.val then (g (ix2 a q) * (Cert.Swiglu.sigTanh (-(z (ix2 a q))) * Ideal.ofBits .f32 0x3D800000#32) : EReal) else 0 := by
  pointwise [k0_pay16, mask_at, Cert.Swiglu.sigTanh]
  rw [zero_sub]

/-- The sum of the heads' cotangents of the step. -/
theorem heads_at (i : grid0.Coords) (d0 d1 d2 d3 d4 d5 d6 d7 : FVec Ideal S1x688x128 .f32) (a : Fin 688) (j : Fin 128) :
    k0_pay19 (F := Ideal) (k0_pay10 i) (k0_pay18 d0 d1 d2 d3 d4) d5 d6 d7 (ix2 a j)
    = if 48 ≤ (i 0).val * 688 + a.val then (d0 (ix3 0 a j) + d1 (ix3 0 a j) + d2 (ix3 0 a j) + d3 (ix3 0 a j) + d4 (ix3 0 a j) + d5 (ix3 0 a j) + d6 (ix3 0 a j) + d7 (ix3 0 a j) : EReal) else 0 := by
  pointwise [k0_pay19, k0_pay18, mask_at]

/-- The step's logarithm, times its scale. -/
theorem step_at (s : FVec Ideal S688x128 .f32) (l e : FVec Ideal S1x128 .f32) (a : Fin 688) (j : Fin 128) : k0_pay13 (F := Ideal) s l e (ix2 a j)
    = (-(Ideal.exp (l (ix2 0 j))) * softplus (s (ix2 a j) + e (ix2 0 j)) : EReal) := by
  pointwise [k0_pay13, k0_pay12, k0_pay11, softplus]
  rw [zero_sub (Ideal.exp (l (ix2 0 j)))]
  rfl

/-- The cotangent of the step's input. -/
theorem slope_at (v : IVec S688x1 1) (s d : FVec Ideal S688x128 .f32) (l e : FVec Ideal S1x128 .f32) (d5 d6 d7 : FVec Ideal S1x688x128 .f32) (a : Fin 688) (j : Fin 128) :
    k0_pay20 (F := Ideal) v (k0_pay11 s e) (k0_pay12 l) d d5 d6 d7 (ix2 a j)
    = (k0_pay19 (F := Ideal) v d d5 d6 d7 (ix2 a j) * -(Ideal.exp (l (ix2 0 j))) * Cert.Swiglu.sigTanh (s (ix2 a j) + e (ix2 0 j)) : EReal) := by
  unfold k0_pay20
  generalize k0_pay19 (F := Ideal) v d d5 d6 d7 = D
  pointwise [k0_pay12, k0_pay11, Cert.Swiglu.sigTanh]
  rw [zero_sub]

/-- A block's part of the gradient of the projection. -/
theorem proj_part (s : FVec Ideal S688x128 .f32) (z : FVec Ideal S688x512 .f32) (p : Fin 128) (q : Fin 512) :
    k0_pay4 (F := Ideal) s z (ix2 p q) = (∑ a : Fin 688, s (ix2 a p) * z (ix2 a q) : EReal) := by
  pointwise [k0_pay4]

theorem proj_step (s : FVec Ideal S688x128 .f32) (z : FVec Ideal S688x512 .f32) (acc : FVec Ideal S128x512 .f32) (y : S128x512.Idx) :
    k0_pay6 (F := Ideal) s z acc y = (acc y + k0_pay4 (F := Ideal) s z y : EReal) := by
  unfold k0_pay6
  generalize k0_pay4 (F := Ideal) s z = P
  pointwise

/-- A block's part of the gradient of the bias. -/
theorem bias_part (z : FVec Ideal S688x512 .f32) (q : Fin 512) : k0_pay5 (F := Ideal) z (ix2 0 q) = (∑ a : Fin 688, z (ix2 a q) : EReal) := by
  pointwise [k0_pay5]

theorem bias_step (z : FVec Ideal S688x512 .f32) (acc : FVec Ideal S1x512 .f32) (y : S1x512.Idx) :
    k0_pay7 (F := Ideal) z acc y = (acc y + k0_pay5 (F := Ideal) z y : EReal) := by
  unfold k0_pay7
  generalize k0_pay5 (F := Ideal) z = P
  pointwise

/-- The lanes' numbers. -/
abbrev lanes : IVec S688x128 32 := iota .tc S688x128 32 [1] iota_S688x128_d1_w32

theorem lanes_at (a : Fin 688) (j : Fin 128) : k0_pay1 lanes (ix2 a j) = BitVec.ofBool (decide (j.val < 8)) := by
  have h := lane j.val j.isLt
  pointwise [k0_pay1, lanes]
  exact h

/-- A block's part of the gradient of the step's scale. -/
theorem scale_part (g d : FVec Ideal S688x128 .f32) (j : Fin 128) : k0_pay2 (F := Ideal) lanes g d (ix2 0 j)
    = (∑ a : Fin 688, if j.val < 8 then d (ix2 a j) * g (ix2 a j) else 0 : EReal) := by
  pointwise [k0_pay2, lanes_at]

theorem scale_step (g d : FVec Ideal S688x128 .f32) (acc : FVec Ideal S1x128 .f32) (y : S1x128.Idx) :
    k0_pay8 (F := Ideal) lanes g d acc y = (acc y + k0_pay2 (F := Ideal) lanes g d y : EReal) := by
  unfold k0_pay8
  generalize k0_pay2 (F := Ideal) lanes g d = P
  pointwise

/-- A block's part of the gradient of the step's bias. -/
theorem shift_part (d : FVec Ideal S688x128 .f32) (j : Fin 128) : k0_pay3 (F := Ideal) lanes d (ix2 0 j)
    = (∑ a : Fin 688, if j.val < 8 then d (ix2 a j) else 0 : EReal) := by
  pointwise [k0_pay3, lanes_at]

theorem shift_step (d : FVec Ideal S688x128 .f32) (acc : FVec Ideal S1x128 .f32) (y : S1x128.Idx) :
    k0_pay9 (F := Ideal) lanes d acc y = (acc y + k0_pay3 (F := Ideal) lanes d y : EReal) := by
  unfold k0_pay9
  generalize k0_pay3 (F := Ideal) lanes d = P
  pointwise

end Cert.GateGrad

end
-- ==== Proof.Gates.Kernel.lean ====
/-
  The four gradients of the gates' parameters, after all points: each point adds its 688 rows.
-/
module

public import proofs.«01_k».proof.Defs
public import proofs.«01_k».proof.Proof.Gen.Kernel21Ideal.Frame
public import proofs.«01_k».proof.Proof.Gates.Closed
public import proofs.«01_k».proof.Proof.Gates.Payload
public import Idealize.ShloMosaic.Lib.Pipeline.ValueKit
public import Idealize.ShloMosaic.Lib.Pipeline.ReadBack
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.GateGrad

open Cert.Kernel21Ideal Cert.Kernel21Ideal.Gen

/-- The blocks' places. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, t.val, 0]
    ∧ win0_6.index t = ![t.val, 0] ∧ win0_8.index t = ![0, 0] ∧ win0_9.index t = ![0, 0] ∧ win0_10.index t = ![0, 0] ∧ win0_11.index t = ![0, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, t.val, 0]
    ∧ win0_6.index t = ![t.val, 0] ∧ win0_8.index t = ![0, 0] ∧ win0_9.index t = ![0, 0] ∧ win0_10.index t = ![0, 0] ∧ win0_11.index t = ![0, 0])

/-- The one coordinate of a point is its number. -/
theorem coord : ∀ t : Fin cfg0.N, (grid0.coords t 0).val = t.val :=
  (by decide +kernel : ∀ t : Fin grid0.N, (grid0.coords t 0).val = t.val)

/-- Row `a` of the block of point `t`. -/
def row (t : Fin cfg0.N) (a : Fin 688) : Fin 8256 := ⟨t.val * 688 + a.val, by have h := lt_of_lt_of_eq t.isLt N_0; omega⟩

variable (m : (ℓ : Loc nD τ sig) → Buf (Elt Ideal) ℓ) (c : Dev nD)

/-- The rows the gates read. -/
theorem blk_rows (t : Fin cfg0.N) (a : Fin 688) (p : Fin 128) : iblk m c 0 t (ix2 a p) = (m ((c : Thread nD τ).loc main_arg0)) (ix2 (row t a) p) := by
  blk_point [iblk, V, idx t, row]

theorem blk_proj (t : Fin cfg0.N) (p : Fin 128) (q : Fin 512) : iblk m c 1 t (ix2 p q) = (m ((c : Thread nD τ).loc main_arg1)) (ix2 p q) := by
  blk_point [iblk, V, idx t]

theorem blk_bias (t : Fin cfg0.N) (q : Fin 512) : iblk m c 2 t (ix2 0 q) = (m ((c : Thread nD τ).loc main_arg2)) (ix2 0 q) := by
  blk_point [iblk, V, idx t]

theorem blk_scale (t : Fin cfg0.N) (j : Fin 128) : iblk m c 3 t (ix2 0 j) = (m ((c : Thread nD τ).loc main_arg3)) (ix2 0 j) := by
  blk_point [iblk, V, idx t]

theorem blk_shift (t : Fin cfg0.N) (j : Fin 128) : iblk m c 4 t (ix2 0 j) = (m ((c : Thread nD τ).loc main_arg4)) (ix2 0 j) := by
  blk_point [iblk, V, idx t]

theorem blk_cot (t : Fin cfg0.N) (a : Fin 688) (q : Fin 512) : iblk m c 6 t (ix2 a q) = (m ((c : Thread nD τ).loc main_arg6)) (ix2 (row t a) q) := by
  blk_point [iblk, V, idx t, row]

theorem blk_head0 (t : Fin cfg0.N) (a : Fin 688) (j : Fin 128) : (View.ld (iblk m c 5 t) (Rect.unit ![0, 0, 0] ![1, 688, 128] inb_S8x688x128_S1x688x128_0_0_0)) (ix3 0 a j) = (m ((c : Thread nD τ).loc main_arg5)) (ix3 0 (row t a) j) := by
  pointwise
  blk_point [iblk, V, idx t, row]

theorem blk_head1 (t : Fin cfg0.N) (a : Fin 688) (j : Fin 128) : (View.ld (iblk m c 5 t) (Rect.unit ![1, 0, 0] ![1, 688, 128] inb_S8x688x128_S1x688x128_1_0_0)) (ix3 0 a j) = (m ((c : Thread nD τ).loc main_arg5)) (ix3 1 (row t a) j) := by
  pointwise
  blk_point [iblk, V, idx t, row]

theorem blk_head2 (t : Fin cfg0.N) (a : Fin 688) (j : Fin 128) : (View.ld (iblk m c 5 t) (Rect.unit ![2, 0, 0] ![1, 688, 128] inb_S8x688x128_S1x688x128_2_0_0)) (ix3 0 a j) = (m ((c : Thread nD τ).loc main_arg5)) (ix3 2 (row t a) j) := by
  pointwise
  blk_point [iblk, V, idx t, row]

theorem blk_head3 (t : Fin cfg0.N) (a : Fin 688) (j : Fin 128) : (View.ld (iblk m c 5 t) (Rect.unit ![3, 0, 0] ![1, 688, 128] inb_S8x688x128_S1x688x128_3_0_0)) (ix3 0 a j) = (m ((c : Thread nD τ).loc main_arg5)) (ix3 3 (row t a) j) := by
  pointwise
  blk_point [iblk, V, idx t, row]

theorem blk_head4 (t : Fin cfg0.N) (a : Fin 688) (j : Fin 128) : (View.ld (iblk m c 5 t) (Rect.unit ![4, 0, 0] ![1, 688, 128] inb_S8x688x128_S1x688x128_4_0_0)) (ix3 0 a j) = (m ((c : Thread nD τ).loc main_arg5)) (ix3 4 (row t a) j) := by
  pointwise
  blk_point [iblk, V, idx t, row]

theorem blk_head5 (t : Fin cfg0.N) (a : Fin 688) (j : Fin 128) : (View.ld (iblk m c 5 t) (Rect.unit ![5, 0, 0] ![1, 688, 128] inb_S8x688x128_S1x688x128_5_0_0)) (ix3 0 a j) = (m ((c : Thread nD τ).loc main_arg5)) (ix3 5 (row t a) j) := by
  pointwise
  blk_point [iblk, V, idx t, row]

theorem blk_head6 (t : Fin cfg0.N) (a : Fin 688) (j : Fin 128) : (View.ld (iblk m c 5 t) (Rect.unit ![6, 0, 0] ![1, 688, 128] inb_S8x688x128_S1x688x128_6_0_0)) (ix3 0 a j) = (m ((c : Thread nD τ).loc main_arg5)) (ix3 6 (row t a) j) := by
  pointwise
  blk_point [iblk, V, idx t, row]

theorem blk_head7 (t : Fin cfg0.N) (a : Fin 688) (j : Fin 128) : (View.ld (iblk m c 5 t) (Rect.unit ![7, 0, 0] ![1, 688, 128] inb_S8x688x128_S1x688x128_7_0_0)) (ix3 0 a j) = (m ((c : Thread nD τ).loc main_arg5)) (ix3 7 (row t a) j) := by
  pointwise
  blk_point [iblk, V, idx t, row]

/-- A block's cotangents of the decay's gate. -/
def blkDecay (t : Fin cfg0.N) : FVec Ideal S688x512 .f32 := k0_pay16 (F := Ideal) (k0_pay10 (grid0.coords t)) (k0_pay15 (iblk m c 0 t) (iblk m c 1 t) (iblk m c 2 t)) (iblk m c 6 t)

theorem blkDecay_at (t : Fin cfg0.N) (a : Fin 688) (q : Fin 512) : blkDecay m c t (ix2 a q) = decay (m ((c : Thread nD τ).loc main_arg0)) (m ((c : Thread nD τ).loc main_arg1)) (m ((c : Thread nD τ).loc main_arg2)) (m ((c : Thread nD τ).loc main_arg6)) (row t a) q := by
  unfold blkDecay
  rw [decay_at, zed_at, coord t, blk_cot m c t, blk_bias m c t]
  simp only [blk_rows m c t, blk_proj m c t]
  rfl

/-- A block's cotangents of the step. -/
def blkHeads (t : Fin cfg0.N) : FVec Ideal S688x128 .f32 :=
  k0_pay19 (F := Ideal) (k0_pay10 (grid0.coords t)) (k0_pay18 (View.ld (iblk m c 5 t) (Rect.unit ![0, 0, 0] ![1, 688, 128] inb_S8x688x128_S1x688x128_0_0_0)) (View.ld (iblk m c 5 t) (Rect.unit ![1, 0, 0] ![1, 688, 128] inb_S8x688x128_S1x688x128_1_0_0)) (View.ld (iblk m c 5 t) (Rect.unit ![2, 0, 0] ![1, 688, 128] inb_S8x688x128_S1x688x128_2_0_0)) (View.ld (iblk m c 5 t) (Rect.unit ![3, 0, 0] ![1, 688, 128] inb_S8x688x128_S1x688x128_3_0_0)) (View.ld (iblk m c 5 t) (Rect.unit ![4, 0, 0] ![1, 688, 128] inb_S8x688x128_S1x688x128_4_0_0))) (View.ld (iblk m c 5 t) (Rect.unit ![5, 0, 0] ![1, 688, 128] inb_S8x688x128_S1x688x128_5_0_0)) (View.ld (iblk m c 5 t) (Rect.unit ![6, 0, 0] ![1, 688, 128] inb_S8x688x128_S1x688x128_6_0_0)) (View.ld (iblk m c 5 t) (Rect.unit ![7, 0, 0] ![1, 688, 128] inb_S8x688x128_S1x688x128_7_0_0))

theorem blkHeads_at (t : Fin cfg0.N) (a : Fin 688) (j : Fin 128) : blkHeads m c t (ix2 a j) = heads (m ((c : Thread nD τ).loc main_arg5)) (row t a) j := by
  unfold blkHeads
  rw [heads_at, coord t, blk_head0 m c t, blk_head1 m c t, blk_head2 m c t, blk_head3 m c t, blk_head4 m c t, blk_head5 m c t, blk_head6 m c t, blk_head7 m c t]
  rfl

/-- A block's cotangents of the step's input. -/
def blkSlope (t : Fin cfg0.N) : FVec Ideal S688x128 .f32 :=
  k0_pay20 (F := Ideal) (k0_pay10 (grid0.coords t)) (k0_pay11 (iblk m c 0 t) (iblk m c 4 t)) (k0_pay12 (iblk m c 3 t)) (k0_pay18 (View.ld (iblk m c 5 t) (Rect.unit ![0, 0, 0] ![1, 688, 128] inb_S8x688x128_S1x688x128_0_0_0)) (View.ld (iblk m c 5 t) (Rect.unit ![1, 0, 0] ![1, 688, 128] inb_S8x688x128_S1x688x128_1_0_0)) (View.ld (iblk m c 5 t) (Rect.unit ![2, 0, 0] ![1, 688, 128] inb_S8x688x128_S1x688x128_2_0_0)) (View.ld (iblk m c 5 t) (Rect.unit ![3, 0, 0] ![1, 688, 128] inb_S8x688x128_S1x688x128_3_0_0)) (View.ld (iblk m c 5 t) (Rect.unit ![4, 0, 0] ![1, 688, 128] inb_S8x688x128_S1x688x128_4_0_0))) (View.ld (iblk m c 5 t) (Rect.unit ![5, 0, 0] ![1, 688, 128] inb_S8x688x128_S1x688x128_5_0_0)) (View.ld (iblk m c 5 t) (Rect.unit ![6, 0, 0] ![1, 688, 128] inb_S8x688x128_S1x688x128_6_0_0)) (View.ld (iblk m c 5 t) (Rect.unit ![7, 0, 0] ![1, 688, 128] inb_S8x688x128_S1x688x128_7_0_0))

theorem blkSlope_at (t : Fin cfg0.N) (a : Fin 688) (j : Fin 128) : blkSlope m c t (ix2 a j)
    = slope (m ((c : Thread nD τ).loc main_arg0)) (m ((c : Thread nD τ).loc main_arg3)) (m ((c : Thread nD τ).loc main_arg4)) (m ((c : Thread nD τ).loc main_arg5)) (row t a) j := by
  unfold blkSlope
  rw [slope_at, blk_scale m c t, blk_shift m c t, blk_rows m c t]
  exact congrArg (fun d : EReal => d * _ * _) (blkHeads_at m c t a j)

/-- The gradient of the projection, of one block. -/
def projPart (t : Fin cfg0.N) : FVec Ideal S128x512 .f32 := k0_pay4 (F := Ideal) (iblk m c 0 t) (blkDecay m c t)

theorem projPart_at (t : Fin cfg0.N) (p : Fin 128) (q : Fin 512) : projPart m c t (ix2 p q) = (∑ a : Fin 688, projRow (m ((c : Thread nD τ).loc main_arg0)) (m ((c : Thread nD τ).loc main_arg1)) (m ((c : Thread nD τ).loc main_arg2)) (m ((c : Thread nD τ).loc main_arg6)) (row t a) p q : EReal) := by
  unfold projPart
  rw [proj_part]
  exact Finset.sum_congr rfl fun a _ => congrArg₂ (fun x y : EReal => x * y) (blk_rows m c t a p) (blkDecay_at m c t a q)

/-- The gradient of the projection, at the last point. -/
theorem proj_acc (t : Fin cfg0.N) (h : t.val % 12 = 12 - 1) (j : S128x512.Idx) : (outsAt0 m c t.val t.isLt).2.1 j
    = (∑ s : Fin 12, projPart m c ⟨12 * (t.val / 12) + s.val, Pipeline.run_point_lt_of_flush t h s⟩ j : EReal) := by
  refine (Pipeline.eq_sum_fin_of_reset_step_apply_of_flush (M := EReal) (fun n h => (outsAt0 m c n h).2.1) 12 (fun _ => 0)
    (fun t j => projPart m c t j) (fun t h0 j => ?_) (fun t h0 j => ?_) t h j).trans (zero_add _)
  · have hN := lt_of_lt_of_eq t.isLt N_0
    rw [outsAt0_A m c t h0 (by omega)]
    frame_out
    rw [zero_add]
    rfl
  · have hN := lt_of_lt_of_eq t.isLt N_0
    rw [outsAt0_B m c t h0 (by omega)]
    frame_out
    exact proj_step _ _ _ j

/-- The same in terms of the whole arrays. -/
theorem proj_sum (t : Fin cfg0.N) (h : t.val % 12 = 11) (y : S128x512.Idx) : (outsAt0 m c t.val t.isLt).2.1 y = dProj (m ((c : Thread nD τ).loc main_arg0)) (m ((c : Thread nD τ).loc main_arg1)) (m ((c : Thread nD τ).loc main_arg2)) (m ((c : Thread nD τ).loc main_arg6)) (ix2 (y 0) (y 1)) := by
  have hN := lt_of_lt_of_eq t.isLt N_0
  have ey : y = ix2 (y 0) (y 1) := eq_ix2 y
  rw [proj_acc m c t h]
  unfold dProj
  refine Eq.trans ?_ (Fin.sum_mul_add_fin 12 688 (fun l : Fin 8256 => projRow (m ((c : Thread nD τ).loc main_arg0)) (m ((c : Thread nD τ).loc main_arg1)) (m ((c : Thread nD τ).loc main_arg2)) (m ((c : Thread nD τ).loc main_arg6)) l (y 0) (y 1)))
  refine Finset.sum_congr rfl fun p _ => ?_
  rw [show (⟨12 * (t.val / 12) + p.val, Pipeline.run_point_lt_of_flush t h p⟩ : Fin cfg0.N) = ⟨p.val, lt_of_lt_of_eq p.isLt N_0.symm⟩ from
    Fin.ext (by show 12 * (t.val / 12) + p.val = p.val; omega)]
  exact (congrArg _ ey).trans (projPart_at m c ⟨p.val, lt_of_lt_of_eq p.isLt N_0.symm⟩ (y 0) (y 1))

/-- The gradient of the projection, after all points. -/
theorem proj_final : (dats m 0 c).arrAt 8 (cfgs 0).N = dProj (m ((c : Thread nD τ).loc main_arg0)) (m ((c : Thread nD τ).loc main_arg1)) (m ((c : Thread nD τ).loc main_arg2)) (m ((c : Thread nD τ).loc main_arg6)) := by
  refine (dats m 0 c).arrAt_eq_of_covers 8 _ (by decide +kernel) fun t hf y => ?_
  have e := proj_sum m c t ((flush0_8 t).mp hf) y
  blk_simp
  rw [after0_8, e]
  generalize dProj (m ((c : Thread nD τ).loc main_arg0)) (m ((c : Thread nD τ).loc main_arg1)) (m ((c : Thread nD τ).loc main_arg2)) (m ((c : Thread nD τ).loc main_arg6)) = G
  blk_point [idx t]

/-- The gradient of the bias, of one block. -/
def biasPart (t : Fin cfg0.N) : FVec Ideal S1x512 .f32 := k0_pay5 (F := Ideal) (blkDecay m c t)

theorem biasPart_at (t : Fin cfg0.N) (q : Fin 512) : biasPart m c t (ix2 0 q) = (∑ a : Fin 688, decay (m ((c : Thread nD τ).loc main_arg0)) (m ((c : Thread nD τ).loc main_arg1)) (m ((c : Thread nD τ).loc main_arg2)) (m ((c : Thread nD τ).loc main_arg6)) (row t a) q : EReal) := by
  unfold biasPart
  rw [bias_part]
  exact Finset.sum_congr rfl fun a _ => blkDecay_at m c t a q

/-- The gradient of the bias, at the last point. -/
theorem bias_acc (t : Fin cfg0.N) (h : t.val % 12 = 12 - 1) (j : S1x512.Idx) : (outsAt0 m c t.val t.isLt).2.2.1 j
    = (∑ s : Fin 12, biasPart m c ⟨12 * (t.val / 12) + s.val, Pipeline.run_point_lt_of_flush t h s⟩ j : EReal) := by
  refine (Pipeline.eq_sum_fin_of_reset_step_apply_of_flush (M := EReal) (fun n h => (outsAt0 m c n h).2.2.1) 12 (fun _ => 0)
    (fun t j => biasPart m c t j) (fun t h0 j => ?_) (fun t h0 j => ?_) t h j).trans (zero_add _)
  · have hN := lt_of_lt_of_eq t.isLt N_0
    rw [outsAt0_A m c t h0 (by omega)]
    frame_out
    rw [zero_add]
    rfl
  · have hN := lt_of_lt_of_eq t.isLt N_0
    rw [outsAt0_B m c t h0 (by omega)]
    frame_out
    exact bias_step _ _ j

/-- The same in terms of the whole arrays. -/
theorem bias_sum (t : Fin cfg0.N) (h : t.val % 12 = 11) (y : S1x512.Idx) : (outsAt0 m c t.val t.isLt).2.2.1 y = dBias (m ((c : Thread nD τ).loc main_arg0)) (m ((c : Thread nD τ).loc main_arg1)) (m ((c : Thread nD τ).loc main_arg2)) (m ((c : Thread nD τ).loc main_arg6)) (ix2 0 (y 1)) := by
  have hN := lt_of_lt_of_eq t.isLt N_0
  have ey : y = ix2 0 (y 1) := (eq_ix2 y).trans (congrArg (fun b : Fin 1 => ix2 b (y 1)) (Subsingleton.elim _ _))
  rw [bias_acc m c t h]
  unfold dBias
  refine Eq.trans ?_ (Fin.sum_mul_add_fin 12 688 (fun l : Fin 8256 => decay (m ((c : Thread nD τ).loc main_arg0)) (m ((c : Thread nD τ).loc main_arg1)) (m ((c : Thread nD τ).loc main_arg2)) (m ((c : Thread nD τ).loc main_arg6)) l (y 1)))
  refine Finset.sum_congr rfl fun p _ => ?_
  rw [show (⟨12 * (t.val / 12) + p.val, Pipeline.run_point_lt_of_flush t h p⟩ : Fin cfg0.N) = ⟨p.val, lt_of_lt_of_eq p.isLt N_0.symm⟩ from
    Fin.ext (by show 12 * (t.val / 12) + p.val = p.val; omega)]
  exact (congrArg _ ey).trans (biasPart_at m c ⟨p.val, lt_of_lt_of_eq p.isLt N_0.symm⟩ (y 1))

/-- The gradient of the bias, after all points. -/
theorem bias_final : (dats m 0 c).arrAt 9 (cfgs 0).N = dBias (m ((c : Thread nD τ).loc main_arg0)) (m ((c : Thread nD τ).loc main_arg1)) (m ((c : Thread nD τ).loc main_arg2)) (m ((c : Thread nD τ).loc main_arg6)) := by
  refine (dats m 0 c).arrAt_eq_of_covers 9 _ (by decide +kernel) fun t hf y => ?_
  have e := bias_sum m c t ((flush0_9 t).mp hf) y
  blk_simp
  rw [after0_9, e]
  generalize dBias (m ((c : Thread nD τ).loc main_arg0)) (m ((c : Thread nD τ).loc main_arg1)) (m ((c : Thread nD τ).loc main_arg2)) (m ((c : Thread nD τ).loc main_arg6)) = G
  blk_point [idx t]

/-- The gradient of the step's scale, of one block. -/
def scalePart (t : Fin cfg0.N) : FVec Ideal S1x128 .f32 := k0_pay2 (F := Ideal) lanes (k0_pay13 (F := Ideal) (iblk m c 0 t) (iblk m c 3 t) (iblk m c 4 t)) (blkHeads m c t)

theorem scalePart_at (t : Fin cfg0.N) (q : Fin 128) : scalePart m c t (ix2 0 q) = (∑ a : Fin 688, scaleRow (m ((c : Thread nD τ).loc main_arg0)) (m ((c : Thread nD τ).loc main_arg3)) (m ((c : Thread nD τ).loc main_arg4)) (m ((c : Thread nD τ).loc main_arg5)) (row t a) q : EReal) := by
  unfold scalePart
  rw [scale_part]
  refine Finset.sum_congr rfl fun a _ => ?_
  rw [blkHeads_at, step_at, blk_scale m c t, blk_shift m c t, blk_rows m c t]
  rfl

/-- The gradient of the step's scale, at the last point. -/
theorem scale_acc (t : Fin cfg0.N) (h : t.val % 12 = 12 - 1) (j : S1x128.Idx) : (outsAt0 m c t.val t.isLt).2.2.2.1 j
    = (∑ s : Fin 12, scalePart m c ⟨12 * (t.val / 12) + s.val, Pipeline.run_point_lt_of_flush t h s⟩ j : EReal) := by
  refine (Pipeline.eq_sum_fin_of_reset_step_apply_of_flush (M := EReal) (fun n h => (outsAt0 m c n h).2.2.2.1) 12 (fun _ => 0)
    (fun t j => scalePart m c t j) (fun t h0 j => ?_) (fun t h0 j => ?_) t h j).trans (zero_add _)
  · have hN := lt_of_lt_of_eq t.isLt N_0
    rw [outsAt0_A m c t h0 (by omega)]
    frame_out
    rw [zero_add]
    rfl
  · have hN := lt_of_lt_of_eq t.isLt N_0
    rw [outsAt0_B m c t h0 (by omega)]
    frame_out
    exact scale_step _ _ _ j

/-- The same in terms of the whole arrays. -/
theorem scale_sum (t : Fin cfg0.N) (h : t.val % 12 = 11) (y : S1x128.Idx) : (outsAt0 m c t.val t.isLt).2.2.2.1 y = dScale (m ((c : Thread nD τ).loc main_arg0)) (m ((c : Thread nD τ).loc main_arg3)) (m ((c : Thread nD τ).loc main_arg4)) (m ((c : Thread nD τ).loc main_arg5)) (ix2 0 (y 1)) := by
  have hN := lt_of_lt_of_eq t.isLt N_0
  have ey : y = ix2 0 (y 1) := (eq_ix2 y).trans (congrArg (fun b : Fin 1 => ix2 b (y 1)) (Subsingleton.elim _ _))
  rw [scale_acc m c t h]
  unfold dScale
  refine Eq.trans ?_ (Fin.sum_mul_add_fin 12 688 (fun l : Fin 8256 => scaleRow (m ((c : Thread nD τ).loc main_arg0)) (m ((c : Thread nD τ).loc main_arg3)) (m ((c : Thread nD τ).loc main_arg4)) (m ((c : Thread nD τ).loc main_arg5)) l (y 1)))
  refine Finset.sum_congr rfl fun p _ => ?_
  rw [show (⟨12 * (t.val / 12) + p.val, Pipeline.run_point_lt_of_flush t h p⟩ : Fin cfg0.N) = ⟨p.val, lt_of_lt_of_eq p.isLt N_0.symm⟩ from
    Fin.ext (by show 12 * (t.val / 12) + p.val = p.val; omega)]
  exact (congrArg _ ey).trans (scalePart_at m c ⟨p.val, lt_of_lt_of_eq p.isLt N_0.symm⟩ (y 1))

/-- The gradient of the step's scale, after all points. -/
theorem scale_final : (dats m 0 c).arrAt 10 (cfgs 0).N = dScale (m ((c : Thread nD τ).loc main_arg0)) (m ((c : Thread nD τ).loc main_arg3)) (m ((c : Thread nD τ).loc main_arg4)) (m ((c : Thread nD τ).loc main_arg5)) := by
  refine (dats m 0 c).arrAt_eq_of_covers 10 _ (by decide +kernel) fun t hf y => ?_
  have e := scale_sum m c t ((flush0_10 t).mp hf) y
  blk_simp
  rw [after0_10, e]
  generalize dScale (m ((c : Thread nD τ).loc main_arg0)) (m ((c : Thread nD τ).loc main_arg3)) (m ((c : Thread nD τ).loc main_arg4)) (m ((c : Thread nD τ).loc main_arg5)) = G
  blk_point [idx t]

/-- The gradient of the step's bias, of one block. -/
def shiftPart (t : Fin cfg0.N) : FVec Ideal S1x128 .f32 := k0_pay3 (F := Ideal) lanes (blkSlope m c t)

theorem shiftPart_at (t : Fin cfg0.N) (q : Fin 128) : shiftPart m c t (ix2 0 q) = (∑ a : Fin 688, shiftRow (m ((c : Thread nD τ).loc main_arg0)) (m ((c : Thread nD τ).loc main_arg3)) (m ((c : Thread nD τ).loc main_arg4)) (m ((c : Thread nD τ).loc main_arg5)) (row t a) q : EReal) := by
  unfold shiftPart
  rw [shift_part]
  refine Finset.sum_congr rfl fun a _ => ?_
  rw [blkSlope_at]
  rfl

/-- The gradient of the step's bias, at the last point. -/
theorem shift_acc (t : Fin cfg0.N) (h : t.val % 12 = 12 - 1) (j : S1x128.Idx) : (outsAt0 m c t.val t.isLt).2.2.2.2 j
    = (∑ s : Fin 12, shiftPart m c ⟨12 * (t.val / 12) + s.val, Pipeline.run_point_lt_of_flush t h s⟩ j : EReal) := by
  refine (Pipeline.eq_sum_fin_of_reset_step_apply_of_flush (M := EReal) (fun n h => (outsAt0 m c n h).2.2.2.2) 12 (fun _ => 0)
    (fun t j => shiftPart m c t j) (fun t h0 j => ?_) (fun t h0 j => ?_) t h j).trans (zero_add _)
  · have hN := lt_of_lt_of_eq t.isLt N_0
    rw [outsAt0_A m c t h0 (by omega)]
    frame_out
    rw [zero_add]
    rfl
  · have hN := lt_of_lt_of_eq t.isLt N_0
    rw [outsAt0_B m c t h0 (by omega)]
    frame_out
    exact shift_step _ _ j

/-- The same in terms of the whole arrays. -/
theorem shift_sum (t : Fin cfg0.N) (h : t.val % 12 = 11) (y : S1x128.Idx) : (outsAt0 m c t.val t.isLt).2.2.2.2 y = dShift (m ((c : Thread nD τ).loc main_arg0)) (m ((c : Thread nD τ).loc main_arg3)) (m ((c : Thread nD τ).loc main_arg4)) (m ((c : Thread nD τ).loc main_arg5)) (ix2 0 (y 1)) := by
  have hN := lt_of_lt_of_eq t.isLt N_0
  have ey : y = ix2 0 (y 1) := (eq_ix2 y).trans (congrArg (fun b : Fin 1 => ix2 b (y 1)) (Subsingleton.elim _ _))
  rw [shift_acc m c t h]
  unfold dShift
  refine Eq.trans ?_ (Fin.sum_mul_add_fin 12 688 (fun l : Fin 8256 => shiftRow (m ((c : Thread nD τ).loc main_arg0)) (m ((c : Thread nD τ).loc main_arg3)) (m ((c : Thread nD τ).loc main_arg4)) (m ((c : Thread nD τ).loc main_arg5)) l (y 1)))
  refine Finset.sum_congr rfl fun p _ => ?_
  rw [show (⟨12 * (t.val / 12) + p.val, Pipeline.run_point_lt_of_flush t h p⟩ : Fin cfg0.N) = ⟨p.val, lt_of_lt_of_eq p.isLt N_0.symm⟩ from
    Fin.ext (by show 12 * (t.val / 12) + p.val = p.val; omega)]
  exact (congrArg _ ey).trans (shiftPart_at m c ⟨p.val, lt_of_lt_of_eq p.isLt N_0.symm⟩ (y 1))

/-- The gradient of the step's bias, after all points. -/
theorem shift_final : (dats m 0 c).arrAt 11 (cfgs 0).N = dShift (m ((c : Thread nD τ).loc main_arg0)) (m ((c : Thread nD τ).loc main_arg3)) (m ((c : Thread nD τ).loc main_arg4)) (m ((c : Thread nD τ).loc main_arg5)) := by
  refine (dats m 0 c).arrAt_eq_of_covers 11 _ (by decide +kernel) fun t hf y => ?_
  have e := shift_sum m c t ((flush0_11 t).mp hf) y
  blk_simp
  rw [after0_11, e]
  generalize dShift (m ((c : Thread nD τ).loc main_arg0)) (m ((c : Thread nD τ).loc main_arg3)) (m ((c : Thread nD τ).loc main_arg4)) (m ((c : Thread nD τ).loc main_arg5)) = G
  blk_point [idx t]

end Cert.GateGrad

end
-- ==== Proof.Gates.Ref.lean ====
/-
  The gates' reference: what the chain rule gives, entry by entry, is the sum over all rows.
-/
module

public import proofs.«01_k».proof.Defs
public import proofs.«01_k».proof.Proof.Gen.Reference21Ideal.Run
public import proofs.«01_k».proof.Proof.Gates.Closed
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.GateGrad

open Cert.Reference21Ideal Cert.Reference21Ideal.Gen

variable (S : FVec Ideal S8256x128 .f32) (W : FVec Ideal S128x512 .f32) (B : FVec Ideal S1x512 .f32) (L E : FVec Ideal S1x128 .f32)
  (D : FVec Ideal S8x8256x128 .f32) (G : FVec Ideal S8256x512 .f32)

/-- A finite sum of real numbers is a real number. -/
theorem sum_is_real {n : ℕ} {f : Fin n → EReal} (h : ∀ k, ∃ r : ℝ, f k = (r : EReal)) : ∃ r : ℝ, ∑ k, f k = (r : EReal) := by
  choose g hg using h
  exact ⟨∑ k, g k, by simp only [hg, Cert.Norm.sum_real]⟩

section Rows

variable {S W B L E D G}

/-- The gate's input is a real number. -/
theorem zed_real (hS : ∀ (l : Fin 8208) (p : Fin 128), ∃ r : ℝ, S (ix2 ⟨48 + l.val, by omega⟩ p) = (r : EReal)) (hW : ∀ i, ∃ r : ℝ, W i = (r : EReal))
    (hB : ∀ i, ∃ r : ℝ, B i = (r : EReal)) (l : Fin 8208) (q : Fin 512) : ∃ r : ℝ, zed S W B ⟨48 + l.val, by omega⟩ q = (r : EReal) := by
  obtain ⟨b, hb⟩ := hB (ix2 0 q)
  obtain ⟨x, hx⟩ := sum_is_real (f := fun p : Fin 128 => S (ix2 ⟨48 + l.val, by omega⟩ p) * W (ix2 p q)) fun p => by
    obtain ⟨u, hu⟩ := hS l p
    obtain ⟨v, hv⟩ := hW (ix2 p q)
    exact ⟨u * v, by rw [hu, hv, EReal.coe_mul]⟩
  exact ⟨x + b, by unfold zed; rw [hx, hb, EReal.coe_add]⟩

/-- The cotangent of the gate's input, as the chain rule writes it. -/
theorem decay_tail (hS : ∀ (l : Fin 8208) (p : Fin 128), ∃ r : ℝ, S (ix2 ⟨48 + l.val, by omega⟩ p) = (r : EReal)) (hW : ∀ i, ∃ r : ℝ, W i = (r : EReal))
    (hB : ∀ i, ∃ r : ℝ, B i = (r : EReal))
    (l : Fin 8208) (q : Fin 512) : decay S W B G ⟨48 + l.val, by omega⟩ q
      = -(Ideal.div (-(Ideal.div (G (ix2 ⟨48 + l.val, by omega⟩ q)) (Ideal.ofBits .f32 0x41800000#32))) (Ideal.exp (-(zed S W B ⟨48 + l.val, by omega⟩ q)) + 1)
          * Ideal.exp (-(zed S W B ⟨48 + l.val, by omega⟩ q))) := by
  obtain ⟨z, hz⟩ := zed_real hS hW hB l q
  unfold decay
  rw [if_pos (by show 48 ≤ 48 + l.val; omega), hz]
  exact (decay_real _ z).symm

/-- A padding row has no cotangent. -/
theorem decay_dead (l : Fin 8256) (q : Fin 512) (h : l.val < 48) : decay S W B G l q = 0 := if_neg (by omega)

theorem heads_dead (l : Fin 8256) (j : Fin 128) (h : l.val < 48) : heads D l j = 0 := if_neg (by omega)

/-- The heads' sum in a row that counts. -/
theorem heads_tail (l : Fin 8208) (j : Fin 128) : heads D ⟨48 + l.val, by omega⟩ j = ∑ h : Fin 8, D (ix3 h ⟨48 + l.val, by omega⟩ j) := by
  unfold heads
  rw [if_pos (by show 48 ≤ 48 + l.val; omega), Fin.sum_univ_eight]

end Rows

/-- The derivative by the projection. -/
theorem proj_ref_at (hS : ∀ (l : Fin 8208) (p : Fin 128), ∃ r : ℝ, S (ix2 ⟨48 + l.val, by omega⟩ p) = (r : EReal)) (hW : ∀ i, ∃ r : ℝ, W i = (r : EReal))
    (hB : ∀ i, ∃ r : ℝ, B i = (r : EReal))
    (p : Fin 128) (q : Fin 512) : (transpose S128x512 [1, 0] (Host.dotGeneral dot_S8208x512_S8208x128_S512x128_0_0_1_1_n_n none (Host.negf (mulf (Host.divf (Host.negf (Host.divf (extractStridedSlice S8208x512 ![48, 0] G slices_S8256x512_S8208x512_48_0) (broadcastInDim S8208x512 ![] bcast_S_S8208x512 (constant S_ .f32 0x41800000#32)))) (addf (Host.exp (Host.negf (addf (Host.dotGeneral dot_S8208x128_S128x512_S8208x512_1_0_0_1_n_n none (extractStridedSlice S8208x128 ![48, 0] S slices_S8256x128_S8208x128_48_0) W) (broadcastInDim S8208x512 ![0, 1] bcast_S1x512_S8208x512_0_1 B)))) (broadcastInDim S8208x512 ![] bcast_S_S8208x512 (constant S_ .f32 0x3F800000#32)))) (Host.exp (Host.negf (addf (Host.dotGeneral dot_S8208x128_S128x512_S8208x512_1_0_0_1_n_n none (extractStridedSlice S8208x128 ![48, 0] S slices_S8256x128_S8208x128_48_0) W) (broadcastInDim S8208x512 ![0, 1] bcast_S1x512_S8208x512_0_1 B)))))) (extractStridedSlice S8208x128 ![48, 0] S slices_S8256x128_S8208x128_48_0)) transposes_S512x128_S128x512_1_0 : FVec Ideal S128x512 .f32) (ix2 p q) = dProj S W B G (ix2 p q) := by
  pointwise [dProj]
  refine Eq.symm ((sum_tail _ fun l h => ?_).trans (Finset.sum_congr rfl fun l _ => ?_))
  · unfold projRow
    rw [decay_dead l q h, mul_zero]
  · unfold projRow
    rw [decay_tail hS hW hB l, mul_comm]
    rfl

theorem proj_ref (hS : ∀ (l : Fin 8208) (p : Fin 128), ∃ r : ℝ, S (ix2 ⟨48 + l.val, by omega⟩ p) = (r : EReal)) (hW : ∀ i, ∃ r : ℝ, W i = (r : EReal))
    (hB : ∀ i, ∃ r : ℝ, B i = (r : EReal))
    : (transpose S128x512 [1, 0] (Host.dotGeneral dot_S8208x512_S8208x128_S512x128_0_0_1_1_n_n none (Host.negf (mulf (Host.divf (Host.negf (Host.divf (extractStridedSlice S8208x512 ![48, 0] G slices_S8256x512_S8208x512_48_0) (broadcastInDim S8208x512 ![] bcast_S_S8208x512 (constant S_ .f32 0x41800000#32)))) (addf (Host.exp (Host.negf (addf (Host.dotGeneral dot_S8208x128_S128x512_S8208x512_1_0_0_1_n_n none (extractStridedSlice S8208x128 ![48, 0] S slices_S8256x128_S8208x128_48_0) W) (broadcastInDim S8208x512 ![0, 1] bcast_S1x512_S8208x512_0_1 B)))) (broadcastInDim S8208x512 ![] bcast_S_S8208x512 (constant S_ .f32 0x3F800000#32)))) (Host.exp (Host.negf (addf (Host.dotGeneral dot_S8208x128_S128x512_S8208x512_1_0_0_1_n_n none (extractStridedSlice S8208x128 ![48, 0] S slices_S8256x128_S8208x128_48_0) W) (broadcastInDim S8208x512 ![0, 1] bcast_S1x512_S8208x512_0_1 B)))))) (extractStridedSlice S8208x128 ![48, 0] S slices_S8256x128_S8208x128_48_0)) transposes_S512x128_S128x512_1_0 : FVec Ideal S128x512 .f32)  = dProj S W B G := funext fun i =>
  (congrArg _ (eq_ix2 i)).trans ((proj_ref_at S W B G hS hW hB (i 0) (i 1)).trans (congrArg _ (eq_ix2 i)).symm)

/-- The derivative by the projection's bias. -/
theorem bias_ref_at (hS : ∀ (l : Fin 8208) (p : Fin 128), ∃ r : ℝ, S (ix2 ⟨48 + l.val, by omega⟩ p) = (r : EReal)) (hW : ∀ i, ∃ r : ℝ, W i = (r : EReal))
    (hB : ∀ i, ∃ r : ℝ, B i = (r : EReal))
    (o : Fin 1) (q : Fin 512) : (shapeCast _ (Host.reduceAdd (Host.negf (mulf (Host.divf (Host.negf (Host.divf (extractStridedSlice S8208x512 ![48, 0] G slices_S8256x512_S8208x512_48_0) (broadcastInDim S8208x512 ![] bcast_S_S8208x512 (constant S_ .f32 0x41800000#32)))) (addf (Host.exp (Host.negf (addf (Host.dotGeneral dot_S8208x128_S128x512_S8208x512_1_0_0_1_n_n none (extractStridedSlice S8208x128 ![48, 0] S slices_S8256x128_S8208x128_48_0) W) (broadcastInDim S8208x512 ![0, 1] bcast_S1x512_S8208x512_0_1 B)))) (broadcastInDim S8208x512 ![] bcast_S_S8208x512 (constant S_ .f32 0x3F800000#32)))) (Host.exp (Host.negf (addf (Host.dotGeneral dot_S8208x128_S128x512_S8208x512_1_0_0_1_n_n none (extractStridedSlice S8208x128 ![48, 0] S slices_S8256x128_S8208x128_48_0) W) (broadcastInDim S8208x512 ![0, 1] bcast_S1x512_S8208x512_0_1 B)))))) (constant S_ .f32 0x00000000#32) reducesTo_S8208x512_S512_d0 h_S_) shapeCasts_S512_S1x512 : FVec Ideal S1x512 .f32) (ix2 o q) = dBias S W B G (ix2 o q) := by
  pointwise [dBias]
  refine Eq.symm ((sum_tail _ fun l h => decay_dead l q h).trans (Finset.sum_congr rfl fun l _ => ?_))
  rw [decay_tail hS hW hB l]
  rfl

theorem bias_ref (hS : ∀ (l : Fin 8208) (p : Fin 128), ∃ r : ℝ, S (ix2 ⟨48 + l.val, by omega⟩ p) = (r : EReal)) (hW : ∀ i, ∃ r : ℝ, W i = (r : EReal))
    (hB : ∀ i, ∃ r : ℝ, B i = (r : EReal))
    : (shapeCast _ (Host.reduceAdd (Host.negf (mulf (Host.divf (Host.negf (Host.divf (extractStridedSlice S8208x512 ![48, 0] G slices_S8256x512_S8208x512_48_0) (broadcastInDim S8208x512 ![] bcast_S_S8208x512 (constant S_ .f32 0x41800000#32)))) (addf (Host.exp (Host.negf (addf (Host.dotGeneral dot_S8208x128_S128x512_S8208x512_1_0_0_1_n_n none (extractStridedSlice S8208x128 ![48, 0] S slices_S8256x128_S8208x128_48_0) W) (broadcastInDim S8208x512 ![0, 1] bcast_S1x512_S8208x512_0_1 B)))) (broadcastInDim S8208x512 ![] bcast_S_S8208x512 (constant S_ .f32 0x3F800000#32)))) (Host.exp (Host.negf (addf (Host.dotGeneral dot_S8208x128_S128x512_S8208x512_1_0_0_1_n_n none (extractStridedSlice S8208x128 ![48, 0] S slices_S8256x128_S8208x128_48_0) W) (broadcastInDim S8208x512 ![0, 1] bcast_S1x512_S8208x512_0_1 B)))))) (constant S_ .f32 0x00000000#32) reducesTo_S8208x512_S512_d0 h_S_) shapeCasts_S512_S1x512 : FVec Ideal S1x512 .f32)  = dBias S W B G := funext fun i =>
  (congrArg _ (eq_ix2 i)).trans ((bias_ref_at S W B G hS hW hB (i 0) (i 1)).trans (congrArg _ (eq_ix2 i)).symm)

/-- The derivative by the logarithm of the step's scale. -/
theorem scale_ref_at (hS : ∀ (l : Fin 8208) (p : Fin 128), ∃ r : ℝ, S (ix2 ⟨48 + l.val, by omega⟩ p) = (r : EReal))
    (hL : ∀ j : Fin 8, ∃ r : ℝ, L (ix2 0 ⟨j.val, by omega⟩) = (r : EReal)) (hE : ∀ j : Fin 8, ∃ r : ℝ, E (ix2 0 ⟨j.val, by omega⟩) = (r : EReal))
    (hD : ∀ (h : Fin 8) (l : Fin 8208) (j : Fin 8), ∃ r : ℝ, D (ix3 h ⟨48 + l.val, by omega⟩ ⟨j.val, by omega⟩) = (r : EReal))
    (o : Fin 1) (j : Fin 128) : (pad S1x128 ![0, 0] ![0, 120] ![0, 0] (mulf (Host.negf (shapeCast _ (Host.reduceAdd (mulf (extractStridedSlice S8208x8 ![48, 0] (Host.reduceAdd D (constant S_ .f32 0x00000000#32) reducesTo_S8x8256x128_S8256x128_d0 h_S_) slices_S8256x128_S8208x8_48_0) (Host.log1p (Host.exp (addf (extractStridedSlice S8208x8 ![0, 0] (extractStridedSlice S8208x128 ![48, 0] S slices_S8256x128_S8208x128_48_0) slices_S8208x128_S8208x8_0_0) (broadcastInDim S8208x8 ![0, 1] bcast_S1x8_S8208x8_0_1 (extractStridedSlice S1x8 ![0, 0] E slices_S1x128_S1x8_0_0)))))) (constant S_ .f32 0x00000000#32) reducesTo_S8208x8_S8_d0 h_S_) shapeCasts_S8_S1x8)) (Host.exp (extractStridedSlice S1x8 ![0, 0] L slices_S1x128_S1x8_0_0))) (constant S_ .f32 0x00000000#32) pads_S1x8_S1x128_000_01200 h_S_ : FVec Ideal S1x128 .f32) (ix2 o j) = dScale S L E D (ix2 o j) := by
  pointwise [dScale]
  by_cases hj : j.val < 8
  · rw [dif_pos hj]
    refine Eq.trans ?_ (sum_tail (fun l => scaleRow S L E D l j) fun l h => ?_).symm
    · have hd : ∀ l : Fin 8208, ∃ r : ℝ, ∑ h : Fin 8, D (ix3 h ⟨48 + l.val, by omega⟩ j) = (r : EReal) := fun l => sum_is_real fun h => hD h l ⟨j.val, hj⟩
      choose d hd using hd
      choose s hs using fun l => hS l j
      obtain ⟨a, ha⟩ : ∃ r : ℝ, L (ix2 0 j) = (r : EReal) := hL ⟨j.val, hj⟩
      obtain ⟨e, he⟩ : ∃ r : ℝ, E (ix2 0 j) = (r : EReal) := hE ⟨j.val, hj⟩
      have hr : ∀ l : Fin 8208, scaleRow S L E D ⟨48 + l.val, by omega⟩ j
          = ((d l : EReal) * (-(Real.exp a : EReal) * (Real.log (1 + Real.exp (s l + e)) : EReal)) : EReal) := fun l => by
        unfold scaleRow
        rw [if_pos hj, heads_tail, hd, ha, hs, he, ← EReal.coe_add, softplus_real, exp_real a]
      refine Eq.trans ?_ (Finset.sum_congr rfl fun l _ => (hr l).symm)
      simp only [hd, hs, ha, he, ← EReal.coe_add, log1p_exp]
      rw [exp_real a]
      exact sum_scaled d (fun l => Real.log (1 + Real.exp (s l + e))) (Real.exp a)
    · unfold scaleRow
      rw [heads_dead l j h, zero_mul, ite_self]
  · rw [dif_neg hj]
    exact (Finset.sum_eq_zero fun l _ => if_neg hj).symm

theorem scale_ref (hS : ∀ (l : Fin 8208) (p : Fin 128), ∃ r : ℝ, S (ix2 ⟨48 + l.val, by omega⟩ p) = (r : EReal))
    (hL : ∀ j : Fin 8, ∃ r : ℝ, L (ix2 0 ⟨j.val, by omega⟩) = (r : EReal)) (hE : ∀ j : Fin 8, ∃ r : ℝ, E (ix2 0 ⟨j.val, by omega⟩) = (r : EReal))
    (hD : ∀ (h : Fin 8) (l : Fin 8208) (j : Fin 8), ∃ r : ℝ, D (ix3 h ⟨48 + l.val, by omega⟩ ⟨j.val, by omega⟩) = (r : EReal))
    : (pad S1x128 ![0, 0] ![0, 120] ![0, 0] (mulf (Host.negf (shapeCast _ (Host.reduceAdd (mulf (extractStridedSlice S8208x8 ![48, 0] (Host.reduceAdd D (constant S_ .f32 0x00000000#32) reducesTo_S8x8256x128_S8256x128_d0 h_S_) slices_S8256x128_S8208x8_48_0) (Host.log1p (Host.exp (addf (extractStridedSlice S8208x8 ![0, 0] (extractStridedSlice S8208x128 ![48, 0] S slices_S8256x128_S8208x128_48_0) slices_S8208x128_S8208x8_0_0) (broadcastInDim S8208x8 ![0, 1] bcast_S1x8_S8208x8_0_1 (extractStridedSlice S1x8 ![0, 0] E slices_S1x128_S1x8_0_0)))))) (constant S_ .f32 0x00000000#32) reducesTo_S8208x8_S8_d0 h_S_) shapeCasts_S8_S1x8)) (Host.exp (extractStridedSlice S1x8 ![0, 0] L slices_S1x128_S1x8_0_0))) (constant S_ .f32 0x00000000#32) pads_S1x8_S1x128_000_01200 h_S_ : FVec Ideal S1x128 .f32)  = dScale S L E D := funext fun i =>
  (congrArg _ (eq_ix2 i)).trans ((scale_ref_at S L E D hS hL hE hD (i 0) (i 1)).trans (congrArg _ (eq_ix2 i)).symm)

/-- The derivative by the step's bias. -/
theorem shift_ref_at (hS : ∀ (l : Fin 8208) (p : Fin 128), ∃ r : ℝ, S (ix2 ⟨48 + l.val, by omega⟩ p) = (r : EReal))
    (hL : ∀ j : Fin 8, ∃ r : ℝ, L (ix2 0 ⟨j.val, by omega⟩) = (r : EReal)) (hE : ∀ j : Fin 8, ∃ r : ℝ, E (ix2 0 ⟨j.val, by omega⟩) = (r : EReal))
    (hD : ∀ (h : Fin 8) (l : Fin 8208) (j : Fin 8), ∃ r : ℝ, D (ix3 h ⟨48 + l.val, by omega⟩ ⟨j.val, by omega⟩) = (r : EReal))
    (o : Fin 1) (j : Fin 128) : (pad S1x128 ![0, 0] ![0, 120] ![0, 0] (shapeCast _ (Host.reduceAdd (mulf (Host.divf (mulf (broadcastInDim S8208x8 ![0, 1] bcast_S1x8_S8208x8_0_1 (Host.negf (Host.exp (extractStridedSlice S1x8 ![0, 0] L slices_S1x128_S1x8_0_0)))) (extractStridedSlice S8208x8 ![48, 0] (Host.reduceAdd D (constant S_ .f32 0x00000000#32) reducesTo_S8x8256x128_S8256x128_d0 h_S_) slices_S8256x128_S8208x8_48_0)) (addf (Host.exp (addf (extractStridedSlice S8208x8 ![0, 0] (extractStridedSlice S8208x128 ![48, 0] S slices_S8256x128_S8208x128_48_0) slices_S8208x128_S8208x8_0_0) (broadcastInDim S8208x8 ![0, 1] bcast_S1x8_S8208x8_0_1 (extractStridedSlice S1x8 ![0, 0] E slices_S1x128_S1x8_0_0)))) (broadcastInDim S8208x8 ![] bcast_S_S8208x8 (constant S_ .f32 0x3F800000#32)))) (Host.exp (addf (extractStridedSlice S8208x8 ![0, 0] (extractStridedSlice S8208x128 ![48, 0] S slices_S8256x128_S8208x128_48_0) slices_S8208x128_S8208x8_0_0) (broadcastInDim S8208x8 ![0, 1] bcast_S1x8_S8208x8_0_1 (extractStridedSlice S1x8 ![0, 0] E slices_S1x128_S1x8_0_0))))) (constant S_ .f32 0x00000000#32) reducesTo_S8208x8_S8_d0 h_S_) shapeCasts_S8_S1x8) (constant S_ .f32 0x00000000#32) pads_S1x8_S1x128_000_01200 h_S_ : FVec Ideal S1x128 .f32) (ix2 o j) = dShift S L E D (ix2 o j) := by
  pointwise [dShift]
  by_cases hj : j.val < 8
  · rw [dif_pos hj]
    refine Eq.symm ((sum_tail (fun l => shiftRow S L E D l j) fun l h => ?_).trans (Finset.sum_congr rfl fun l _ => ?_))
    · unfold shiftRow slope
      rw [heads_dead l j h, zero_mul, zero_mul, ite_self]
    · obtain ⟨d, hd⟩ : ∃ r : ℝ, ∑ h : Fin 8, D (ix3 h ⟨48 + l.val, by omega⟩ j) = (r : EReal) := sum_is_real fun h => hD h l ⟨j.val, hj⟩
      obtain ⟨s, hs⟩ := hS l j
      obtain ⟨a, ha⟩ : ∃ r : ℝ, L (ix2 0 j) = (r : EReal) := hL ⟨j.val, hj⟩
      obtain ⟨e, he⟩ : ∃ r : ℝ, E (ix2 0 j) = (r : EReal) := hE ⟨j.val, hj⟩
      unfold shiftRow slope
      rw [if_pos hj, heads_tail, hd, ha, hs, he, ← EReal.coe_add, exp_real a]
      exact (step_real d (Real.exp a) (s + e)).symm
  · rw [dif_neg hj]
    exact (Finset.sum_eq_zero fun l _ => if_neg hj).symm

theorem shift_ref (hS : ∀ (l : Fin 8208) (p : Fin 128), ∃ r : ℝ, S (ix2 ⟨48 + l.val, by omega⟩ p) = (r : EReal))
    (hL : ∀ j : Fin 8, ∃ r : ℝ, L (ix2 0 ⟨j.val, by omega⟩) = (r : EReal)) (hE : ∀ j : Fin 8, ∃ r : ℝ, E (ix2 0 ⟨j.val, by omega⟩) = (r : EReal))
    (hD : ∀ (h : Fin 8) (l : Fin 8208) (j : Fin 8), ∃ r : ℝ, D (ix3 h ⟨48 + l.val, by omega⟩ ⟨j.val, by omega⟩) = (r : EReal))
    : (pad S1x128 ![0, 0] ![0, 120] ![0, 0] (shapeCast _ (Host.reduceAdd (mulf (Host.divf (mulf (broadcastInDim S8208x8 ![0, 1] bcast_S1x8_S8208x8_0_1 (Host.negf (Host.exp (extractStridedSlice S1x8 ![0, 0] L slices_S1x128_S1x8_0_0)))) (extractStridedSlice S8208x8 ![48, 0] (Host.reduceAdd D (constant S_ .f32 0x00000000#32) reducesTo_S8x8256x128_S8256x128_d0 h_S_) slices_S8256x128_S8208x8_48_0)) (addf (Host.exp (addf (extractStridedSlice S8208x8 ![0, 0] (extractStridedSlice S8208x128 ![48, 0] S slices_S8256x128_S8208x128_48_0) slices_S8208x128_S8208x8_0_0) (broadcastInDim S8208x8 ![0, 1] bcast_S1x8_S8208x8_0_1 (extractStridedSlice S1x8 ![0, 0] E slices_S1x128_S1x8_0_0)))) (broadcastInDim S8208x8 ![] bcast_S_S8208x8 (constant S_ .f32 0x3F800000#32)))) (Host.exp (addf (extractStridedSlice S8208x8 ![0, 0] (extractStridedSlice S8208x128 ![48, 0] S slices_S8256x128_S8208x128_48_0) slices_S8208x128_S8208x8_0_0) (broadcastInDim S8208x8 ![0, 1] bcast_S1x8_S8208x8_0_1 (extractStridedSlice S1x8 ![0, 0] E slices_S1x128_S1x8_0_0))))) (constant S_ .f32 0x00000000#32) reducesTo_S8208x8_S8_d0 h_S_) shapeCasts_S8_S1x8) (constant S_ .f32 0x00000000#32) pads_S1x8_S1x128_000_01200 h_S_ : FVec Ideal S1x128 .f32)  = dShift S L E D := funext fun i =>
  (congrArg _ (eq_ix2 i)).trans ((shift_ref_at S L E D hS hL hE hD (i 0) (i 1)).trans (congrArg _ (eq_ix2 i)).symm)

end Cert.GateGrad

end
-- ==== Proof.Gates.Backward.lean ====
/-
  The reference of the gates' backward call: its frame.
-/
module

public import proofs.«01_k».proof.Defs
public import proofs.«01_k».proof.Proof.Gen.Kernel21Ideal.Frame
public import proofs.«01_k».proof.Proof.Gen.Reference21Ideal.Run
public import Idealize.ShloMosaic.Lib.Quiescent
public import Idealize.ShloMosaic.Lib.Claim

@[expose] public section

noncomputable section

open Idealize.ShloMosaic Idealize.ShloMosaic.TcCoe Idealize.SL.Sem

namespace Cert.GateGrad

theorem reference_frame : Cert.quiescent_Reference21Ideal := fun m g _ =>
  (θ_run Cert.Reference21Ideal.defs _ _).mono
    (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩, sem_eq_zero_of_no_sems rfl r.2⟩)
    (Cert.Reference21Ideal.Value.run m g)

end Cert.GateGrad

end
-- ==== Proof.Gates.Value.lean ====
/-
  The gates: the gradients of the projection, its bias, and the step's scale and bias.
-/
module

public import proofs.«01_k».proof.Defs
public import proofs.«01_k».proof.Proof.Gates.Kernel
public import proofs.«01_k».proof.Proof.Gates.Ref
public import proofs.«01_k».proof.Proof.Gates.Backward
public import proofs.«01_k».proof.Proof.Swiglu.Ref
public import proofs.«01_k».proof.Proof.Gen.Pre_finite21
public import Idealize.ShloMosaic.Lib.Pipeline.ValueKit
public import Idealize.ShloMosaic.Lib.Pointwise.Tactic
public import Idealize.ShloMosaic.Lib.Quiescent
public import Idealize.ShloMosaic.Lib.Claim

@[expose] public section

set_option maxRecDepth 16384
set_option maxHeartbeats 2000000

noncomputable section

open Idealize.ShloMosaic Idealize.ShloMosaic.TcCoe Idealize.SL.Sem
open Idealize.ShloMosaic.Pipeline (Dat)

namespace Cert.GateGrad

open Cert.Kernel21Ideal Cert.Kernel21Ideal.Gen

/-- The precondition, at an index: what the rows after the padding read holds real numbers. -/
theorem real_of_pre [Cert.Pre_finite21.Facts] {S : FVec Ideal S8256x128 .f32} {W : FVec Ideal S128x512 .f32} {B : FVec Ideal S1x512 .f32}
    {L E : FVec Ideal S1x128 .f32} {D : FVec Ideal S8x8256x128 .f32} {G : FVec Ideal S8256x512 .f32} {P : FVec Ideal S8256x7680 .bf16}
    (h : Cert.Pre_finite21.fn (F := Ideal) S W B L E D G P = fun _ => 1#1) :
    (∀ (l : Fin 8208) (p : Fin 128), ∃ r : ℝ, S (ix2 ⟨48 + l.val, by omega⟩ p) = (r : EReal))
      ∧ (∀ i, ∃ r : ℝ, W i = (r : EReal)) ∧ (∀ i, ∃ r : ℝ, B i = (r : EReal))
      ∧ (∀ j : Fin 8, ∃ r : ℝ, L (ix2 0 ⟨j.val, by omega⟩) = (r : EReal)) ∧ (∀ j : Fin 8, ∃ r : ℝ, E (ix2 0 ⟨j.val, by omega⟩) = (r : EReal))
      ∧ (∀ (h : Fin 8) (l : Fin 8208) (j : Fin 8), ∃ r : ℝ, D (ix3 h ⟨48 + l.val, by omega⟩ ⟨j.val, by omega⟩) = (r : EReal)) := by
  have h0 := congrFun h (fun a => a.elim0)
  simp only [Cert.Pre_finite21.fn, Cert.Pre_finite21.fn_part1] at h0
  rw [andi_apply, IntOp.andi_eq_one, andi_apply, IntOp.andi_eq_one, andi_apply, IntOp.andi_eq_one, andi_apply, IntOp.andi_eq_one,
    andi_apply, IntOp.andi_eq_one] at h0
  obtain ⟨⟨⟨⟨⟨hS, hW⟩, hB⟩, hL⟩, hE⟩, hD⟩ := h0
  refine ⟨fun l p => ?_, fun i => Cert.Swiglu.real_of_word (W i) (Host.reduce_andi_all _ _ _ _ _ hW i),
    fun i => Cert.Swiglu.real_of_word (B i) (Host.reduce_andi_all _ _ _ _ _ hB i), fun j => ?_, fun j => ?_, fun h l j => ?_⟩
  · obtain ⟨r, hr⟩ := Cert.Swiglu.real_of_word _ (Host.reduce_andi_all _ _ _ _ _ hS (ix2 l p))
    refine ⟨r, Eq.trans ?_ hr⟩
    pointwise
  · obtain ⟨r, hr⟩ := Cert.Swiglu.real_of_word _ (Host.reduce_andi_all _ _ _ _ _ hL (ix2 0 j))
    refine ⟨r, Eq.trans ?_ hr⟩
    pointwise
  · obtain ⟨r, hr⟩ := Cert.Swiglu.real_of_word _ (Host.reduce_andi_all _ _ _ _ _ hE (ix2 0 j))
    refine ⟨r, Eq.trans ?_ hr⟩
    pointwise
  · obtain ⟨r, hr⟩ := Cert.Swiglu.real_of_word _ (Host.reduce_andi_all _ _ _ _ _ hD (ix3 h l j))
    refine ⟨r, Eq.trans ?_ hr⟩
    pointwise

theorem algebraic [Cert.Pre_finite21.Facts] : Cert.algebraic_Kernel21Ideal_Reference21Ideal_pre_finite21 := by
  pair_intro
  · run_from Cert.Kernel21Ideal.Gen.run_main m g
  · refine θ_run_mono (Cert.Reference21Ideal.Value.run m' g') fun r hr c => ?_
    obtain ⟨h1, h2, h3, h4, ha⟩ := hr c
    obtain ⟨hS, hW, hB, hL, hE, hD⟩ := real_of_pre (hpre c)
    obtain ⟨e0, e1, e2, e3, e4, e5, e6, e7⟩ := hagree c
    refine ⟨h1.trans ?_, h2.trans ?_, h3.trans ?_, h4.trans ?_, ha⟩
    · rw [proj_final m c, e0, e1, e2, e6]
      exact proj_ref _ _ _ _ hS hW hB
    · rw [bias_final m c, e0, e1, e2, e6]
      exact bias_ref _ _ _ _ hS hW hB
    · rw [scale_final m c, e0, e3, e4, e5]
      exact scale_ref _ _ _ _ hS hL hE hD
    · rw [shift_final m c, e0, e3, e4, e5]
      exact shift_ref _ _ _ _ hS hL hE hD

end Cert.GateGrad

end
-- ==== Proof.lean ====
/-
  The proof of `Cert.Claim`: the witnesses of the programs' stated facts, then one proof for each conjunct, in the
  order of Defs.lean. The frames of the kernels are the generated ones; the references' frames and the value claims are
  proved in the modules named after the call they are about.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Pre_finite
public import proofs.«01_k».proof.Proof.Gen.Pre_finite5
public import proofs.«01_k».proof.Proof.Gen.Pre_finite6
public import proofs.«01_k».proof.Proof.Gen.Pre_finite20
public import proofs.«01_k».proof.Proof.Gen.Pre_finite21
public import proofs.«01_k».proof.Proof.Swiglu.Claim
public import proofs.«01_k».proof.Proof.Products.WeightGrad
public import proofs.«01_k».proof.Proof.Products.PairGrad
public import proofs.«01_k».proof.Proof.Products.OutGrad
public import proofs.«01_k».proof.Proof.Products.MixedGrad
public import proofs.«01_k».proof.Proof.Products.InGrad
public import proofs.«01_k».proof.Proof.Products.InputGrad
public import proofs.«01_k».proof.Proof.Norm.Backward
public import proofs.«01_k».proof.Proof.Norm.LossHead
public import proofs.«01_k».proof.Proof.Products.FfnDown
public import proofs.«01_k».proof.Proof.Products.OutProj
public import proofs.«01_k».proof.Proof.Swiglu.Forward
public import proofs.«01_k».proof.Proof.Norm.Forward
public import proofs.«01_k».proof.Proof.Products.InProj
public import proofs.«01_k».proof.Proof.Optim.AdamwDown
public import proofs.«01_k».proof.Proof.Optim.AdamwOut
public import proofs.«01_k».proof.Proof.Optim.AdamwIn
public import proofs.«01_k».proof.Proof.Mix.Value
public import proofs.«01_k».proof.Proof.Gates.Value
public import Idealize.ShloMosaic.Lib.Quiescent
public import Idealize.ShloMosaic.Lib.Claim

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel15.Gen.facts,
  Cert.Kernel15Ideal.Gen.facts,
  Cert.Reference15Ideal.Gen.facts,
  Cert.Kernel14.Gen.facts,
  Cert.Kernel14Ideal.Gen.facts,
  Cert.Reference14Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Pre_finite.Gen.facts,
  Cert.Pre_finite5.Gen.facts,
  Cert.Pre_finite6.Gen.facts,
  Cert.Pre_finite20.Gen.facts,
  Cert.Pre_finite21.Gen.facts,
  fun m ρ _ => Cert.Kernel.Gen.frame m ρ,
  fun m ρ _ => Cert.KernelIdeal.Gen.frame m ρ,
  fun m ρ _ => Cert.KernelIdeal.Gen.frame m ρ,
  fun m ρ _ => Cert.Swiglu.reference_frame m ρ,
  fun m ρ _ => Cert.Swiglu.reference_frame m ρ,
  fun m ρ _ => Cert.Kernel2.Gen.frame m ρ,
  fun m ρ _ => Cert.Kernel2Ideal.Gen.frame m ρ,
  fun m ρ _ => Cert.Kernel3.Gen.frame m ρ,
  fun m ρ _ => Cert.Kernel3Ideal.Gen.frame m ρ,
  fun m ρ _ => Cert.WeightGrad.reference_frame m ρ trivial,
  fun m ρ _ => Cert.Kernel4.Gen.frame m ρ,
  fun m ρ _ => Cert.Kernel4Ideal.Gen.frame m ρ,
  fun m ρ _ => Cert.PairGrad.reference_frame m ρ trivial,
  fun m ρ _ => Cert.Kernel7.Gen.frame m ρ,
  fun m ρ _ => Cert.Kernel7Ideal.Gen.frame m ρ,
  fun m ρ _ => Cert.OutGrad.reference_frame m ρ trivial,
  fun m ρ _ => Cert.Kernel8.Gen.frame m ρ,
  fun m ρ _ => Cert.Kernel8Ideal.Gen.frame m ρ,
  fun m ρ _ => Cert.MixedGrad.reference_frame m ρ trivial,
  fun m ρ _ => Cert.Kernel9.Gen.frame m ρ,
  fun m ρ _ => Cert.Kernel9Ideal.Gen.frame m ρ,
  fun m ρ _ => Cert.InGrad.reference_frame m ρ trivial,
  fun m ρ _ => Cert.Kernel10.Gen.frame m ρ,
  fun m ρ _ => Cert.Kernel10Ideal.Gen.frame m ρ,
  fun m ρ _ => Cert.InputGrad.reference_frame m ρ trivial,
  fun m ρ _ => Cert.Kernel5.Gen.frame m ρ,
  fun m ρ _ => Cert.Kernel5Ideal.Gen.frame m ρ,
  fun m ρ _ => Cert.Kernel5Ideal.Gen.frame m ρ,
  fun m ρ _ => Cert.NormGrad.reference_frame m ρ trivial,
  fun m ρ _ => Cert.NormGrad.reference_frame m ρ trivial,
  fun m ρ _ => Cert.Kernel6.Gen.frame m ρ,
  fun m ρ _ => Cert.Kernel6Ideal.Gen.frame m ρ,
  fun m ρ _ => Cert.Kernel6Ideal.Gen.frame m ρ,
  fun m ρ _ => Cert.LossHead.reference_frame m ρ trivial,
  fun m ρ _ => Cert.LossHead.reference_frame m ρ trivial,
  fun m ρ _ => Cert.Kernel11.Gen.frame m ρ,
  fun m ρ _ => Cert.Kernel11Ideal.Gen.frame m ρ,
  fun m ρ _ => Cert.FfnDown.reference_frame m ρ trivial,
  fun m ρ _ => Cert.Kernel12.Gen.frame m ρ,
  fun m ρ _ => Cert.Kernel12Ideal.Gen.frame m ρ,
  fun m ρ _ => Cert.OutProj.reference_frame m ρ trivial,
  fun m ρ _ => Cert.Kernel13.Gen.frame m ρ,
  fun m ρ _ => Cert.Kernel13Ideal.Gen.frame m ρ,
  fun m ρ _ => Cert.SwigluForward.reference_frame m ρ trivial,
  fun m ρ _ => Cert.Kernel15.Gen.frame m ρ,
  fun m ρ _ => Cert.Kernel15Ideal.Gen.frame m ρ,
  fun m ρ _ => Cert.InProj.reference_frame m ρ trivial,
  fun m ρ _ => Cert.Kernel14.Gen.frame m ρ,
  fun m ρ _ => Cert.Kernel14Ideal.Gen.frame m ρ,
  fun m ρ _ => Cert.NormForward.reference_frame m ρ trivial,
  fun m ρ _ => Cert.Kernel17.Gen.frame m ρ,
  fun m ρ _ => Cert.Kernel17Ideal.Gen.frame m ρ,
  fun m ρ _ => Cert.AdamwDown.reference_frame m ρ trivial,
  fun m ρ _ => Cert.Kernel18.Gen.frame m ρ,
  fun m ρ _ => Cert.Kernel18Ideal.Gen.frame m ρ,
  fun m ρ _ => Cert.AdamwOut.reference_frame m ρ trivial,
  fun m ρ _ => Cert.Kernel19.Gen.frame m ρ,
  fun m ρ _ => Cert.Kernel19Ideal.Gen.frame m ρ,
  fun m ρ _ => Cert.AdamwIn.reference_frame m ρ trivial,
  fun m ρ _ => Cert.Kernel20.Gen.frame m ρ,
  fun m ρ _ => Cert.Kernel20Ideal.Gen.frame m ρ,
  fun m ρ _ => Cert.Kernel20Ideal.Gen.frame m ρ,
  fun m ρ _ => Cert.MixGrad.reference_frame m ρ trivial,
  fun m ρ _ => Cert.MixGrad.reference_frame m ρ trivial,
  fun m ρ _ => Cert.Kernel21.Gen.frame m ρ,
  fun m ρ _ => Cert.Kernel21Ideal.Gen.frame m ρ,
  fun m ρ _ => Cert.Kernel21Ideal.Gen.frame m ρ,
  fun m ρ _ => Cert.GateGrad.reference_frame m ρ trivial,
  fun m ρ _ => Cert.GateGrad.reference_frame m ρ trivial,
  trivial,
  Cert.Swiglu.algebraic,
  trivial,
  trivial,
  Cert.WeightGrad.algebraic,
  trivial,
  Cert.PairGrad.algebraic,
  trivial,
  Cert.OutGrad.algebraic,
  trivial,
  Cert.MixedGrad.algebraic,
  trivial,
  Cert.InGrad.algebraic,
  trivial,
  Cert.InputGrad.algebraic,
  trivial,
  Cert.NormGrad.algebraic,
  trivial,
  Cert.LossHead.algebraic,
  trivial,
  Cert.FfnDown.algebraic,
  trivial,
  Cert.OutProj.algebraic,
  trivial,
  Cert.SwigluForward.algebraic,
  trivial,
  Cert.InProj.algebraic,
  trivial,
  Cert.NormForward.algebraic,
  trivial,
  Cert.AdamwDown.algebraic,
  trivial,
  Cert.AdamwOut.algebraic,
  trivial,
  Cert.AdamwIn.algebraic,
  trivial,
  Cert.MixGrad.algebraic,
  trivial,
  Cert.GateGrad.algebraic⟩

end Cert.Proof

end
